-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_y [hPre_finite_y : Cert.Pre_finite_y.Facts] (m : (ℓ : Loc Cert.KernelIdeal.nD Cert.KernelIdeal.τ Cert.KernelIdeal.sig) → Buf (Elt Ideal) ℓ) : Prop :=
  ∀ c : Dev Cert.KernelIdeal.nD,
    (Cert.Pre_finite_y.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_y [hPre_finite_y : Cert.Pre_finite_y.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_y.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_rk [hPre_finite_rk : Cert.Pre_finite_rk.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_rk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_rk [hPre_finite_rk : Cert.Pre_finite_rk.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_rk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_y [hKernelIdeal : Cert.KernelIdeal.Facts] [hPre_finite_y : Cert.Pre_finite_y.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_y m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_y [hReferenceIdeal : Cert.ReferenceIdeal.Facts] [hPre_finite_y : Cert.Pre_finite_y.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_y m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_rk [hKernel6Ideal : Cert.Kernel6Ideal.Facts] [hPre_finite_rk : Cert.Pre_finite_rk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_rk m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_rk [hReference6Ideal : Cert.Reference6Ideal.Facts] [hPre_finite_rk : Cert.Pre_finite_rk.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_rk m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite_y [hKernelIdeal : Cert.KernelIdeal.Facts] [hReferenceIdeal : Cert.ReferenceIdeal.Facts] [hPre_finite_y : Cert.Pre_finite_y.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_y m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_rk [hKernel6Ideal : Cert.Kernel6Ideal.Facts] [hReference6Ideal : Cert.Reference6Ideal.Facts] [hPre_finite_rk : Cert.Pre_finite_rk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_rk m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)) (v3 : (c : Dev Cert.Kernel6Ideal.nD) → Buf (Elt Ideal) ((c.tc : Thread Cert.Kernel6Ideal.nD Cert.Kernel6Ideal.τ).loc Cert.Kernel6Ideal.main_v25_3)) (v4 : (c : Dev Cert.Kernel6Ideal.nD) → Buf (Elt Ideal) ((c.tc : Thread Cert.Kernel6Ideal.nD Cert.Kernel6Ideal.τ).loc Cert.Kernel6Ideal.main_v25_4)) (v5 : (c : Dev Cert.Kernel6Ideal.nD) → Buf (Elt Ideal) ((c.tc : Thread Cert.Kernel6Ideal.nD Cert.Kernel6Ideal.τ).loc Cert.Kernel6Ideal.main_v25_5)) (v6 : (c : Dev Cert.Kernel6Ideal.nD) → Buf (Elt Ideal) ((c.tc : Thread Cert.Kernel6Ideal.nD Cert.Kernel6Ideal.τ).loc Cert.Kernel6Ideal.main_v25_6)) (v7 : (c : Dev Cert.Kernel6Ideal.nD) → Buf (Elt Ideal) ((c.tc : Thread Cert.Kernel6Ideal.nD Cert.Kernel6Ideal.τ).loc Cert.Kernel6Ideal.main_v25_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_v25_3) = v3 c
          ∧ r.2.mem ((c.tc : Thread Cert.Kernel6Ideal.nD Cert.Kernel6Ideal.τ).loc Cert.Kernel6Ideal.main_v25_4) = v4 c
          ∧ r.2.mem ((c.tc : Thread Cert.Kernel6Ideal.nD Cert.Kernel6Ideal.τ).loc Cert.Kernel6Ideal.main_v25_5) = v5 c
          ∧ r.2.mem ((c.tc : Thread Cert.Kernel6Ideal.nD Cert.Kernel6Ideal.τ).loc Cert.Kernel6Ideal.main_v25_6) = v6 c
          ∧ r.2.mem ((c.tc : Thread Cert.Kernel6Ideal.nD Cert.Kernel6Ideal.τ).loc Cert.Kernel6Ideal.main_v25_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v89) = v0 c
          ∧ r.2.mem ((c.tc : Thread Cert.Reference6Ideal.nD Cert.Reference6Ideal.τ).loc Cert.Reference6Ideal.main_v91) = v1 c
          ∧ r.2.mem ((c.tc : Thread Cert.Reference6Ideal.nD Cert.Reference6Ideal.τ).loc Cert.Reference6Ideal.main_v93) = v2 c
          ∧ r.2.mem ((c.tc : Thread Cert.Reference6Ideal.nD Cert.Reference6Ideal.τ).loc Cert.Reference6Ideal.main_v95) = v3 c
          ∧ r.2.mem ((c.tc : Thread Cert.Reference6Ideal.nD Cert.Reference6Ideal.τ).loc Cert.Reference6Ideal.main_v98) = v4 c
          ∧ r.2.mem ((c.tc : Thread Cert.Reference6Ideal.nD Cert.Reference6Ideal.τ).loc Cert.Reference6Ideal.main_v99) = v5 c
          ∧ r.2.mem ((c.tc : Thread Cert.Reference6Ideal.nD Cert.Reference6Ideal.τ).loc Cert.Reference6Ideal.main_v101) = v6 c
          ∧ r.2.mem ((c.tc : Thread Cert.Reference6Ideal.nD Cert.Reference6Ideal.τ).loc Cert.Reference6Ideal.main_v103) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_y : Cert.Pre_finite_y.Facts) (hPre_finite_rk : Cert.Pre_finite_rk.Facts),
    quiescent_Kernel (hKernel := hKernel)
    ∧ quiescent_KernelIdeal (hKernelIdeal := hKernelIdeal)
    ∧ quiescent_KernelIdeal_pre_finite_y (hKernelIdeal := hKernelIdeal) (hPre_finite_y := hPre_finite_y)
    ∧ quiescent_ReferenceIdeal (hReferenceIdeal := hReferenceIdeal)
    ∧ quiescent_ReferenceIdeal_pre_finite_y (hReferenceIdeal := hReferenceIdeal) (hPre_finite_y := hPre_finite_y)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_rk (hKernel6Ideal := hKernel6Ideal) (hPre_finite_rk := hPre_finite_rk)
    ∧ quiescent_Reference6Ideal (hReference6Ideal := hReference6Ideal)
    ∧ quiescent_Reference6Ideal_pre_finite_rk (hReference6Ideal := hReference6Ideal) (hPre_finite_rk := hPre_finite_rk)
    ∧ preserves_Kernel_KernelIdeal
    ∧ algebraic_KernelIdeal_ReferenceIdeal_pre_finite_y (hKernelIdeal := hKernelIdeal) (hReferenceIdeal := hReferenceIdeal) (hPre_finite_y := hPre_finite_y)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_rk (hKernel6Ideal := hKernel6Ideal) (hReference6Ideal := hReference6Ideal) (hPre_finite_rk := hPre_finite_rk)
-- ==== Pre_finite_rk.lean ====
abbrev S8192x12800 : Shape := ⟨2, ![8192, 12800]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S8192x4096 : Shape := ⟨2, ![8192, 4096]⟩
abbrev S_ : Shape := ⟨0, ![]⟩
abbrev S1x4096 : Shape := ⟨2, ![1, 4096]⟩

class Facts : Prop where
  slices_S8192x12800_S8192x4096_0_0 : S8192x12800.Slices ![0, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S1x6592_S1x4096_0_0 : S1x6592.Slices ![0, 0] S1x4096
  bcast_S_S1x4096 : S_.BroadcastsInDim S1x4096 (![] : Fin 0 → Fin S1x4096.rank)
  reducesTo_S1x4096_S_d0_1 : S1x4096.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg9 : FVec F S1x2048 .f32) (main_v10 : IVec S_ 1) (main_v14 : IVec S_ 1) (main_v15 : FVec F S1x2048 .f32) (main_v16 : FVec F S1x2048 .f32) : IVec S_ 1 :=
  let main_v17 : IVec S1x2048 1 := cmpf .olt main_v15 main_v16
  let main_c_5 : IVec S_ 1 := constantI S_ 1 1#1
  let main_v18 : IVec S_ 1 := (fun x v => Host.reduce IntOp.andi x v reducesTo_S1x2048_S_d0_1 h_S_) main_v17 main_c_5
  let main_v19 : FVec F S1x2048 .f32 := Host.absf main_arg9
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : IVec S_ 1 := andi main_v14 main_v23
  let main_v25 : IVec S_ 1 := andi main_v10 main_v24
  main_v25

def fn {F : FTy → Type} [FloatOps F] (main_arg0 : FVec F S8192x12800 .f32) (main_arg1 : FVec F S1x6592 .f32) (main_arg2 : FVec F S1x2048 .f32) (main_arg3 : FVec F S1x96x2048 .f32) (main_arg4 : FVec F S1x2048 .f32) (main_arg5 : FVec F S1x96x2048 .f32) (main_arg6 : FVec F S1x256x2048 .f32) (main_arg7 : FVec F S1x2048 .f32) (main_arg8 : FVec F S1x2048 .f32) (main_arg9 : FVec F S1x2048 .f32) : IVec S_ 1 :=
  let main_v0 : FVec F S8192x4096 .f32 := (extractStridedSlice S8192x4096 ![0, 0] · slices_S8192x12800_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S1x4096 .f32 := (extractStridedSlice S1x4096 ![0, 0] · slices_S1x6592_S1x4096_0_0) main_arg1
  let main_v6 : FVec F S1x4096 .f32 := Host.absf main_v5
  let main_cst_0 : FVec F S_ .f32 := constant S_ .f32 0x7F800000#32
  let main_v7 : FVec F S1x4096 .f32 := broadcastInDim S1x4096 ![] bcast_S_S1x4096 main_cst_0
  let main_v8 : IVec S1x4096 1 := cmpf .olt main_v6 main_v7
  let main_c_1 : IVec S_ 1 := constantI S_ 1 1#1
  let main_v9 : IVec S_ 1 := (fun x v => Host.reduce IntOp.andi x v reducesTo_S1x4096_S_d0_1 h_S_) main_v8 main_c_1
  let main_v10 : IVec S_ 1 := andi main_v4 main_v9
  let main_v11 : FVec F S1x2048 .f32 := Host.absf main_arg7
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  let main_c_3 : IVec S_ 1 := constantI S_ 1 1#1
  let main_v14 : IVec S_ 1 := (fun x v => Host.reduce IntOp.andi x v reducesTo_S1x2048_S_d0_1 h_S_) main_v13 main_c_3
  let main_v15 : FVec F S1x2048 .f32 := Host.absf main_arg8
  let main_cst_4 : FVec F S_ .f32 := constant S_ .f32 0x7F800000#32
  let main_v16 : FVec F S1x2048 .f32 := broadcastInDim S1x2048 ![] bcast_S_S1x2048 main_cst_4
  fn_part1 (F := F) main_arg9 main_v10 main_v14 main_v15 main_v16
-- ==== Pre_finite_y.lean ====
abbrev S8192x2048 : Shape := ⟨2, ![8192, 2048]⟩
abbrev S1x2048 : Shape := ⟨2, ![1, 2048]⟩
abbrev S8192x12800 : Shape := ⟨2, ![8192, 12800]⟩
abbrev S1x2048x3 : Shape := ⟨3, ![1, 2048, 3]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .bf16) (main_arg2 : FVec F S8192x2048 .bf16) (main_arg3 : FVec F S1x2048 .f32) (main_arg4 : FVec F S1x2048 .f32) (main_arg5 : FVec F S8192x12800 .f32) (main_arg6 : FVec F S1x2048x3 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Kernel.lean ====
abbrev S8192x2048 : Shape := ⟨2, ![8192, 2048]⟩
abbrev S1x2048 : Shape := ⟨2, ![1, 2048]⟩
abbrev S8192x12800 : Shape := ⟨2, ![8192, 12800]⟩
abbrev S1x2048x3 : Shape := ⟨3, ![1, 2048, 3]⟩
abbrev S2048 : Shape := ⟨1, ![2048]⟩
abbrev S2048x3 : Shape := ⟨2, ![2048, 3]⟩
abbrev S3x2048 : Shape := ⟨2, ![3, 2048]⟩
abbrev S_ : Shape := ⟨0, ![]⟩
abbrev S8x2176 : Shape := ⟨2, ![8, 2176]⟩
abbrev S8192x4096 : Shape := ⟨2, ![8192, 4096]⟩
abbrev S128x2048 : Shape := ⟨2, ![128, 2048]⟩
abbrev S128x2176 : Shape := ⟨2, ![128, 2176]⟩
abbrev S128x4096 : Shape := ⟨2, ![128, 4096]⟩
abbrev S128x128 : Shape := ⟨2, ![128, 128]⟩
abbrev S1x2176 : Shape := ⟨2, ![1, 2176]⟩

abbrev nBuf : Space → Nat
  | .hbm => 17
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8192x12800, .f32⟩
  | .hbm, ⟨6, _⟩ => ⟨S1x2048x3, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048x3, .f32⟩
  | .hbm, ⟨12, _⟩ => ⟨S3x2048, .f32⟩
  | .hbm, ⟨13, _⟩ => ⟨S_, .i32⟩
  | .hbm, ⟨14, _⟩ => ⟨S_, .f32⟩
  | .hbm, ⟨15, _⟩ => ⟨S8x2176, .f32⟩
  | .hbm, ⟨16, _⟩ => ⟨S8192x4096, .bf16⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S1x2048, .f32⟩
  | .local _ .vmem, ⟨8, _⟩ => ⟨S128x2176, .f32⟩
  | .local _ .vmem, ⟨9, _⟩ => ⟨S128x2176, .f32⟩
  | .local _ .vmem, ⟨10, _⟩ => ⟨S128x2176, .f32⟩
  | .local _ .vmem, ⟨11, _⟩ => ⟨S128x2176, .f32⟩
  | .local _ .vmem, ⟨12, _⟩ => ⟨S128x2176, .f32⟩
  | .local _ .vmem, ⟨13, _⟩ => ⟨S128x2176, .f32⟩
  | .local _ .vmem, ⟨14, _⟩ => ⟨S8x2176, .f32⟩
  | .local _ .vmem, ⟨15, _⟩ => ⟨S8x2176, .f32⟩
  | .local _ .vmem, ⟨16, _⟩ => ⟨S8x2176, .f32⟩
  | .local _ .vmem, ⟨17, _⟩ => ⟨S8x2176, .f32⟩
  | .local _ .vmem, ⟨18, _⟩ => ⟨S8x2176, .f32⟩
  | .local _ .vmem, ⟨19, _⟩ => ⟨S128x4096, .bf16⟩
  | .local _ .vmem, ⟨20, _⟩ => ⟨S128x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  let c8_i32 : BitVec 32 := 8#32
  let v1 : BitVec 32 := Scalar.subi v0 c8_i32
  let c0_i32 : BitVec 32 := 0#32
  let v2 : BitVec 32 := Scalar.maxsi v1 c0_i32
  v2
def k0_mult2 (i : grid0.Coords) : BitVec 32 :=
  let arg0 : BitVec 32 := BitVec.ofNat 32 (i 0).val
  let c128_i32 : BitVec 32 := 128#32
  let v0 : BitVec 32 := Scalar.muli arg0 c128_i32
  let c8_i32 : BitVec 32 := 8#32
  let v1 : BitVec 32 := Scalar.subi v0 c8_i32
  let c0_i32 : BitVec 32 := 0#32
  let v2 : BitVec 32 := Scalar.maxsi v1 c0_i32
  v2
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c128_i32 : BitVec 32 := 128#32
  let v0 : BitVec 32 := Scalar.muli arg0 c128_i32
  let c6528_i32 : BitVec 32 := 6528#32
  let c0_i32 : BitVec 32 := 0#32
  ![v0.toNat, c6528_i32.toNat]

def cc0_transform_6 (i : grid0.Coords) : Fin 2 → Nat :=
  let arg0 : BitVec 32 := BitVec.ofNat 32 (i 0).val
  let c128_i32 : BitVec 32 := 128#32
  let v0 : BitVec 32 := Scalar.muli arg0 c128_i32
  let c8576_i32 : BitVec 32 := 8576#32
  let c0_i32 : BitVec 32 := 0#32
  ![v0.toNat, c8576_i32.toNat]

def cc0_transform_7 (i : grid0.Coords) : Fin 2 → Nat :=
  let arg0 : BitVec 32 := BitVec.ofNat 32 (i 0).val
  let c128_i32 : BitVec 32 := 128#32
  let v0 : BitVec 32 := Scalar.muli arg0 c128_i32
  let c10624_i32 : BitVec 32 := 10624#32
  let c0_i32 : BitVec 32 := 0#32
  ![v0.toNat, c10624_i32.toNat]

def cc0_transform_8 (i : grid0.Coords) : Fin 2 → Nat :=
  let arg0 : BitVec 32 := BitVec.ofNat 32 (i 0).val
  let c128_i32 : BitVec 32 := 128#32
  let v0 : BitVec 32 := Scalar.muli arg0 c128_i32
  let c8_i32 : BitVec 32 := 8#32
  let v1 : BitVec 32 := Scalar.subi v0 c8_i32
  let c0_i32 : BitVec 32 := 0#32
  let v2 : BitVec 32 := Scalar.maxsi v1 c0_i32
  let v3 : BitVec 32 := v2
  let c8576_i32 : BitVec 32 := 8576#32
  let c0_i32_0 : BitVec 32 := 0#32
  ![v3.toNat, c8576_i32.toNat]

def cc0_transform_9 (i : grid0.Coords) : Fin 2 → Nat :=
  let arg0 : BitVec 32 := BitVec.ofNat 32 (i 0).val
  let c128_i32 : BitVec 32 := 128#32
  let v0 : BitVec 32 := Scalar.muli arg0 c128_i32
  let c8_i32 : BitVec 32 := 8#32
  let v1 : BitVec 32 := Scalar.subi v0 c8_i32
  let c0_i32 : BitVec 32 := 0#32
  let v2 : BitVec 32 := Scalar.maxsi v1 c0_i32
  let v3 : BitVec 32 := v2
  let c10624_i32 : BitVec 32 := 10624#32
  let c0_i32_0 : BitVec 32 := 0#32
  ![v3.toNat, c10624_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2176 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x2176 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2176 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x2048 : Shape := ⟨2, ![8192, 2048]⟩
abbrev S1x2048 : Shape := ⟨2, ![1, 2048]⟩
abbrev S8192x12800 : Shape := ⟨2, ![8192, 12800]⟩
abbrev S1x2048x3 : Shape := ⟨3, ![1, 2048, 3]⟩
abbrev S2x4096x32x64 : Shape := ⟨4, ![2, 4096, 32, 64]⟩
abbrev S_ : Shape := ⟨0, ![]⟩
abbrev S2x4096x32 : Shape := ⟨3, ![2, 4096, 32]⟩
abbrev S2x4096x32x1 : Shape := ⟨4, ![2, 4096, 32, 1]⟩
abbrev S2048 : Shape := ⟨1, ![2048]⟩
abbrev S32x64 : Shape := ⟨2, ![32, 64]⟩
abbrev S1x1x32x64 : Shape := ⟨4, ![1, 1, 32, 64]⟩
abbrev S2x4096x2048 : Shape := ⟨3, ![2, 4096, 2048]⟩
abbrev S8192x6144 : Shape := ⟨2, ![8192, 6144]⟩
abbrev S2x4096x6144 : Shape := ⟨3, ![2, 4096, 6144]⟩
abbrev S1x2048x1 : Shape := ⟨3, ![1, 2048, 1]⟩
abbrev S2x4098x2048 : Shape := ⟨3, ![2, 4098, 2048]⟩
abbrev S1x1x2048 : Shape := ⟨3, ![1, 1, 2048]⟩
abbrev S2x4097x2048 : Shape := ⟨3, ![2, 4097, 2048]⟩
abbrev S2x4096x4096 : Shape := ⟨3, ![2, 4096, 4096]⟩
abbrev S8192x4096 : Shape := ⟨2, ![8192, 4096]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8192x12800, .f32⟩
  | .hbm, ⟨6, _⟩ => ⟨S1x2048x3, .f32⟩
  | .hbm, ⟨7, _⟩ => ⟨S2x4096x32x64, .f32⟩
  | .hbm, ⟨8, _⟩ => ⟨S_, .f32⟩
  | .hbm, ⟨9, _⟩ => ⟨S2x4096x32, .f32⟩
  | .hbm, ⟨10, _⟩ => ⟨S2x4096x32x1, .f32⟩
  | .hbm, ⟨11, _⟩ => ⟨S_, .f32⟩
  | .hbm, ⟨12, _⟩ => ⟨S2x4096x32x1, .f32⟩
  | .hbm, ⟨13, _⟩ => ⟨S2x4096x32x1, .f32⟩
  | .hbm, ⟨14, _⟩ => ⟨S2x4096x32x64, .f32⟩
  | .hbm, ⟨15, _⟩ => ⟨S2x4096x32x64, .f32⟩
  | .hbm, ⟨16, _⟩ => ⟨S2x4096x32x64, .f32⟩
  | .hbm, ⟨17, _⟩ => ⟨S_, .f32⟩
  | .hbm, ⟨18, _⟩ => ⟨S2x4096x32, .f32⟩
  | .hbm, ⟨19, _⟩ => ⟨S2x4096x32x1, .f32⟩
  | .hbm, ⟨20, _⟩ => ⟨S_, .f32⟩
  | .hbm, ⟨21, _⟩ => ⟨S2x4096x32x1, .f32⟩
  | .hbm, ⟨22, _⟩ => ⟨S2x4096x32x1, .f32⟩
  | .hbm, ⟨23, _⟩ => ⟨S2x4096x32x64, .f32⟩
  | .hbm, ⟨24, _⟩ => ⟨S2x4096x32x64, .f32⟩
  | .hbm, ⟨25, _⟩ => ⟨S_, .f32⟩
  | .hbm, ⟨26, _⟩ => ⟨S2x4096x32x1, .f32⟩
  | .hbm, ⟨27, _⟩ => ⟨S2x4096x32x1, .f32⟩
  | .hbm, ⟨28, _⟩ => ⟨S2x4096x32x1, .f32⟩
  | .hbm, ⟨29, _⟩ => ⟨S2x4096x32x64, .f32⟩
  | .hbm, ⟨30, _⟩ => ⟨S2x4096x32x64, .f32⟩
  | .hbm, ⟨31, _⟩ => ⟨S2048, .f32⟩
  | .hbm, ⟨32, _⟩ => ⟨S32x64, .f32⟩
  | .hbm, ⟨33, _⟩ => ⟨S1x1x32x64, .f32⟩
  | .hbm, ⟨34, _⟩ => ⟨S2x4096x32x64, .f32⟩
  | .hbm, ⟨35, _⟩ => ⟨S2x4096x32x64, .f32⟩
  | .hbm, ⟨36, _⟩ => ⟨S2048, .f32⟩
  | .hbm, ⟨37, _⟩ => ⟨S32x64, .f32⟩
  | .hbm, ⟨38, _⟩ => ⟨S1x1x32x64, .f32⟩
  | .hbm, ⟨39, _⟩ => ⟨S2x4096x32x64, .f32⟩
  | .hbm, ⟨40, _⟩ => ⟨S2x4096x32x64, .f32⟩
  | .hbm, ⟨41, _⟩ => ⟨S8192x2048, .f32⟩
  | .hbm, ⟨42, _⟩ => ⟨S2x4096x32x64, .f32⟩
  | .hbm, ⟨43, _⟩ => ⟨S2x4096x32x64, .f32⟩
  | .hbm, ⟨44, _⟩ => ⟨S2x4096x2048, .f32⟩
  | .hbm, ⟨45, _⟩ => ⟨S8192x2048, .f32⟩
  | .hbm, ⟨46, _⟩ => ⟨S2x4096x2048, .f32⟩
  | .hbm, ⟨47, _⟩ => ⟨S2x4096x2048, .f32⟩
  | .hbm, ⟨48, _⟩ => ⟨S8192x6144, .f32⟩
  | .hbm, ⟨49, _⟩ => ⟨S2x4096x6144, .f32⟩
  | .hbm, ⟨50, _⟩ => ⟨S2x4096x2048, .f32⟩
  | .hbm, ⟨51, _⟩ => ⟨S2x4096x2048, .f32⟩
  | .hbm, ⟨52, _⟩ => ⟨S2x4096x2048, .f32⟩
  | .hbm, ⟨53, _⟩ => ⟨S2x4096x2048, .f32⟩
  | .hbm, ⟨54, _⟩ => ⟨S1x2048x1, .f32⟩
  | .hbm, ⟨55, _⟩ => ⟨S2048, .f32⟩
  | .hbm, ⟨56, _⟩ => ⟨S_, .i32⟩
  | .hbm, ⟨57, _⟩ => ⟨S_, .f32⟩
  | .hbm, ⟨58, _⟩ => ⟨S2x4098x2048, .f32⟩
  | .hbm, ⟨59, _⟩ => ⟨S2x4096x2048, .f32⟩
  | .hbm, ⟨60, _⟩ => ⟨S1x1x2048, .f32⟩
  | .hbm, ⟨61, _⟩ => ⟨S2x4096x2048, .f32⟩
  | .hbm, ⟨62, _⟩ => ⟨S2x4096x2048, .f32⟩
  | .hbm, ⟨63, _⟩ => ⟨S_, .f32⟩
  | .hbm, ⟨64, _⟩ => ⟨S2x4096x2048, .f32⟩
  | .hbm, ⟨65, _⟩ => ⟨S2x4096x2048, .f32⟩
  | .hbm, ⟨66, _⟩ => ⟨S1x2048x1, .f32⟩
  | .hbm, ⟨67, _⟩ => ⟨S2048, .f32⟩
  | .hbm, ⟨68, _⟩ => ⟨S_, .i32⟩
  | .hbm, ⟨69, _⟩ => ⟨S_, .f32⟩
  | .hbm, ⟨70, _⟩ => ⟨S2x4097x2048, .f32⟩
  | .hbm, ⟨71, _⟩ => ⟨S2x4096x2048, .f32⟩
  | .hbm, ⟨72, _⟩ => ⟨S1x1x2048, .f32⟩
  | .hbm, ⟨73, _⟩ => ⟨S2x4096x2048, .f32⟩
  | .hbm, ⟨74, _⟩ => ⟨S2x4096x2048, .f32⟩
  | .hbm, ⟨75, _⟩ => ⟨S2x4096x2048, .f32⟩
  | .hbm, ⟨76, _⟩ => ⟨S1x2048x1, .f32⟩
  | .hbm, ⟨77, _⟩ => ⟨S2048, .f32⟩
  | .hbm, ⟨78, _⟩ => ⟨S_, .i32⟩
  | .hbm, ⟨79, _⟩ => ⟨S_, .f32⟩
  | .hbm, ⟨80, _⟩ => ⟨S2x4096x2048, .f32⟩
  | .hbm, ⟨81, _⟩ => ⟨S1x1x2048, .f32⟩
  | .hbm, ⟨82, _⟩ => ⟨S2x4096x2048, .f32⟩
  | .hbm, ⟨83, _⟩ => ⟨S2x4096x2048, .f32⟩
  | .hbm, ⟨84, _⟩ => ⟨S2x4096x2048, .f32⟩
  | .hbm, ⟨85, _⟩ => ⟨S2x4096x2048, .f32⟩
  | .hbm, ⟨86, _⟩ => ⟨S2x4096x4096, .f32⟩
  | .hbm, ⟨87, _⟩ => ⟨S8192x4096, .f32⟩
  | .hbm, ⟨88, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call0_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_5 : Ref sig .tc := ⟨.hbm, 68, rfl⟩
abbrev main_call1_v0 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_6 : Ref sig .tc := ⟨.hbm, 78, rfl⟩
abbrev main_call2_v0 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel2.lean ====
abbrev S2x4096x4096 : Shape := ⟨3, ![2, 4096, 4096]⟩
abbrev S1x4096 : Shape := ⟨2, ![1, 4096]⟩
abbrev S1x4096x12736 : Shape := ⟨3, ![1, 4096, 12736]⟩
abbrev S8192x4096 : Shape := ⟨2, ![8192, 4096]⟩
abbrev S4096 : Shape := ⟨1, ![4096]⟩
abbrev S1x12736x4096 : Shape := ⟨3, ![1, 12736, 4096]⟩
abbrev S8192x12800 : Shape := ⟨2, ![8192, 12800]⟩
abbrev S1x512x4096 : Shape := ⟨3, ![1, 512, 4096]⟩
abbrev S1024x4096 : Shape := ⟨2, ![1024, 4096]⟩
abbrev S1024x512 : Shape := ⟨2, ![1024, 512]⟩
abbrev S128x4096 : Shape := ⟨2, ![128, 4096]⟩
abbrev S128 : Shape := ⟨1, ![128]⟩
abbrev S128x1 : Shape := ⟨2, ![128, 1]⟩
abbrev S512x4096 : Shape := ⟨2, ![512, 4096]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x12736, .f32⟩
  | .hbm, ⟨3, _⟩ => ⟨S8192x4096, .f32⟩
  | .hbm, ⟨4, _⟩ => ⟨S4096, .f32⟩
  | .hbm, ⟨5, _⟩ => ⟨S1x12736x4096, .f32⟩
  | .hbm, ⟨6, _⟩ => ⟨S1x4096, .f32⟩
  | .hbm, ⟨7, _⟩ => ⟨S8192x12800, .f32⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1024x4096, .f32⟩
  | .local _ .vmem, ⟨4, _⟩ => ⟨S1024x512, .f32⟩
  | .local _ .vmem, ⟨5, _⟩ => ⟨S1024x512, .f32⟩
  | .local _ .vmem, ⟨6, _⟩ => ⟨S1024x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4096x4096 : Shape := ⟨3, ![2, 4096, 4096]⟩
abbrev S1x4096 : Shape := ⟨2, ![1, 4096]⟩
abbrev S1x4096x12736 : Shape := ⟨3, ![1, 4096, 12736]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x12736 : Shape := ⟨2, ![4096, 12736]⟩
abbrev S8192x12736 : Shape := ⟨2, ![8192, 12736]⟩
abbrev S8192x12800 : Shape := ⟨2, ![8192, 12800]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x12736, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S4096x12736, .f32⟩
  | .hbm, ⟨22, _⟩ => ⟨S8192x12736, .f32⟩
  | .hbm, ⟨23, _⟩ => ⟨S_, .i32⟩
  | .hbm, ⟨24, _⟩ => ⟨S_, .f32⟩
  | .hbm, ⟨25, _⟩ => ⟨S8192x12800, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel3.lean ====
abbrev S8192x4096 : Shape := ⟨2, ![8192, 4096]⟩
abbrev S4096x4096 : Shape := ⟨2, ![4096, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S1x4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x4096 : Shape := ⟨2, ![8192, 4096]⟩
abbrev S1x4096 : Shape := ⟨2, ![1, 4096]⟩
abbrev S4096x2048 : Shape := ⟨2, ![4096, 2048]⟩
abbrev S4096 : Shape := ⟨1, ![4096]⟩
abbrev S1x4096x2048 : Shape := ⟨3, ![1, 4096, 2048]⟩
abbrev S8192x2048 : Shape := ⟨2, ![8192, 2048]⟩
abbrev S1x4096x512 : Shape := ⟨3, ![1, 4096, 512]⟩
abbrev S1024x4096 : Shape := ⟨2, ![1024, 4096]⟩
abbrev S1024x512 : Shape := ⟨2, ![1024, 512]⟩
abbrev S128x4096 : Shape := ⟨2, ![128, 4096]⟩
abbrev S128 : Shape := ⟨1, ![128]⟩
abbrev S128x1 : Shape := ⟨2, ![128, 1]⟩
abbrev S4096x512 : Shape := ⟨2, ![4096, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x2048, .bf16⟩
  | .hbm, ⟨3, _⟩ => ⟨S4096, .f32⟩
  | .hbm, ⟨4, _⟩ => ⟨S1x4096x2048, .bf16⟩
  | .hbm, ⟨5, _⟩ => ⟨S1x4096, .f32⟩
  | .hbm, ⟨6, _⟩ => ⟨S8192x2048, .f32⟩
  | .hbm, ⟨7, _⟩ => ⟨S8192x4096, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096, .f32⟩
  | .local _ .vmem, ⟨3, _⟩ => ⟨S1024x4096, .f32⟩
  | .local _ .vmem, ⟨4, _⟩ => ⟨S1024x512, .f32⟩
  | .local _ .vmem, ⟨5, _⟩ => ⟨S1024x512, .f32⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_7 : BitVec 32 := 0#32
  let v8 : BitVec 1 := Scalar.cmpi .eq arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x4096 : Shape := ⟨2, ![8192, 4096]⟩
abbrev S1x4096 : Shape := ⟨2, ![1, 4096]⟩
abbrev S4096x2048 : Shape := ⟨2, ![4096, 2048]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x2048, .bf16⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S4096x2048, .f32⟩
  | .hbm, ⟨21, _⟩ => ⟨S8192x2048, .f32⟩
  | .hbm, ⟨22, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S8192x12800 : Shape := ⟨2, ![8192, 12800]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S6592 : Shape := ⟨1, ![6592]⟩
abbrev S448 : Shape := ⟨1, ![448]⟩
abbrev S_ : Shape := ⟨0, ![]⟩
abbrev S512 : Shape := ⟨1, ![512]⟩
abbrev S96x2048 : Shape := ⟨2, ![96, 2048]⟩
abbrev S512x2048 : Shape := ⟨2, ![512, 2048]⟩
abbrev S256x2048 : Shape := ⟨2, ![256, 2048]⟩
abbrev S6144 : Shape := ⟨1, ![6144]⟩
abbrev S1x6144 : Shape := ⟨2, ![1, 6144]⟩
abbrev S1x512 : Shape := ⟨2, ![1, 512]⟩
abbrev S2048 : Shape := ⟨1, ![2048]⟩
abbrev S8192x2048 : Shape := ⟨2, ![8192, 2048]⟩
abbrev S128x6144 : Shape := ⟨2, ![128, 6144]⟩
abbrev S128x512 : Shape := ⟨2, ![128, 512]⟩
abbrev S8x6144 : Shape := ⟨2, ![8, 6144]⟩
abbrev S8x512 : Shape := ⟨2, ![8, 512]⟩
abbrev S128x2048 : Shape := ⟨2, ![128, 2048]⟩
abbrev S128x128 : Shape := ⟨2, ![128, 128]⟩

abbrev nBuf : Space → Nat
  | .hbm => 51
  | .vmem => 34
  | .smem => 0
  | _ => 0

abbrev bufTy : (tb : Table) → Fin (tcTables nBuf tb) → BufTy
  | .hbm, ⟨0, _⟩ => ⟨S8192x12800, .f32⟩
  | .hbm, ⟨1, _⟩ => ⟨S1x6592, .f32⟩
  | .hbm, ⟨2, _⟩ => ⟨S1x2048, .f32⟩
  | .hbm, ⟨3, _⟩ => ⟨S1x96x2048, .f32⟩
  | .hbm, ⟨4, _⟩ => ⟨S1x2048, .f32⟩
  | .hbm, ⟨5, _⟩ => ⟨S1x96x2048, .f32⟩
  | .hbm, ⟨6, _⟩ => ⟨S1x256x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S6592, .f32⟩
  | .hbm, ⟨11, _⟩ => ⟨S448, .f32⟩
  | .hbm, ⟨12, _⟩ => ⟨S_, .i32⟩
  | .hbm, ⟨13, _⟩ => ⟨S_, .f32⟩
  | .hbm, ⟨14, _⟩ => ⟨S512, .f32⟩
  | .hbm, ⟨15, _⟩ => ⟨S96x2048, .f32⟩
  | .hbm, ⟨16, _⟩ => ⟨S_, .i32⟩
  | .hbm, ⟨17, _⟩ => ⟨S_, .f32⟩
  | .hbm, ⟨18, _⟩ => ⟨S512x2048, .f32⟩
  | .hbm, ⟨19, _⟩ => ⟨S512x2048, .bf16⟩
  | .hbm, ⟨20, _⟩ => ⟨S96x2048, .f32⟩
  | .hbm, ⟨21, _⟩ => ⟨S_, .i32⟩
  | .hbm, ⟨22, _⟩ => ⟨S_, .f32⟩
  | .hbm, ⟨23, _⟩ => ⟨S512x2048, .f32⟩
  | .hbm, ⟨24, _⟩ => ⟨S512x2048, .bf16⟩
  | .hbm, ⟨25, _⟩ => ⟨S256x2048, .f32⟩
  | .hbm, ⟨26, _⟩ => ⟨S_, .i32⟩
  | .hbm, ⟨27, _⟩ => ⟨S_, .f32⟩
  | .hbm, ⟨28, _⟩ => ⟨S512x2048, .f32⟩
  | .hbm, ⟨29, _⟩ => ⟨S512x2048, .bf16⟩
  | .hbm, ⟨30, _⟩ => ⟨S6144, .f32⟩
  | .hbm, ⟨31, _⟩ => ⟨S1x6144, .f32⟩
  | .hbm, ⟨32, _⟩ => ⟨S1x512, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S8192x2048, .bf16⟩
  | .hbm, ⟨44, _⟩ => ⟨S8192x2048, .bf16⟩
  | .hbm, ⟨45, _⟩ => ⟨S8192x2048, .bf16⟩
  | .hbm, ⟨46, _⟩ => ⟨S8192x2048, .bf16⟩
  | .hbm, ⟨47, _⟩ => ⟨S8192x2048, .bf16⟩
  | .hbm, ⟨48, _⟩ => ⟨S8192x2048, .f32⟩
  | .hbm, ⟨49, _⟩ => ⟨S8192x2048, .bf16⟩
  | .hbm, ⟨50, _⟩ => ⟨S8192x2048, .bf16⟩
  | .local _ .vmem, ⟨0, _⟩ => ⟨S128x6144, .f32⟩
  | .local _ .vmem, ⟨1, _⟩ => ⟨S128x6144, .f32⟩
  | .local _ .vmem, ⟨2, _⟩ => ⟨S128x512, .f32⟩
  | .local _ .vmem, ⟨3, _⟩ => ⟨S128x512, .f32⟩
  | .local _ .vmem, ⟨4, _⟩ => ⟨S8x6144, .f32⟩
  | .local _ .vmem, ⟨5, _⟩ => ⟨S8x6144, .f32⟩
  | .local _ .vmem, ⟨6, _⟩ => ⟨S8x512, .f32⟩
  | .local _ .vmem, ⟨7, _⟩ => ⟨S8x512, .f32⟩
  | .local _ .vmem, ⟨8, _⟩ => ⟨S1x6144, .f32⟩
  | .local _ .vmem, ⟨9, _⟩ => ⟨S1x512, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S128x2048, .bf16⟩
  | .local _ .vmem, ⟨26, _⟩ => ⟨S128x2048, .bf16⟩
  | .local _ .vmem, ⟨27, _⟩ => ⟨S128x2048, .bf16⟩
  | .local _ .vmem, ⟨28, _⟩ => ⟨S128x2048, .f32⟩
  | .local _ .vmem, ⟨29, _⟩ => ⟨S128x2048, .f32⟩
  | .local _ .vmem, ⟨30, _⟩ => ⟨S128x2048, .bf16⟩
  | .local _ .vmem, ⟨31, _⟩ => ⟨S128x2048, .bf16⟩
  | .local _ .vmem, ⟨32, _⟩ => ⟨S128x2048, .bf16⟩
  | .local _ .vmem, ⟨33, _⟩ => ⟨S128x2048, .bf16⟩
  | _, _ => ⟨S8192x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_call3_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_v25_3 : Ref sig .tc := ⟨.hbm, 46, rfl⟩
abbrev main_v25_4 : Ref sig .tc := ⟨.hbm, 47, rfl⟩
abbrev main_v25_5 : Ref sig .tc := ⟨.hbm, 48, rfl⟩
abbrev main_v25_6 : Ref sig .tc := ⟨.hbm, 49, rfl⟩
abbrev main_v25_7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![v2.toNat, c12_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference6Ideal.lean ====
abbrev S8192x12800 : Shape := ⟨2, ![8192, 12800]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S8192x6592 : Shape := ⟨2, ![8192, 6592]⟩
abbrev S2x4096x6592 : Shape := ⟨3, ![2, 4096, 6592]⟩
abbrev S_ : Shape := ⟨0, ![]⟩
abbrev S2x4097x6592 : Shape := ⟨3, ![2, 4097, 6592]⟩
abbrev S6592 : Shape := ⟨1, ![6592]⟩
abbrev S1x1x6592 : Shape := ⟨3, ![1, 1, 6592]⟩
abbrev S2x4096x2048 : Shape := ⟨3, ![2, 4096, 2048]⟩
abbrev S2x4096x96 : Shape := ⟨3, ![2, 4096, 96]⟩
abbrev S2x4096x256 : Shape := ⟨3, ![2, 4096, 256]⟩
abbrev S2048 : Shape := ⟨1, ![2048]⟩
abbrev S96x2048 : Shape := ⟨2, ![96, 2048]⟩
abbrev S1x1x2048 : Shape := ⟨3, ![1, 1, 2048]⟩
abbrev S256x2048 : Shape := ⟨2, ![256, 2048]⟩
abbrev S2x4096x32x64 : Shape := ⟨4, ![2, 4096, 32, 64]⟩
abbrev S32x64 : Shape := ⟨2, ![32, 64]⟩
abbrev S1x1x32x64 : Shape := ⟨4, ![1, 1, 32, 64]⟩
abbrev S2x4096x32 : Shape := ⟨3, ![2, 4096, 32]⟩
abbrev S2x4096x32x1 : Shape := ⟨4, ![2, 4096, 32, 1]⟩
abbrev S8192x2048 : Shape := ⟨2, ![8192, 2048]⟩

abbrev nBuf : Space → Nat
  | .hbm => 139
  | .vmem => 0
  | .smem => 0
  | _ => 0

abbrev hbmTy0_0 (i : Nat) : BufTy := match i % 128 with
  | 0 => ⟨S8192x12800, .f32⟩
  | 1 => ⟨S1x6592, .f32⟩
  | 2 => ⟨S1x2048, .f32⟩
  | 3 => ⟨S1x96x2048, .f32⟩
  | 4 => ⟨S1x2048, .f32⟩
  | 5 => ⟨S1x96x2048, .f32⟩
  | 6 => ⟨S1x256x2048, .f32⟩
  | 7 => ⟨S1x2048, .f32⟩
  | 8 => ⟨S1x2048, .f32⟩
  | 9 => ⟨S1x2048, .f32⟩
  | 10 => ⟨S8192x6592, .f32⟩
  | 11 => ⟨S2x4096x6592, .f32⟩
  | 12 => ⟨S_, .i32⟩
  | 13 => ⟨S_, .f32⟩
  | 14 => ⟨S2x4097x6592, .f32⟩
  | 15 => ⟨S2x4096x6592, .f32⟩
  | 16 => ⟨S2x4096x6592, .f32⟩
  | 17 => ⟨S6592, .f32⟩
  | 18 => ⟨S1x1x6592, .f32⟩
  | 19 => ⟨S2x4096x6592, .f32⟩
  | 20 => ⟨S2x4096x6592, .f32⟩
  | 21 => ⟨S2x4096x6592, .f32⟩
  | 22 => ⟨S2x4096x2048, .f32⟩
  | 23 => ⟨S2x4096x2048, .f32⟩
  | 24 => ⟨S2x4096x2048, .f32⟩
  | 25 => ⟨S2x4096x96, .f32⟩
  | 26 => ⟨S2x4096x96, .f32⟩
  | 27 => ⟨S2x4096x256, .f32⟩
  | 28 => ⟨S2048, .f32⟩
  | 29 => ⟨S2x4096x96, .f32⟩
  | 30 => ⟨S96x2048, .f32⟩
  | 31 => ⟨S2x4096x2048, .f32⟩
  | 32 => ⟨S1x1x2048, .f32⟩
  | 33 => ⟨S2x4096x2048, .f32⟩
  | 34 => ⟨S2x4096x2048, .f32⟩
  | 35 => ⟨S2x4096x2048, .f32⟩
  | 36 => ⟨S_, .f32⟩
  | 37 => ⟨S2x4096x2048, .f32⟩
  | 38 => ⟨S2x4096x2048, .f32⟩
  | 39 => ⟨S2x4096x2048, .f32⟩
  | 40 => ⟨S2x4096x2048, .f32⟩
  | 41 => ⟨S2x4096x2048, .i1⟩
  | 42 => ⟨S2x4096x2048, .f32⟩
  | 43 => ⟨S2x4096x2048, .f32⟩
  | 44 => ⟨S2x4096x2048, .f32⟩
  | 45 => ⟨S2x4096x2048, .f32⟩
  | 46 => ⟨S2x4096x2048, .f32⟩
  | 47 => ⟨S2x4096x2048, .f32⟩
  | 48 => ⟨S2x4096x2048, .f32⟩
  | 49 => ⟨S2x4096x2048, .f32⟩
  | 50 => ⟨S2x4096x2048, .f32⟩
  | 51 => ⟨S_, .f32⟩
  | 52 => ⟨S2x4096x2048, .f32⟩
  | 53 => ⟨S2x4096x2048, .f32⟩
  | 54 => ⟨S2x4096x2048, .f32⟩
  | 55 => ⟨S2x4096x2048, .f32⟩
  | 56 => ⟨S2048, .f32⟩
  | 57 => ⟨S96x2048, .f32⟩
  | 58 => ⟨S2x4096x2048, .f32⟩
  | 59 => ⟨S1x1x2048, .f32⟩
  | 60 => ⟨S2x4096x2048, .f32⟩
  | 61 => ⟨S2x4096x2048, .f32⟩
  | 62 => ⟨S2x4096x2048, .f32⟩
  | 63 => ⟨S2x4096x2048, .f32⟩
  | 64 => ⟨S_, .f32⟩
  | 65 => ⟨S2x4096x2048, .f32⟩
  | 66 => ⟨S2x4096x2048, .f32⟩
  | 67 => ⟨S_, .f32⟩
  | 68 => ⟨S2x4096x2048, .f32⟩
  | 69 => ⟨S2x4096x2048, .f32⟩
  | 70 => ⟨S2x4096x256, .f32⟩
  | 71 => ⟨S2x4096x256, .f32⟩
  | 72 => ⟨S_, .f32⟩
  | 73 => ⟨S2x4096x256, .f32⟩
  | 74 => ⟨S2x4096x256, .f32⟩
  | 75 => ⟨S_, .f32⟩
  | 76 => ⟨S2x4096x256, .f32⟩
  | 77 => ⟨S2x4096x256, .f32⟩
  | 78 => ⟨S256x2048, .f32⟩
  | 79 => ⟨S2x4096x2048, .f32⟩
  | 80 => ⟨S2x4096x32x64, .f32⟩
  | 81 => ⟨S2x4096x32x64, .f32⟩
  | 82 => ⟨S2x4096x32x64, .f32⟩
  | 83 => ⟨S2x4096x32x64, .f32⟩
  | 84 => ⟨S2x4096x32x64, .f32⟩
  | 85 => ⟨S2048, .f32⟩
  | 86 => ⟨S32x64, .f32⟩
  | 87 => ⟨S1x1x32x64, .f32⟩
  | 88 => ⟨S2x4096x32x64, .f32⟩
  | 89 => ⟨S2x4096x32x64, .f32⟩
  | 90 => ⟨S2x4096x32x64, .f32⟩
  | 91 => ⟨S_, .f32⟩
  | 92 => ⟨S2x4096x32, .f32⟩
  | 93 => ⟨S2x4096x32x1, .f32⟩
  | 94 => ⟨S_, .f32⟩
  | 95 => ⟨S2x4096x32x1, .f32⟩
  | 96 => ⟨S2x4096x32x1, .f32⟩
  | 97 => ⟨S2x4096x32x1, .f32⟩
  | 98 => ⟨S2x4096x32x64, .f32⟩
  | 99 => ⟨S2x4096x32x64, .f32⟩
  | 100 => ⟨S_, .f32⟩
  | 101 => ⟨S2x4096x32x64, .f32⟩
  | 102 => ⟨S2x4096x32x64, .f32⟩
  | 103 => ⟨S2048, .f32⟩
  | 104 => ⟨S32x64, .f32⟩
  | 105 => ⟨S1x1x32x64, .f32⟩
  | 106 => ⟨S2x4096x32x64, .f32⟩
  | 107 => ⟨S2x4096x32x64, .f32⟩
  | 108 => ⟨S_, .f32⟩
  | 109 => ⟨S2x4096x32x64, .f32⟩
  | 110 => ⟨S2x4096x32x64, .f32⟩
  | 111 => ⟨S2x4096x32x64, .f32⟩
  | 112 => ⟨S2x4096x32x64, .f32⟩
  | 113 => ⟨S2048, .f32⟩
  | 114 => ⟨S32x64, .f32⟩
  | 115 => ⟨S1x1x32x64, .f32⟩
  | 116 => ⟨S2x4096x32x64, .f32⟩
  | 117 => ⟨S2x4096x32x64, .f32⟩
  | 118 => ⟨S_, .f32⟩
  | 119 => ⟨S2x4096x32, .f32⟩
  | 120 => ⟨S2x4096x32x1, .f32⟩
  | 121 => ⟨S2x4096x32x64, .f32⟩
  | 122 => ⟨S2x4096x32x64, .f32⟩
  | 123 => ⟨S8192x2048, .f32⟩
  | 124 => ⟨S8192x2048, .bf16⟩
  | 125 => ⟨S8192x2048, .f32⟩
  | 126 => ⟨S8192x2048, .bf16⟩
  | 127 => ⟨S8192x2048, .f32⟩
  | _ => ⟨S8192x12800, .f32⟩

abbrev hbmTy0_1 (i : Nat) : BufTy := match i % 128 with
  | 0 => ⟨S8192x2048, .bf16⟩
  | 1 => ⟨S8192x2048, .f32⟩
  | 2 => ⟨S8192x2048, .bf16⟩
  | 3 => ⟨S2x4096x32x64, .f32⟩
  | 4 => ⟨S8192x2048, .f32⟩
  | 5 => ⟨S8192x2048, .bf16⟩
  | 6 => ⟨S8192x2048, .f32⟩
  | 7 => ⟨S8192x2048, .f32⟩
  | 8 => ⟨S8192x2048, .bf16⟩
  | 9 => ⟨S8192x2048, .f32⟩
  | 10 => ⟨S8192x2048, .bf16⟩
  | _ => ⟨S8192x12800, .f32⟩

abbrev hbmTy (i : Nat) : BufTy := match i / 128 with
  | 0 => hbmTy0_0 i
  | 1 => hbmTy0_1 i
  | _ => ⟨S8192x12800, .f32⟩

abbrev bufTy : (tb : Table) → Fin (tcTables nBuf tb) → BufTy
  | .hbm, ⟨i, _⟩ => hbmTy i
  | _, _ => ⟨S8192x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_0 : Ref sig .tc := ⟨.hbm, 64, rfl⟩
abbrev main_v38 : Ref sig .tc := ⟨.hbm, 65, rfl⟩
abbrev main_v39 : Ref sig .tc := ⟨.hbm, 66, rfl⟩
abbrev main_cst_1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_2 : Ref sig .tc := ⟨.hbm, 72, rfl⟩
abbrev main_v44 : Ref sig .tc := ⟨.hbm, 73, rfl⟩
abbrev main_v45 : Ref sig .tc := ⟨.hbm, 74, rfl⟩
abbrev main_cst_3 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_4 : Ref sig .tc := ⟨.hbm, 91, rfl⟩
abbrev main_v61 : Ref sig .tc := ⟨.hbm, 92, rfl⟩
abbrev main_v62 : Ref sig .tc := ⟨.hbm, 93, rfl⟩
abbrev main_cst_5 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_6 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_8 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Proof.HeadSum.lean ====
/-
  The sum over each head's 64 lanes. The kernel gets it as a product with a 0/1 matrix, 128 lanes (two heads) at a time,
  the operand split in a rounded part and a remainder. Here: the matrix's entries, one chunk's product, and the sixteen
  chunks side by side.
-/
module

public import proofs.«01_k».proof.Proof.Gen.KernelIdeal.Frame
public import Idealize.ShloMosaic.Lib.Pipeline.Value
public import Idealize.ShloMosaic.Lib.MatmulPlain
public import Idealize.ShloMosaic.Lib.ValueLayout

@[expose] public section

noncomputable section

open Idealize.ShloMosaic Idealize.ShloMosaic.TcCoe Idealize.SL.Sem Idealize.ShloMosaic.ValueIdx

namespace Cert.HeadSum

open Cert.KernelIdeal Cert.KernelIdeal.Gen

variable {F : FTy → Type} [FloatOps F]

/-! ## The 0/1 matrix -/

/-- The head of a lane as the kernel computes it: the quotient by 64 rounded down, on words. -/
def headWord (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem headWord_eq : ∀ c : Fin 128, headWord (BitVec.ofNat 32 c.val) = BitVec.ofNat 32 (c.val / 64) := by
  decide +kernel

/-- The matrix: one where row and column are lanes of one head, zero elsewhere. -/
abbrev ones : FVec F S128x128 .bf16 := k0_pay4 k0_pay1 (iota .tc S128x128 32 [1] iota_S128x128_d1_w32) 64#32 k0_pay2 k0_pay3

theorem ones_apply (c n : Fin 128) :
    ones (F := Ideal) (ix2 c n) = if c.val / 64 = n.val / 64 then (1 : EReal) else 0 := by
  have e : ones (F := Ideal) (ix2 c n)
      = (((((IntOp.cmpi .eq (headWord (iota .tc S128x128 32 [0] iota_S128x128_d0_w32 (ix2 c n)))
          (headWord (iota .tc S128x128 32 [1] iota_S128x128_d1_w32 (ix2 c n)))).setWidth 32 : BitVec 32).toInt : ℝ) : EReal)) := rfl
  rw [e, iota_single_apply, iota_single_apply]
  show ((((IntOp.cmpi .eq (headWord (BitVec.ofNat 32 c.val)) (headWord (BitVec.ofNat 32 n.val))).setWidth 32 : BitVec 32).toInt : ℝ) : EReal) = _
  rw [headWord_eq, headWord_eq]
  have hc : c.val / 64 < 2 := by have := c.isLt; omega
  have hn : n.val / 64 < 2 := by have := n.isLt; omega
  generalize c.val / 64 = p at *
  generalize n.val / 64 = q at *
  have key : ∀ p q : Fin 2, ((IntOp.cmpi .eq (BitVec.ofNat 32 p.val) (BitVec.ofNat 32 q.val)).setWidth 32 : BitVec 32).toInt
      = if p.val = q.val then 1 else 0 := by decide +kernel
  rw [key ⟨p, hc⟩ ⟨q, hn⟩]
  by_cases h : p = q
  · simp [h]
  · simp [h]

/-! ## One chunk -/

theorem slices_chunk (k : Fin 16) : S128x2048.Slices ![0, 128 * k.val] S128x128 := by
  revert k; decide

/-- The product of chunk `k` of `v` with the matrix, by parts. -/
def chunk (v : FVec F S128x2048 .f32) (B : FVec F S128x128 .bf16) (k : Fin 16) : FVec F S128x128 .f32 :=
  let s := extractStridedSlice S128x128 ![0, 128 * k.val] v (slices_chunk k)
  addf (matmul dot_S128x128_S128x128_S128x128_1_0_0_1_n_n none (truncf .bf16 s bitsLt_bf16_f32) B (constant S128x128 .f32 0x00000000#32))
    (matmul dot_S128x128_S128x128_S128x128_1_0_0_1_n_n none
      (truncf .bf16 (subf s (extf .f32 (truncf .bf16 s bitsLt_bf16_f32) bitsLt_bf16_f32)) bitsLt_bf16_f32) B (constant S128x128 .f32 0x00000000#32))

/-- Lane `k` of the head that lane `n` belongs to. -/
abbrev lane (n : Fin 2048) (k : Fin 64) : Fin 2048 := ⟨n.val / 64 * 64 + k.val, by have := n.isLt; have := k.isLt; omega⟩

/-- A sum over 128 lanes that keeps the lanes of one head is the sum over that head's 64 lanes. -/
theorem sum_head (f : Fin 128 → EReal) (n : Fin 128) :
    ∑ c : Fin 128, f c * (if c.val / 64 = n.val / 64 then (1 : EReal) else 0)
      = ∑ k : Fin 64, f ⟨n.val / 64 * 64 + k.val, by have := n.isLt; have := k.isLt; omega⟩ := by
  have hn : n.val / 64 < 2 := by have := n.isLt; omega
  rw [← Equiv.sum_comp (finProdFinEquiv (m := 2) (n := 64)), Fintype.sum_prod_type,
    Finset.sum_eq_single (⟨n.val / 64, hn⟩ : Fin 2)]
  · refine Finset.sum_congr rfl fun k _ => ?_
    have hv : (finProdFinEquiv ((⟨n.val / 64, hn⟩ : Fin 2), k)).val = k.val + 64 * (n.val / 64) := rfl
    rw [if_pos (by rw [hv]; have := k.isLt; omega), mul_one]
    exact congrArg f (Fin.ext (by rw [hv]; show _ = n.val / 64 * 64 + k.val; omega))
  · intro b _ hb
    refine Finset.sum_eq_zero fun k _ => ?_
    have hv : (finProdFinEquiv (b, k)).val = k.val + 64 * b.val := rfl
    rw [if_neg (fun h => hb (Fin.ext (by rw [hv] at h; have := k.isLt; show b.val = n.val / 64; omega))), mul_zero]
  · intro h; exact absurd (Finset.mem_univ _) h

/-- A vector is finite where each of its entries is a real number. -/
abbrev Finite {s : Shape} (v : s.Idx → EReal) : Prop := ∀ i, ∃ r : ℝ, v i = (r : EReal)

theorem chunk_apply (v : FVec Ideal S128x2048 .f32) (hv : Finite v) (k : Fin 16) (j n : Fin 128) :
    chunk v (ones (F := Ideal)) k (ix2 j n)
      = ∑ c : Fin 64, v (ix2 j ⟨128 * k.val + (n.val / 64 * 64 + c.val), by have := n.isLt; have := c.isLt; have := k.isLt; omega⟩) := by
  have hs (c : Fin 128) : extractStridedSlice S128x128 ![0, 128 * k.val] v (slices_chunk k) (ix2 j c)
      = v (ix2 j ⟨128 * k.val + c.val, by have := c.isLt; have := k.isLt; omega⟩) :=
    slice2_axis1_apply _ _ _ j c _ rfl
  have e (A : FVec Ideal S128x128 .bf16) : FloatOps.matmul dot_S128x128_S128x128_S128x128_1_0_0_1_n_n none A (ones (F := Ideal))
      (constant (F := Ideal) S128x128 .f32 0x00000000#32) (ix2 j n)
      = ∑ c : Fin 64, A (ix2 j ⟨n.val / 64 * 64 + c.val, by have := n.isLt; have := c.isLt; omega⟩) := by
    refine (Ideal.matmul_plain_apply (M := 128) (K := 128) (N := 128) none A (ones (F := Ideal)) _ j n).trans ?_
    show Ideal.ofBits .f32 0x00000000#32 + _ = _
    rw [Ideal.ofBits_zero_f32, zero_add]
    simp only [ones_apply]
    exact sum_head (fun c => A (ix2 j c)) n
  refine (congrArg₂ (fun a b : EReal => a + b) (e _) (e _)).trans ?_
  have z : ∑ c : Fin 64, (truncf (F := Ideal) .bf16 (subf (extractStridedSlice S128x128 ![0, 128 * k.val] v (slices_chunk k))
      (extf .f32 (truncf .bf16 (extractStridedSlice S128x128 ![0, 128 * k.val] v (slices_chunk k)) bitsLt_bf16_f32) bitsLt_bf16_f32)) bitsLt_bf16_f32
      (ix2 j ⟨n.val / 64 * 64 + c.val, by have := n.isLt; have := c.isLt; omega⟩) : EReal) = 0 := by
    refine Finset.sum_eq_zero fun c _ => ?_
    show extractStridedSlice S128x128 ![0, 128 * k.val] v (slices_chunk k) _ - extractStridedSlice S128x128 ![0, 128 * k.val] v (slices_chunk k) _ = (0 : EReal)
    rw [hs]
    obtain ⟨r, hr⟩ := hv (ix2 j ⟨128 * k.val + (n.val / 64 * 64 + c.val), by have := n.isLt; have := c.isLt; have := k.isLt; omega⟩)
    rw [hr, ← EReal.coe_sub, sub_self, EReal.coe_zero]
  rw [z, add_zero]
  exact Finset.sum_congr rfl fun c _ => hs _

/-! ## The sixteen chunks -/

theorem concatenates_chunks (v : FVec F S128x2048 .f32) (B : FVec F S128x128 .bf16) :
    Shape.Concatenates ((List.ofFn fun k : Fin 16 => (⟨S128x128, chunk v B k⟩ : (s : Shape) × (s.Idx → F .f32))).map (·.1)) S128x2048 1 :=
  concatenates_S128x128_S128x128_S128x128_S128x128_S128x128_S128x128_S128x128_S128x128_S128x128_S128x128_S128x128_S128x128_S128x128_S128x128_S128x128_S128x128_S128x2048_d1

/-- Every lane's head sum. -/
def headSum (v : FVec F S128x2048 .f32) (B : FVec F S128x128 .bf16) : FVec F S128x2048 .f32 :=
  concatenate S128x2048 1 (List.ofFn fun k : Fin 16 => ⟨S128x128, chunk v B k⟩) (concatenates_chunks v B)

theorem headSum_apply (v : FVec Ideal S128x2048 .f32) (hv : Finite v) (j : Fin 128) (n : Fin 2048) :
    headSum v (ones (F := Ideal)) (ix2 j n) = ∑ k : Fin 64, v (ix2 j (lane n k)) := by
  have hn := n.isLt
  have hq : n.val / 128 < 16 := by omega
  have hm : n.val % 128 < 128 := by omega
  refine (concatenate_ofFn_apply (t := S128x2048) (s₁ := S128x128) (1 : Fin 2) (fun k : Fin 16 => chunk v (ones (F := Ideal)) k) (concatenates_chunks v _) rfl 128 rfl (ix2 j n : S128x2048.Idx)
    ⟨n.val / 128, hq⟩ rfl (ix2 j ⟨n.val % 128, hm⟩) rfl (fun b hb => ?_)).trans ?_
  · match b with
    | ⟨0, _⟩ => rfl
    | ⟨1, _⟩ => exact absurd rfl hb
  · rw [chunk_apply v hv]
    refine Finset.sum_congr rfl fun c _ => congrArg v (congrArg (ix2 j) (Fin.ext ?_))
    show 128 * (n.val / 128) + (n.val % 128 / 64 * 64 + c.val) = n.val / 64 * 64 + c.val
    omega

end Cert.HeadSum

end
-- ==== Proof.HeadNorm.lean ====
/-
  The first half of a point's block: the heads normalized, scaled, shifted, the bonus added and the result gated. The
  printed value is the plain expression over `HeadSum.headSum`, and that is read at an index.
-/
module

public import proofs.«01_k».proof.Proof.HeadSum

@[expose] public section

noncomputable section

open Idealize.ShloMosaic Idealize.ShloMosaic.TcCoe Idealize.SL.Sem Idealize.ShloMosaic.ValueIdx

namespace Cert.HeadNorm

open Cert.KernelIdeal Cert.KernelIdeal.Gen Cert.HeadSum

variable {F : FTy → Type} [FloatOps F]

/-- The deviation from the head's mean. -/
def dev (v : FVec F S128x2048 .f32) (B : FVec F S128x128 .bf16) : FVec F S128x2048 .f32 :=
  subf v (mulf (headSum v B) (broadcast S128x2048 (Scalar.ofBits .f32 0x3C800000#32)))

/-- The first half of the block. -/
def first (v : FVec F S128x2048 .f32) (g bonus : FVec F S128x2048 .bf16) (w b : FVec F S1x2048 .f32) (B : FVec F S128x128 .bf16) :
    FVec F S128x2048 .bf16 :=
  truncf .bf16 (mulf (addf (addf (mulf (mulf (dev v B) (rsqrt (addf (mulf (headSum (mulf (dev v B) (dev v B)) B)
      (broadcast S128x2048 (Scalar.ofBits .f32 0x3C800000#32))) (broadcast S128x2048 (Scalar.ofBits .f32 0x3A27C5AC#32)))))
      (broadcastTo S128x2048 (shapeCast S1x2048 w shapeCasts_S1x2048_S1x2048) broadcasts_S1x2048_S128x2048))
      (broadcastTo S128x2048 (shapeCast S1x2048 b shapeCasts_S1x2048_S1x2048) broadcasts_S1x2048_S128x2048))
      (extf .f32 bonus bitsLt_bf16_f32)) (extf .f32 g bitsLt_bf16_f32)) bitsLt_bf16_f32

/-- The deviation as the kernel body computes it from the sixteen chunks. -/
theorem pay20_eq (v : FVec F S128x2048 .f32) (B : FVec F S128x128 .bf16) :
    k0_pay20 v B (chunk v B 0) (chunk v B 1) (chunk v B 2) (chunk v B 3) (chunk v B 4) (chunk v B 5) (chunk v B 6) (chunk v B 7)
      (chunk v B 8) (chunk v B 9) (chunk v B 10) (chunk v B 11) (chunk v B 12) (chunk v B 13) (chunk v B 14) = dev v B := rfl

/-- The first half as the kernel body computes it from the deviation and the chunks of its square. -/
theorem pay51_eq (v : FVec F S128x2048 .f32) (g bonus : FVec F S128x2048 .bf16) (w b : FVec F S1x2048 .f32) (B : FVec F S128x128 .bf16)
    (q : FVec F S128x2048 .f32) (hq : q = mulf (dev v B) (dev v B)) :
    k0_pay51 (dev v B) B (chunk q B 0) (chunk q B 1) (chunk q B 2) (chunk q B 3) (chunk q B 4) (chunk q B 5) (chunk q B 6) (chunk q B 7)
      (chunk q B 8) (chunk q B 9) (chunk q B 10) (chunk q B 11) (chunk q B 12) (chunk q B 13) (chunk q B 14)
      (k0_pay49 q) (k0_pay50 q) (constant S128x128 .f32 0x00000000#32) w b bonus g = first v g bonus w b B := by
  subst hq
  rfl

/-- The bit that is set at a sequence's first block: the point modulo 32 is zero, as computed on words. -/
def firstBit (i : grid0.Coords) : BitVec 1 :=
  Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32))
    (Scalar.cmpi .ne (Scalar.remsi (BitVec.ofNat 32 (i 0).val) (Scalar.select (Scalar.cmpi .eq 32#32 0#32) 1#32 32#32)) 0#32))
    (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32

section Out

variable (i : grid0.Coords) (x0 : Vec F S128x2048 .f32) (x1 : Vec F S128x2048 .bf16) (x2 : Vec F S128x2048 .bf16) (x3 : Vec F S1x2048 .f32)
  (x4 : Vec F S1x2048 .f32) (x5 x6 x7 : Vec F S128x2176 .f32) (x8 x9 x10 : Vec F S8x2176 .f32)

/-- The matrix and the chunks of the block, as the body names them. -/
theorem pay61_eq : k0_pay61 (F := F) i x0 x1 x2 x3 x4 x5 x6 x7 x8 x9 x10 = ones := rfl
theorem pay83_eq : k0_pay83 (F := F) i x0 x1 x2 x3 x4 x5 x6 x7 x8 x9 x10 = ones := rfl

theorem pay78_eq : k0_pay78 i x0 x1 x2 x3 x4 x5 x6 x7 x8 x9 x10
    = mulf (dev (View.ld x0 r0_0) ones) (dev (View.ld x0 r0_0) ones) := rfl

/-- The block the point leaves: the short convolution's half after the heads' half. -/
theorem out_eq : out0_11 i x0 x1 x2 x3 x4 x5 x6 x7 x8 x9 x10 = View.canon [
    ⟨r0_5, k0_pay56 (firstBit i) (k0_pay52 (View.ld x6 r0_3) (View.ld x7 r0_3)) (k0_pay53 (View.ld x8 r0_4) (View.ld x9 r0_4))
      (k0_pay54 (View.ld x10 r0_4)) (k0_pay55 (View.ld x10 r0_4)) (iota .tc S128x2176 32 [0] iota_S128x2176_d0_w32) (View.ld x5 r0_3)⟩,
    ⟨r0_2, first (View.ld x0 r0_0) (View.ld x1 r0_0) (View.ld x2 r0_0) (View.ld x3 r0_1) (View.ld x4 r0_1) ones⟩] := rfl

end Out

end Cert.HeadNorm

end
-- ==== Proof.ConvTaps.lean ====
/-
  The second half of a point's block: the three-tap causal convolution over rows, gated. The rows before the block come
  from the last rows of the block above, or are zero at the start of a sequence. Read at an index.
-/
module

public import proofs.«01_k».proof.Proof.HeadNorm
public import Idealize.ShloMosaic.Lib.KernelVsHost

@[expose] public section

noncomputable section

open Idealize.ShloMosaic Idealize.ShloMosaic.TcCoe Idealize.SL.Sem Idealize.ShloMosaic.ValueIdx

namespace Cert.ConvTaps

open Cert.KernelIdeal Cert.KernelIdeal.Gen

variable {F : FTy → Type} [FloatOps F]

/-- One row over all rows of the block. -/
def row (x : FVec F S1x2176 .f32) : FVec F S128x2176 .f32 := broadcastTo S128x2176 x broadcasts_S1x2176_S128x2176

/-- The row that stands above the block: zero at the start of a sequence. -/
def above (b : BitVec 1) (x : FVec F S1x2176 .f32) : FVec F S128x2176 .f32 :=
  row (shapeCast S1x2176 (Scalar.select b (broadcast S1x2176 (Scalar.ofBits .f32 0x00000000#32)) x) shapeCasts_S1x2176_S1x2176)

/-- The block moved down by one row and by two rows. -/
def down1 (b : BitVec 1) (z : FVec F S128x2176 .f32) (zp : FVec F S8x2176 .f32) : FVec F S128x2176 .f32 :=
  select (cmpi .eq (iota .tc S128x2176 32 [0] iota_S128x2176_d0_w32) (broadcast S128x2176 0#32))
    (above b (extractStridedSlice S1x2176 ![7, 0] zp slices_S8x2176_o7_0_S1x2176)) (dynamicRotate 0 1#32 none z rotates_S128x2176_d0)
def down2 (b : BitVec 1) (z : FVec F S128x2176 .f32) (zp : FVec F S8x2176 .f32) : FVec F S128x2176 .f32 :=
  select (cmpi .eq (iota .tc S128x2176 32 [0] iota_S128x2176_d0_w32) (broadcast S128x2176 1#32))
    (above b (extractStridedSlice S1x2176 ![7, 0] zp slices_S8x2176_o7_0_S1x2176))
    (select (cmpi .eq (iota .tc S128x2176 32 [0] iota_S128x2176_d0_w32) (broadcast S128x2176 0#32))
      (above b (extractStridedSlice S1x2176 ![6, 0] zp slices_S8x2176_o6_0_S1x2176)) (dynamicRotate 0 2#32 none z rotates_S128x2176_d0))

/-- The gated sum of the three taps. -/
def taps (b : BitVec 1) (bg z : FVec F S128x2176 .f32) (zp cw : FVec F S8x2176 .f32) : FVec F S128x2176 .f32 :=
  mulf bg (addf (addf (mulf (row (extractStridedSlice S1x2176 ![0, 0] cw slices_S8x2176_o0_0_S1x2176)) (down2 b z zp))
    (mulf (row (extractStridedSlice S1x2176 ![1, 0] cw slices_S8x2176_o1_0_S1x2176)) (down1 b z zp)))
    (mulf (row (extractStridedSlice S1x2176 ![2, 0] cw slices_S8x2176_o2_0_S1x2176)) z))

/-- The second half as the kernel body computes it. -/
theorem pay56_eq (b : BitVec 1) (bg z : FVec F S128x2176 .f32) (zp cw : FVec F S8x2176 .f32) :
    k0_pay56 b z zp (k0_pay54 cw) (k0_pay55 cw) (iota .tc S128x2176 32 [0] iota_S128x2176_d0_w32) bg
      = truncf .bf16 (extractStridedSlice S128x2048 ![0, 64] (taps b bg z zp (shapeCast S8x2176 cw shapeCasts_S8x2176_S8x2176))
          slices_S128x2176_o0_64_S128x2048) bitsLt_bf16_f32 := rfl

/-- Lane `n` of the result stands 64 lanes further in the padded blocks. -/
abbrev pad64 (n : Fin 2048) : Fin 2176 := ⟨64 + n.val, by have := n.isLt; omega⟩

theorem row_apply (x : FVec F S1x2176 .f32) (j : Fin 128) (n : Fin 2176) : row x (ix2 j n) = x (ix2 (0 : Fin 1) n) :=
  broadcastTo_apply x _ (ix2 j n) (ix2 (0 : Fin 1) n) fun a => match a with
    | ⟨0, _⟩ => rfl
    | ⟨1, _⟩ => rfl

theorem slice_row (x : FVec F S8x2176 .f32) (o : Nat) (r : Fin 8) (hr : r.val = o) (h : S8x2176.Slices ![o, 0] S1x2176) (n : Fin 2176) :
    extractStridedSlice S1x2176 ![o, 0] x h (ix2 (0 : Fin 1) n) = x (ix2 r n) :=
  extractStridedSlice_apply _ _ _ _ _ fun a => match a with
    | ⟨0, _⟩ => hr
    | ⟨1, _⟩ => by show n.val = 0 + n.val; omega

theorem above_apply (b : BitVec 1) (x : FVec Ideal S1x2176 .f32) (j : Fin 128) (n : Fin 2176) :
    above b x (ix2 j n) = if b = 1#1 then 0 else x (ix2 (0 : Fin 1) n) := by
  unfold above
  rw [row_apply, shapeCast_self]
  by_cases h : b = 1#1
  · rw [if_pos h, h]; exact Ideal.ofBits_zero_f32
  · rw [if_neg h, (by revert h; revert b; decide : b = 0#1)]; rfl

theorem down1_apply (b : BitVec 1) (z : FVec Ideal S128x2176 .f32) (zp : FVec Ideal S8x2176 .f32) (j : Fin 128) (n : Fin 2176) :
    down1 b z zp (ix2 j n) = if h : j.val < 1 then (if b = 1#1 then 0 else zp (ix2 (7 : Fin 8) n))
      else z (ix2 (⟨j.val - 1, by have := j.isLt; omega⟩ : Fin 128) n) := by
  have k0 : ∀ j : Fin 128, IntOp.cmpi .eq (BitVec.ofNat 32 j.val) 0#32 = if j.val < 1 then 1#1 else 0#1 := by decide +kernel
  show Scalar.select (IntOp.cmpi .eq (iota .tc S128x2176 32 [0] iota_S128x2176_d0_w32 (ix2 j n)) 0#32) (above b _ (ix2 j n)) (dynamicRotate 0 1#32 none z rotates_S128x2176_d0 (ix2 j n)) = _
  rw [iota_single_apply]
  show Scalar.select (IntOp.cmpi .eq (BitVec.ofNat 32 j.val) 0#32) (above b _ (ix2 j n)) (dynamicRotate 0 1#32 none z rotates_S128x2176_d0 (ix2 j n)) = _
  rw [k0, above_apply]
  by_cases h : j.val < 1
  · rw [if_pos h, dif_pos h]
    show (if b = 1#1 then (0 : EReal) else _) = _
    rw [slice_row zp 7 7 rfl]
  · rw [if_neg h, dif_neg h]
    show dynamicRotate 0 1#32 none z rotates_S128x2176_d0 (ix2 j n) = _
    refine dynamicRotate_apply _ _ _ _ _ _ fun a => match a with
      | ⟨0, _⟩ => ?_
      | ⟨1, _⟩ => rfl
    show j.val - 1 = (j.val + 128 - 1 % 128) % 128
    have := j.isLt
    omega

theorem down2_apply (b : BitVec 1) (z : FVec Ideal S128x2176 .f32) (zp : FVec Ideal S8x2176 .f32) (j : Fin 128) (n : Fin 2176) :
    down2 b z zp (ix2 j n) = if h : j.val < 2 then (if b = 1#1 then 0 else zp (ix2 (⟨6 + j.val, by omega⟩ : Fin 8) n))
      else z (ix2 (⟨j.val - 2, by have := j.isLt; omega⟩ : Fin 128) n) := by
  have k0 : ∀ j : Fin 128, IntOp.cmpi .eq (BitVec.ofNat 32 j.val) 0#32 = if j.val < 1 then 1#1 else 0#1 := by decide +kernel
  have k1 : ∀ j : Fin 128, IntOp.cmpi .eq (BitVec.ofNat 32 j.val) 1#32 = if j.val = 1 then 1#1 else 0#1 := by decide +kernel
  show Scalar.select (IntOp.cmpi .eq (iota .tc S128x2176 32 [0] iota_S128x2176_d0_w32 (ix2 j n)) 1#32) (above b _ (ix2 j n))
    (Scalar.select (IntOp.cmpi .eq (iota .tc S128x2176 32 [0] iota_S128x2176_d0_w32 (ix2 j n)) 0#32) (above b _ (ix2 j n))
      (dynamicRotate 0 2#32 none z rotates_S128x2176_d0 (ix2 j n))) = _
  rw [iota_single_apply]
  show Scalar.select (IntOp.cmpi .eq (BitVec.ofNat 32 j.val) 1#32) (above b _ (ix2 j n))
    (Scalar.select (IntOp.cmpi .eq (BitVec.ofNat 32 j.val) 0#32) (above b _ (ix2 j n))
      (dynamicRotate 0 2#32 none z rotates_S128x2176_d0 (ix2 j n))) = _
  rw [k0, k1, above_apply, above_apply]
  by_cases h1 : j.val = 1
  · rw [if_pos h1, dif_pos (by omega)]
    show (if b = 1#1 then (0 : EReal) else _) = _
    rw [slice_row zp 7 7 rfl]
    exact congrArg (fun r : Fin 8 => if b = 1#1 then (0 : EReal) else zp (ix2 r n)) (Fin.ext (by show 7 = 6 + j.val; omega))
  · rw [if_neg h1]
    by_cases h0 : j.val < 1
    · rw [if_pos h0, dif_pos (by omega)]
      show (if b = 1#1 then (0 : EReal) else _) = _
      rw [slice_row zp 6 6 rfl]
      exact congrArg (fun r : Fin 8 => if b = 1#1 then (0 : EReal) else zp (ix2 r n)) (Fin.ext (by show 6 = 6 + j.val; omega))
    · rw [if_neg h0, dif_neg (by omega)]
      show dynamicRotate 0 2#32 none z rotates_S128x2176_d0 (ix2 j n) = _
      refine dynamicRotate_apply _ _ _ _ _ _ fun a => match a with
        | ⟨0, _⟩ => ?_
        | ⟨1, _⟩ => rfl
      show j.val - 2 = (j.val + 128 - 2 % 128) % 128
      have := j.isLt
      omega

/-- The second half of the block read at an index. -/
theorem second_apply (b : BitVec 1) (bg z : FVec Ideal S128x2176 .f32) (zp cw : FVec Ideal S8x2176 .f32) (j : Fin 128) (n : Fin 2048) :
    k0_pay56 (F := Ideal) b z zp (k0_pay54 cw) (k0_pay55 cw) (iota .tc S128x2176 32 [0] iota_S128x2176_d0_w32) bg (ix2 j n)
      = bg (ix2 j (pad64 n)) * (cw (ix2 (0 : Fin 8) (pad64 n)) * down2 b z zp (ix2 j (pad64 n)) + cw (ix2 (1 : Fin 8) (pad64 n)) * down1 b z zp (ix2 j (pad64 n))
          + cw (ix2 (2 : Fin 8) (pad64 n)) * z (ix2 j (pad64 n))) := by
  rw [pay56_eq, shapeCast_self]
  show extractStridedSlice S128x2048 ![0, 64] (taps b bg z zp cw) slices_S128x2176_o0_64_S128x2048 (ix2 j n) = _
  rw [slice2_axis1_apply 64 (taps b bg z zp cw) _ j n (pad64 n) rfl]
  show bg _ * (row _ (ix2 j (pad64 n)) * down2 b z zp _ + row _ (ix2 j (pad64 n)) * down1 b z zp _ + row _ (ix2 j (pad64 n)) * z _) = _
  rw [row_apply, row_apply, row_apply, slice_row cw 0 0 rfl, slice_row cw 1 1 rfl, slice_row cw 2 2 rfl]

end Cert.ConvTaps

end
-- ==== Proof.MixBlocks.lean ====
/-
  The blocks the output mix reads at a grid point, each read at an index of the block: three row blocks, two weight rows,
  three column ranges of the projection, the eight rows above two of them, and the taps.
-/
module

public import proofs.«01_k».proof.Defs
public import proofs.«01_k».proof.Proof.ConvTaps
public import proofs.«01_k».proof.Proof.Gen.KernelIdeal.Value
public import Idealize.ShloMosaic.Lib.KernelVsHost

@[expose] public section

noncomputable section

open Idealize.ShloMosaic Idealize.ShloMosaic.TcCoe Idealize.SL.Sem Idealize.ShloMosaic.ValueIdx
open Idealize.ShloMosaic.Pipeline (Dat)

namespace Cert.Mix

open Cert.KernelIdeal Cert.KernelIdeal.Gen Cert.HeadNorm Cert.ConvTaps

variable (m : (ℓ : Loc nD τ sig) → Buf (Elt Ideal) ℓ)

/-- Where the row blocks and the result's block lie. -/
theorem idx_rows : ∀ t : Fin cfg0.N, win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Where the weights lie: the same block at every point. -/
theorem idx_weights : ∀ t : Fin cfg0.N, win0_3.index t (0 : Fin 2) = 0 ∧ win0_3.index t (1 : Fin 2) = 0
    ∧ win0_4.index t (0 : Fin 2) = 0 ∧ win0_4.index t (1 : Fin 2) = 0
    ∧ win0_10.index t (0 : Fin 2) = 0 ∧ win0_10.index t (1 : Fin 2) = 0 :=
  (by decide +kernel : ∀ t : Fin grid0.N, _)

/-- Where the projection's blocks lie, in elements. -/
theorem idx_elems : ∀ t : Fin cfg0.N, win0_5.index t (0 : Fin 2) = t.val * 128 ∧ win0_5.index t (1 : Fin 2) = 6528
    ∧ win0_6.index t (0 : Fin 2) = t.val * 128 ∧ win0_6.index t (1 : Fin 2) = 8576
    ∧ win0_7.index t (0 : Fin 2) = t.val * 128 ∧ win0_7.index t (1 : Fin 2) = 10624
    ∧ win0_8.index t (0 : Fin 2) = t.val * 128 - 8 ∧ win0_8.index t (1 : Fin 2) = 8576
    ∧ win0_9.index t (0 : Fin 2) = t.val * 128 - 8 ∧ win0_9.index t (1 : Fin 2) = 10624 :=
  (by decide +kernel : ∀ t : Fin grid0.N, _)

/-- A sequence starts at every 32nd point. -/
theorem firstBit_eq : ∀ t : Fin cfg0.N, firstBit (grid0.coords t) = if t.val % 32 = 0 then 1#1 else 0#1 :=
  (by decide +kernel : ∀ t : Fin grid0.N, _)

/-- Row `j` of point `t`'s blocks is row `128 t + j` of the arrays. -/
abbrev row (t : Fin cfg0.N) (j : Fin 128) : Fin 8192 :=
  ⟨t.val * 128 + j.val, by have h : t.val < 64 := t.isLt; have := j.isLt; omega⟩

theorem blk0_apply (c : Dev nD) (t : Fin cfg0.N) (j : Fin 128) (n : Fin 2048) :
    iblk m c 0 t (ix2 j n : S128x2048.Idx) = m ((c : Thread nD τ).loc main_arg0) (ix2 (row t j) n) := by
  obtain ⟨-, -, e0, e1, -⟩ := idx_rows t
  show V m c main_arg0 ((win0_0.rect t).emb (ix2 j n)) = _
  rw [V_main_arg0]
  refine congrArg _ (Shape.idx_ext₂ ?_ ?_)
  · rw [win0_0.rect_emb_val, e0]; rfl
  · rw [win0_0.rect_emb_val, e1]; show 0 * 2048 + n.val = n.val; omega

theorem blk1_apply (c : Dev nD) (t : Fin cfg0.N) (j : Fin 128) (n : Fin 2048) :
    iblk m c 1 t (ix2 j n : S128x2048.Idx) = m ((c : Thread nD τ).loc main_arg1) (ix2 (row t j) n) := by
  obtain ⟨-, -, -, -, e0, e1, -⟩ := idx_rows t
  show V m c main_arg1 ((win0_1.rect t).emb (ix2 j n)) = _
  rw [V_main_arg1]
  refine congrArg _ (Shape.idx_ext₂ ?_ ?_)
  · rw [win0_1.rect_emb_val, e0]; rfl
  · rw [win0_1.rect_emb_val, e1]; show 0 * 2048 + n.val = n.val; omega

theorem blk2_apply (c : Dev nD) (t : Fin cfg0.N) (j : Fin 128) (n : Fin 2048) :
    iblk m c 2 t (ix2 j n : S128x2048.Idx) = m ((c : Thread nD τ).loc main_arg2) (ix2 (row t j) n) := by
  obtain ⟨-, -, -, -, -, -, e0, e1⟩ := idx_rows t
  show V m c main_arg2 ((win0_2.rect t).emb (ix2 j n)) = _
  rw [V_main_arg2]
  refine congrArg _ (Shape.idx_ext₂ ?_ ?_)
  · rw [win0_2.rect_emb_val, e0]; rfl
  · rw [win0_2.rect_emb_val, e1]; show 0 * 2048 + n.val = n.val; omega

/-- The host flattens a weight row and puts the axis back: the row itself. -/
theorem twice_apply (x : FVec Ideal S1x2048 .f32) (n : Fin 2048) :
    shapeCast S1x2048 (shapeCast S2048 x shapeCasts_S1x2048_S2048) shapeCasts_S2048_S1x2048 (ix2 (0 : Fin 1) n) = x (ix2 (0 : Fin 1) n) := by
  rw [shapeCast_a_1a_apply]
  refine shapeCast_apply _ _ _ _ ?_
  rw [Shape.rowMajor_val_two, Shape.rowMajor_val_one]
  show 0 * 2048 + n.val = n.val
  omega

theorem blk3_apply (c : Dev nD) (t : Fin cfg0.N) (n : Fin 2048) :
    iblk m c 3 t (ix2 (0 : Fin 1) n : S1x2048.Idx) = m ((c : Thread nD τ).loc main_arg3) (ix2 (0 : Fin 1) n) := by
  have e : V m c main_v1 = shapeCast S1x2048 (shapeCast S2048 (m ((c : Thread nD τ).loc main_arg3)) shapeCasts_S1x2048_S2048)
      shapeCasts_S2048_S1x2048 := rfl
  obtain ⟨e0, e1, -⟩ := idx_weights t
  show V m c main_v1 ((win0_3.rect t).emb (ix2 (0 : Fin 1) n)) = _
  rw [e, ← twice_apply (m ((c : Thread nD τ).loc main_arg3))]
  refine congrArg _ (Shape.idx_ext₂ ?_ ?_)
  · rw [win0_3.rect_emb_val, e0]; rfl
  · rw [win0_3.rect_emb_val, e1]; show 0 * 2048 + n.val = n.val; omega

theorem blk4_apply (c : Dev nD) (t : Fin cfg0.N) (n : Fin 2048) :
    iblk m c 4 t (ix2 (0 : Fin 1) n : S1x2048.Idx) = m ((c : Thread nD τ).loc main_arg4) (ix2 (0 : Fin 1) n) := by
  have e : V m c main_v3 = shapeCast S1x2048 (shapeCast S2048 (m ((c : Thread nD τ).loc main_arg4)) shapeCasts_S1x2048_S2048)
      shapeCasts_S2048_S1x2048 := rfl
  obtain ⟨-, -, e0, e1, -⟩ := idx_weights t
  show V m c main_v3 ((win0_4.rect t).emb (ix2 (0 : Fin 1) n)) = _
  rw [e, ← twice_apply (m ((c : Thread nD τ).loc main_arg4))]
  refine congrArg _ (Shape.idx_ext₂ ?_ ?_)
  · rw [win0_4.rect_emb_val, e0]; rfl
  · rw [win0_4.rect_emb_val, e1]; show 0 * 2048 + n.val = n.val; omega

theorem blk5_apply (c : Dev nD) (t : Fin cfg0.N) (j : Fin 128) (n : Fin 2048) :
    iblk m c 5 t (ix2 j (pad64 n) : S128x2176.Idx)
      = m ((c : Thread nD τ).loc main_arg5) (ix2 (row t j) (⟨6592 + n.val, by have := n.isLt; omega⟩ : Fin 12800)) := by
  obtain ⟨e0, e1, -⟩ := idx_elems t
  show V m c main_arg5 ((win0_5.rect t).emb (ix2 j (pad64 n))) = _
  rw [V_main_arg5]
  refine congrArg _ (Shape.idx_ext₂ ?_ ?_)
  · rw [win0_5.rect_emb_val_off, e0]
  · rw [win0_5.rect_emb_val_off, e1]; show 6528 + (64 + n.val) = 6592 + n.val; omega

theorem blk6_apply (c : Dev nD) (t : Fin cfg0.N) (j : Fin 128) (n : Fin 2048) :
    iblk m c 6 t (ix2 j (pad64 n) : S128x2176.Idx)
      = m ((c : Thread nD τ).loc main_arg5) (ix2 (row t j) (⟨8640 + n.val, by have := n.isLt; omega⟩ : Fin 12800)) := by
  obtain ⟨-, -, e0, e1, -⟩ := idx_elems t
  show V m c main_arg5 ((win0_6.rect t).emb (ix2 j (pad64 n))) = _
  rw [V_main_arg5]
  refine congrArg _ (Shape.idx_ext₂ ?_ ?_)
  · rw [win0_6.rect_emb_val_off, e0]
  · rw [win0_6.rect_emb_val_off, e1]; show 8576 + (64 + n.val) = 8640 + n.val; omega

theorem blk7_apply (c : Dev nD) (t : Fin cfg0.N) (j : Fin 128) (n : Fin 2048) :
    iblk m c 7 t (ix2 j (pad64 n) : S128x2176.Idx)
      = m ((c : Thread nD τ).loc main_arg5) (ix2 (row t j) (⟨10688 + n.val, by have := n.isLt; omega⟩ : Fin 12800)) := by
  obtain ⟨-, -, -, -, e0, e1, -⟩ := idx_elems t
  show V m c main_arg5 ((win0_7.rect t).emb (ix2 j (pad64 n))) = _
  rw [V_main_arg5]
  refine congrArg _ (Shape.idx_ext₂ ?_ ?_)
  · rw [win0_7.rect_emb_val_off, e0]
  · rw [win0_7.rect_emb_val_off, e1]; show 10624 + (64 + n.val) = 10688 + n.val; omega

/-- Row `k` of the eight rows above point `t`'s block. -/
abbrev rowAbove (t : Fin cfg0.N) (k : Fin 8) : Fin 8192 :=
  ⟨t.val * 128 - 8 + k.val, by have h : t.val < 64 := t.isLt; have := k.isLt; omega⟩

theorem blk8_apply (c : Dev nD) (t : Fin cfg0.N) (k : Fin 8) (n : Fin 2048) :
    iblk m c 8 t (ix2 k (pad64 n) : S8x2176.Idx)
      = m ((c : Thread nD τ).loc main_arg5) (ix2 (rowAbove t k) (⟨8640 + n.val, by have := n.isLt; omega⟩ : Fin 12800)) := by
  obtain ⟨-, -, -, -, -, -, e0, e1, -⟩ := idx_elems t
  show V m c main_arg5 ((win0_8.rect t).emb (ix2 k (pad64 n))) = _
  rw [V_main_arg5]
  refine congrArg _ (Shape.idx_ext₂ ?_ ?_)
  · rw [win0_8.rect_emb_val_off, e0]
  · rw [win0_8.rect_emb_val_off, e1]; show 8576 + (64 + n.val) = 8640 + n.val; omega

theorem blk9_apply (c : Dev nD) (t : Fin cfg0.N) (k : Fin 8) (n : Fin 2048) :
    iblk m c 9 t (ix2 k (pad64 n) : S8x2176.Idx)
      = m ((c : Thread nD τ).loc main_arg5) (ix2 (rowAbove t k) (⟨10688 + n.val, by have := n.isLt; omega⟩ : Fin 12800)) := by
  obtain ⟨-, -, -, -, -, -, -, -, e0, e1⟩ := idx_elems t
  show V m c main_arg5 ((win0_9.rect t).emb (ix2 k (pad64 n))) = _
  rw [V_main_arg5]
  refine congrArg _ (Shape.idx_ext₂ ?_ ?_)
  · rw [win0_9.rect_emb_val_off, e0]
  · rw [win0_9.rect_emb_val_off, e1]; show 10624 + (64 + n.val) = 10688 + n.val; omega

/-- The taps as the host lays them out: one row each, padded by 64 lanes on both sides and by five rows below. -/
theorem blk10_apply (c : Dev nD) (t : Fin cfg0.N) (k : Fin 8) (k' : Fin 3) (hk : k.val = k'.val) (n : Fin 2048) :
    iblk m c 10 t (ix2 k (pad64 n) : S8x2176.Idx) = m ((c : Thread nD τ).loc main_arg6) (ix3 (0 : Fin 1) n k') := by
  have e : V m c main_v6 = pad S8x2176 ![0, 64] ![5, 64] ![0, 0]
      (transpose S3x2048 [1, 0] (shapeCast S2048x3 (m ((c : Thread nD τ).loc main_arg6)) shapeCasts_S1x2048x3_S2048x3) transposes_S2048x3_S3x2048_1_0)
      (sitofp (F := Ideal) .f32 (constantI S_ 32 0#32)) pads_S3x2048_S8x2176_050_64640 h_S_ := by
    unfold_abbrev_sides
    after_results
    rfl
  obtain ⟨-, -, -, -, e0, e1⟩ := idx_weights t
  show V m c main_v6 ((win0_10.rect t).emb (ix2 k (pad64 n))) = _
  have ei : (win0_10.rect t).emb (ix2 k (pad64 n)) = ix2 k (pad64 n) := by
    refine Shape.idx_ext₂ ?_ ?_
    · rw [win0_10.rect_emb_val, e0]; show 0 * 8 + k.val = k.val; omega
    · rw [win0_10.rect_emb_val, e1]; show 0 * 2176 + (pad64 n).val = (pad64 n).val; omega
  rw [e, ei, pad_apply_of_inside _ _ _ _ _ _ _ _ (ix2 k' n : S3x2048.Idx) fun a => ?_, transpose_ix2_apply, shapeCast_1ab_ab_apply]
  match a with
  | ⟨0, _⟩ => show k.val = 0 + k'.val * (0 + 1); omega
  | ⟨1, _⟩ => show 64 + n.val = 64 + n.val * (0 + 1); omega

end Cert.Mix

end
-- ==== Proof.HeadSpec.lean ====
/-
  The mathematics of a head's normalization on the extended reals, the constants it uses, and the first half of a point's
  block read at an index as that mathematics.
-/
module

public import proofs.«01_k».proof.Proof.HeadNorm

@[expose] public section

noncomputable section

open Idealize.ShloMosaic Idealize.ShloMosaic.TcCoe Idealize.SL.Sem Idealize.ShloMosaic.ValueIdx

namespace Cert.HeadNorm

open Cert.KernelIdeal Cert.KernelIdeal.Gen Cert.HeadSum

/-- The words of 1/64 and of 64 as extended reals. -/
theorem ofBits_sixtyfourth : Ideal.ofBits .f32 0x3C800000#32 = ((1 / 64 : ℝ) : EReal) := by
  simp [Ideal.ofBits, Ideal.ieee, -EReal.coe_mul]; norm_num
theorem ofBits_sixtyfour : Ideal.ofBits .f32 0x42800000#32 = ((64 : ℝ) : EReal) := by
  simp [Ideal.ofBits, Ideal.ieee, -EReal.coe_mul]; norm_num

/-- The mean of a head's 64 lanes. -/
def mean (f : Fin 64 → EReal) : EReal := (∑ k, f k) * ((1 / 64 : ℝ) : EReal)

/-- The mean as the quotient by 64. -/
theorem mean_eq_div (f : Fin 64 → EReal) : Ideal.div (∑ k, f k) (Ideal.ofBits .f32 0x42800000#32) = mean f := by
  rw [ofBits_sixtyfour, Ideal.div_coe (by norm_num : (64 : ℝ) ≠ 0)]; rfl

/-- The lane `a` of a head with lanes `f`, centred and divided by the head's standard deviation. -/
def norm (f : Fin 64 → EReal) (a : EReal) : EReal :=
  (a - mean f) * Ideal.rsqrt (mean (fun k => (f k - mean f) * (f k - mean f)) + Ideal.ofBits .f32 0x3A27C5AC#32)

/-- A finite head has a finite mean. -/
theorem mean_finite (f : Fin 64 → EReal) (hf : ∀ k, ∃ r : ℝ, f k = (r : EReal)) : ∃ r : ℝ, mean f = (r : EReal) := by
  choose g hg using hf
  refine ⟨(∑ k, g k) * (1 / 64), ?_⟩
  unfold mean
  rw [EReal.coe_mul]
  refine congrArg (· * _) ?_
  simp only [hg]
  exact (map_sum (⟨⟨((↑) : ℝ → EReal), EReal.coe_zero⟩, EReal.coe_add⟩ : ℝ →+ EReal) g Finset.univ).symm

theorem lane_lane (n : Fin 2048) (k k' : Fin 64) : lane (lane n k) k' = lane n k' := by
  refine Fin.ext ?_
  show (n.val / 64 * 64 + k.val) / 64 * 64 + k'.val = n.val / 64 * 64 + k'.val
  have := k.isLt
  omega

theorem dev_apply (v : FVec Ideal S128x2048 .f32) (hv : Finite v) (j : Fin 128) (n : Fin 2048) :
    dev v (ones (F := Ideal)) (ix2 j n) = v (ix2 j n) - mean (fun k => v (ix2 j (lane n k))) := by
  show v (ix2 j n) - headSum v (ones (F := Ideal)) (ix2 j n) * Ideal.ofBits .f32 0x3C800000#32 = _
  rw [headSum_apply v hv, ofBits_sixtyfourth]
  rfl

theorem dev_finite (v : FVec Ideal S128x2048 .f32) (hv : Finite v) : Finite (dev v (ones (F := Ideal))) := fun i => by
  obtain ⟨j, n, rfl⟩ : ∃ (j : Fin 128) (n : Fin 2048), i = ix2 j n := ⟨i 0, i 1, eq_ix2 i⟩
  obtain ⟨a, ha⟩ := hv (ix2 j n)
  obtain ⟨b, hb⟩ := mean_finite (fun k => v (ix2 j (lane n k))) fun k => hv _
  exact ⟨a - b, by rw [dev_apply v hv, ha, hb, EReal.coe_sub]⟩

theorem sq_finite (v : FVec Ideal S128x2048 .f32) (hv : Finite v) :
    Finite (mulf (F := Ideal) (dev v (ones (F := Ideal))) (dev v (ones (F := Ideal)))) := fun i => by
  obtain ⟨a, ha⟩ := dev_finite v hv i
  exact ⟨a * a, by rw [EReal.coe_mul, ← ha]; rfl⟩

/-- The first half of the block read at an index. -/
theorem first_apply (v : FVec Ideal S128x2048 .f32) (hv : Finite v) (g bonus : FVec Ideal S128x2048 .bf16) (w b : FVec Ideal S1x2048 .f32)
    (j : Fin 128) (n : Fin 2048) :
    first v g bonus w b (ones (F := Ideal)) (ix2 j n)
      = (norm (fun k => v (ix2 j (lane n k))) (v (ix2 j n)) * w (ix2 (0 : Fin 1) n) + b (ix2 (0 : Fin 1) n) + bonus (ix2 j n)) * g (ix2 j n) := by
  have hrow (x : FVec Ideal S1x2048 .f32) : broadcastTo S128x2048 (shapeCast S1x2048 x shapeCasts_S1x2048_S1x2048) broadcasts_S1x2048_S128x2048
      (ix2 j n) = x (ix2 (0 : Fin 1) n) := by
    rw [shapeCast_self]
    exact broadcastTo_apply x _ (ix2 j n) (ix2 (0 : Fin 1) n) fun a => match a with
      | ⟨0, _⟩ => rfl
      | ⟨1, _⟩ => rfl
  show ((dev v ones (ix2 j n) * Ideal.rsqrt (headSum (mulf (dev v ones) (dev v ones)) ones (ix2 j n) * Ideal.ofBits .f32 0x3C800000#32
      + Ideal.ofBits .f32 0x3A27C5AC#32)) * broadcastTo S128x2048 (shapeCast S1x2048 w shapeCasts_S1x2048_S1x2048) broadcasts_S1x2048_S128x2048 (ix2 j n)
      + broadcastTo S128x2048 (shapeCast S1x2048 b shapeCasts_S1x2048_S1x2048) broadcasts_S1x2048_S128x2048 (ix2 j n) + bonus (ix2 j n)) * g (ix2 j n) = _
  rw [hrow, hrow, headSum_apply _ (sq_finite v hv), ofBits_sixtyfourth]
  have hd (k : Fin 64) : mulf (F := Ideal) (dev v (ones (F := Ideal))) (dev v (ones (F := Ideal))) (ix2 j (lane n k))
      = (v (ix2 j (lane n k)) - mean (fun k => v (ix2 j (lane n k)))) * (v (ix2 j (lane n k)) - mean (fun k => v (ix2 j (lane n k)))) := by
    show dev v (ones (F := Ideal)) (ix2 j (lane n k)) * dev v (ones (F := Ideal)) (ix2 j (lane n k)) = _
    rw [dev_apply v hv]
    simp only [lane_lane]
  simp only [hd]
  rw [dev_apply v hv]
  rfl

end Cert.HeadNorm

end
-- ==== Proof.MixRef.lean ====
/-
  The reference of the output mix read at an index: the left half is the gated, normalised head output, the right half
  the gated causal convolution of the input projection's columns.
-/
module

public import proofs.«01_k».proof.Defs
public import proofs.«01_k».proof.Proof.HeadSpec
public import proofs.«01_k».proof.Proof.Gen.ReferenceIdeal.Run
public import proofs.«01_k».proof.Proof.Gen.ReferenceIdeal.Read
public import Idealize.ShloMosaic.Lib.KernelVsHost

@[expose] public section

noncomputable section

open Idealize.ShloMosaic Idealize.ShloMosaic.TcCoe Idealize.SL.Sem Idealize.ShloMosaic.ValueIdx

namespace Cert.MixRef

open Cert.ReferenceIdeal Cert.ReferenceIdeal.Gen Cert.ReferenceIdeal.Read Cert.HeadSum Cert.HeadNorm

/-- The row of the flat arrays that holds token `t` of sequence `s`. -/
abbrev tok (s : Fin 2) (t : Fin 4096) : Fin 8192 := ⟨s.val * 4096 + t.val, by have := s.isLt; have := t.isLt; omega⟩

/-- The lane that holds element `k` of head `h`. -/
abbrev head (h : Fin 32) (k : Fin 64) : Fin 2048 := ⟨h.val * 64 + k.val, by have := h.isLt; have := k.isLt; omega⟩

/-- What the convolution runs over: the product of two column ranges of the projection. -/
def z (p : FVec Ideal S8192x12800 .f32) (r : Fin 8192) (n : Fin 2048) : EReal :=
  p (ix2 r (⟨8640 + n.val, by have := n.isLt; omega⟩ : Fin 12800)) * p (ix2 r (⟨10688 + n.val, by have := n.isLt; omega⟩ : Fin 12800))

/-- The same `d` tokens earlier in the sequence, zero before its start. -/
def before (p : FVec Ideal S8192x12800 .f32) (d : ℕ) (r : Fin 8192) (n : Fin 2048) : EReal :=
  if r.val % 4096 < d then 0 else z p ⟨r.val - d, by have := r.isLt; omega⟩ n

/-- The left half of the result. -/
def left (y : FVec Ideal S8192x2048 .f32) (g bonus : FVec Ideal S8192x2048 .bf16) (w b : FVec Ideal S1x2048 .f32)
    (r : Fin 8192) (n : Fin 2048) : EReal :=
  (norm (fun k => y (ix2 r (lane n k))) (y (ix2 r n)) * w (ix2 (0 : Fin 1) n) + b (ix2 (0 : Fin 1) n) + bonus (ix2 r n)) * g (ix2 r n)

/-- The right half of the result. -/
def right (p : FVec Ideal S8192x12800 .f32) (cw : FVec Ideal S1x2048x3 .f32) (r : Fin 8192) (n : Fin 2048) : EReal :=
  p (ix2 r (⟨6592 + n.val, by have := n.isLt; omega⟩ : Fin 12800))
    * (cw (ix3 (0 : Fin 1) n (0 : Fin 3)) * before p 2 r n + cw (ix3 (0 : Fin 1) n (1 : Fin 3)) * before p 1 r n
      + cw (ix3 (0 : Fin 1) n (2 : Fin 3)) * z p r n)

section Heads

variable (y : FVec Ideal S8192x2048 .f32) (s : Fin 2) (t : Fin 4096) (h : Fin 32) (k : Fin 64)

theorem split_apply : val_main_v0 (F := Ideal) y (ix4 s t h k) = y (ix2 (tok s t) (head h k)) := by
  rw [val_main_v0_apply]
  refine congrArg y (Shape.idx_ext₂ ?_ ?_)
  · show (((s.val * 4096 + t.val) * 32 + h.val) * 64 + k.val) / 2048 = s.val * 4096 + t.val
    have := h.isLt; have := k.isLt; omega
  · show (((s.val * 4096 + t.val) * 32 + h.val) * 64 + k.val) % 2048 = h.val * 64 + k.val
    have := h.isLt; have := k.isLt; omega

theorem mean_apply : val_main_v4 (F := Ideal) y (ix4 s t h (0 : Fin 1)) = mean fun k => y (ix2 (tok s t) (head h k)) := by
  rw [val_main_v4_apply, val_main_v2_apply, val_main_v3_apply, val_main_v1_apply, val_main_cst_apply, val_main_cst_0_apply]
  simp only [Ideal.ofBits_def, Ideal.hostDivf_def, Ideal.ofBits_zero_f32, zero_add]
  rw [mean_eq_div]
  refine congrArg mean (funext fun k => ?_)
  rw [← split_apply y s t h k]
  refine congrArg _ (funext fun a => ?_)
  match a with
  | ⟨0, _⟩ => rfl
  | ⟨1, _⟩ => rfl
  | ⟨2, _⟩ => rfl
  | ⟨3, _⟩ => rfl

theorem drop_last (f : S2x4096x32x64.Idx → S2x4096x32x1.Idx) (hf : f = idx_main_v5) : f (ix4 s t h k) = ix4 s t h (0 : Fin 1) := by
  subst hf
  funext a
  match a with
  | ⟨0, _⟩ => rfl
  | ⟨1, _⟩ => rfl
  | ⟨2, _⟩ => rfl
  | ⟨3, _⟩ => rfl

theorem dev_apply : val_main_v6 (F := Ideal) y (ix4 s t h k)
    = y (ix2 (tok s t) (head h k)) - mean fun k => y (ix2 (tok s t) (head h k)) := by
  rw [val_main_v6_apply, val_main_v5_apply, drop_last s t h k _ rfl, mean_apply, split_apply]
  rfl

theorem var_apply : val_main_v11 (F := Ideal) y (ix4 s t h (0 : Fin 1))
    = mean fun k => (y (ix2 (tok s t) (head h k)) - mean fun k => y (ix2 (tok s t) (head h k)))
        * (y (ix2 (tok s t) (head h k)) - mean fun k => y (ix2 (tok s t) (head h k))) := by
  rw [val_main_v11_apply, val_main_v9_apply, val_main_v10_apply, val_main_v8_apply, val_main_cst_1_apply, val_main_cst_2_apply]
  simp only [Ideal.ofBits_def, Ideal.hostDivf_def, Ideal.ofBits_zero_f32, zero_add]
  rw [mean_eq_div]
  refine congrArg mean (funext fun k => ?_)
  rw [val_main_v7_apply, Ideal.mulf_def]
  have e : idx_main_v8 (idx_main_v9 (ix4 s t h (0 : Fin 1))) k = ix4 s t h k := by
    funext a
    match a with
    | ⟨0, _⟩ => rfl
    | ⟨1, _⟩ => rfl
    | ⟨2, _⟩ => rfl
    | ⟨3, _⟩ => rfl
  rw [e, dev_apply]

theorem norm_apply : val_main_v18 (F := Ideal) y (ix4 s t h k)
    = norm (fun k => y (ix2 (tok s t) (head h k))) (y (ix2 (tok s t) (head h k))) := by
  rw [val_main_v18_apply, val_main_v13_apply, val_main_v12_apply, val_main_v17_apply, val_main_v16_apply, val_main_v15_apply,
    val_main_v14_apply, val_main_cst_3_apply, drop_last s t h k idx_main_v12 rfl, drop_last s t h k idx_main_v17 rfl, mean_apply, var_apply, split_apply]
  rfl

/-- A per-head row laid over all tokens. -/
theorem weight_apply (w : FVec Ideal S1x2048 .f32) : val_main_v22 (F := Ideal) w (ix4 s t h k) = w (ix2 (0 : Fin 1) (head h k)) := by
  rw [val_main_v22_apply, val_main_v21_apply, val_main_v20_apply, val_main_v19_apply]
  refine congrArg w (Shape.idx_ext₂ rfl ?_)
  show (h.val * 64 + k.val) % 2048 = h.val * 64 + k.val
  have := h.isLt; have := k.isLt; omega

theorem bias_apply (b : FVec Ideal S1x2048 .f32) : val_main_v27 (F := Ideal) b (ix4 s t h k) = b (ix2 (0 : Fin 1) (head h k)) :=
  weight_apply s t h k b

theorem bonus_apply (x : FVec Ideal S8192x2048 .bf16) : val_main_v30 (F := Ideal) x (ix4 s t h k) = x (ix2 (tok s t) (head h k)) :=
  split_apply x s t h k

end Heads

/-- The left half, by sequence and token. -/
theorem left_apply (x0 : FVec Ideal S8192x2048 .f32) (x1 x2 : FVec Ideal S8192x2048 .bf16) (x3 x4 : FVec Ideal S1x2048 .f32)
    (s : Fin 2) (t : Fin 4096) (n : Fin 2048) :
    val_main_v35 (F := Ideal) x0 x1 x2 x3 x4 (ix3 s t n) = left x0 x1 x2 x3 x4 (tok s t) n := by
  rw [val_main_v35_apply, val_main_v32_apply, val_main_v34_apply, val_main_v33_apply]
  have e : idx_main_v32 (ix3 s t n) = ix4 s t (⟨n.val / 64, by have := n.isLt; omega⟩ : Fin 32) (⟨n.val % 64, Nat.mod_lt _ (by norm_num)⟩ : Fin 64) := by
    have hn := n.isLt
    have ht := t.isLt
    funext a
    refine Fin.ext ?_
    match a with
    | ⟨0, _⟩ => show ((s.val * 4096 + t.val) * 2048 + n.val) / 8388608 = s.val; omega
    | ⟨1, _⟩ => show ((s.val * 4096 + t.val) * 2048 + n.val) / 2048 % 4096 = t.val; omega
    | ⟨2, _⟩ => show ((s.val * 4096 + t.val) * 2048 + n.val) / 64 % 32 = n.val / 64; omega
    | ⟨3, _⟩ => show ((s.val * 4096 + t.val) * 2048 + n.val) % 64 = n.val % 64; omega
  have e' : idx_main_v34 (ix3 s t n) = ix2 (tok s t) n := by
    have hn := n.isLt
    refine Shape.idx_ext₂ ?_ ?_
    · show ((s.val * 4096 + t.val) * 2048 + n.val) / 2048 = s.val * 4096 + t.val
      omega
    · show ((s.val * 4096 + t.val) * 2048 + n.val) % 2048 = n.val
      omega
  have en : head (⟨n.val / 64, by have := n.isLt; omega⟩ : Fin 32) (⟨n.val % 64, Nat.mod_lt _ (by norm_num)⟩ : Fin 64) = n := by
    refine Fin.ext ?_
    show n.val / 64 * 64 + n.val % 64 = n.val
    omega
  rw [e, e', val_main_v31_apply, val_main_v28_apply, val_main_v23_apply, norm_apply, weight_apply, bias_apply, bonus_apply, en]
  rfl

section Conv

variable (p : FVec Ideal S8192x12800 .f32) (cw : FVec Ideal S1x2048x3 .f32) (s : Fin 2) (t : Fin 4096) (n : Fin 2048)

/-- The convolution's columns of the projection. -/
theorem cols_apply (c : Fin 6144) : val_main_v37 (F := Ideal) p (ix3 s t c)
    = p (ix2 (tok s t) (⟨6592 + c.val, by have := c.isLt; omega⟩ : Fin 12800)) := by
  rw [val_main_v37_apply, val_main_v36_apply]
  have hc := c.isLt
  refine congrArg p (Shape.idx_ext₂ ?_ ?_)
  · show ((s.val * 4096 + t.val) * 6144 + c.val) / 6144 = s.val * 4096 + t.val
    omega
  · show 6592 + ((s.val * 4096 + t.val) * 6144 + c.val) % 6144 = 6592 + c.val
    omega

theorem gate_apply : val_main_v38 (F := Ideal) p (ix3 s t n)
    = p (ix2 (tok s t) (⟨6592 + n.val, by have := n.isLt; omega⟩ : Fin 12800)) := by
  rw [val_main_v38_apply, ← cols_apply p s t (⟨n.val, by have := n.isLt; omega⟩ : Fin 6144)]
  refine congrArg _ (funext fun a => ?_)
  match a with
  | ⟨0, _⟩ => rfl
  | ⟨1, _⟩ => rfl
  | ⟨2, _⟩ => rfl

theorem z_apply : val_main_v41 (F := Ideal) p (ix3 s t n) = z p (tok s t) n := by
  have e1 : val_main_v39 (F := Ideal) p (ix3 s t n)
      = p (ix2 (tok s t) (⟨8640 + n.val, by have := n.isLt; omega⟩ : Fin 12800)) := by
    rw [val_main_v39_apply]
    have e : idx_main_v39 (ix3 s t n) = ix3 s t (⟨2048 + n.val, by have := n.isLt; omega⟩ : Fin 6144) := by
      funext a
      match a with
      | ⟨0, _⟩ => rfl
      | ⟨1, _⟩ => rfl
      | ⟨2, _⟩ => rfl
    rw [e, cols_apply]
    refine congrArg p (Shape.idx_ext₂ rfl ?_)
    show 6592 + (2048 + n.val) = 8640 + n.val
    omega
  have e2 : val_main_v40 (F := Ideal) p (ix3 s t n)
      = p (ix2 (tok s t) (⟨10688 + n.val, by have := n.isLt; omega⟩ : Fin 12800)) := by
    rw [val_main_v40_apply]
    have e : idx_main_v40 (ix3 s t n) = ix3 s t (⟨4096 + n.val, by have := n.isLt; omega⟩ : Fin 6144) := by
      funext a
      match a with
      | ⟨0, _⟩ => rfl
      | ⟨1, _⟩ => rfl
      | ⟨2, _⟩ => rfl
    rw [e, cols_apply]
    refine congrArg p (Shape.idx_ext₂ rfl ?_)
    show 6592 + (4096 + n.val) = 10688 + n.val
    omega
  rw [val_main_v41_apply, e1, e2]
  rfl

/-- The padding's value. -/
theorem zero_apply (i : S_.Idx) : val_main_call0_v0 (F := Ideal) i = 0 := by
  show (((0#32 : BitVec 32).toInt : ℝ) : EReal) = 0
  norm_num

theorem before2_apply : val_main_v45 (F := Ideal) p (ix3 s t n) = before p 2 (tok s t) n := by
  rw [val_main_v45_apply]
  unfold before
  have ht := t.isLt
  have hm : (tok s t).val % 4096 = t.val := by show (s.val * 4096 + t.val) % 4096 = t.val; omega
  rw [hm]
  by_cases h : t.val < 2
  · rw [if_pos h, ← zero_apply (Shape.Idx.first h_S_)]
    refine pad_apply_of_not_inside _ _ _ _ _ _ _ _ (1 : Fin 3) fun hh => ?_
    have h1 : 2 ≤ t.val := hh.1
    omega
  · rw [if_neg h]
    have e : (⟨(tok s t).val - 2, by have := (tok s t).isLt; omega⟩ : Fin 8192) = tok s ⟨t.val - 2, by omega⟩ := by
      refine Fin.ext ?_
      show s.val * 4096 + t.val - 2 = s.val * 4096 + (t.val - 2)
      omega
    rw [e, ← z_apply]
    refine pad_apply_of_inside _ _ _ _ _ _ _ _ _ fun a => ?_
    match a with
    | ⟨0, _⟩ => show s.val = 0 + s.val * (0 + 1); omega
    | ⟨1, _⟩ => show t.val = 2 + (t.val - 2) * (0 + 1); omega
    | ⟨2, _⟩ => show n.val = 0 + n.val * (0 + 1); omega

theorem before1_apply : val_main_v54 (F := Ideal) p (ix3 s t n) = before p 1 (tok s t) n := by
  rw [val_main_v54_apply]
  unfold before
  have ht := t.isLt
  have hm : (tok s t).val % 4096 = t.val := by show (s.val * 4096 + t.val) % 4096 = t.val; omega
  rw [hm]
  by_cases h : t.val < 1
  · rw [if_pos h, ← zero_apply (Shape.Idx.first h_S_)]
    refine pad_apply_of_not_inside _ _ _ _ _ _ _ _ (1 : Fin 3) fun hh => ?_
    have h1 : 1 ≤ t.val := hh.1
    omega
  · rw [if_neg h]
    have e : (⟨(tok s t).val - 1, by have := (tok s t).isLt; omega⟩ : Fin 8192) = tok s ⟨t.val - 1, by omega⟩ := by
      refine Fin.ext ?_
      show s.val * 4096 + t.val - 1 = s.val * 4096 + (t.val - 1)
      omega
    rw [e, ← z_apply]
    refine pad_apply_of_inside _ _ _ _ _ _ _ _ _ fun a => ?_
    match a with
    | ⟨0, _⟩ => show s.val = 0 + s.val * (0 + 1); omega
    | ⟨1, _⟩ => show t.val = 1 + (t.val - 1) * (0 + 1); omega
    | ⟨2, _⟩ => show n.val = 0 + n.val * (0 + 1); omega

theorem before0_apply : val_main_v61 (F := Ideal) p (ix3 s t n) = z p (tok s t) n := by
  rw [← z_apply]
  refine pad_apply_of_inside _ _ _ _ _ _ _ _ _ fun a => ?_
  match a with
  | ⟨0, _⟩ => show s.val = 0 + s.val * (0 + 1); omega
  | ⟨1, _⟩ => show t.val = 0 + t.val * (0 + 1); omega
  | ⟨2, _⟩ => show n.val = 0 + n.val * (0 + 1); omega

theorem tap0_apply : val_main_v47 (F := Ideal) cw (ix3 s t n) = cw (ix3 (0 : Fin 1) n (0 : Fin 3)) := by
  rw [val_main_v47_apply, val_main_v46_apply, val_main_v43_apply, val_main_v42_apply]
  refine congrArg cw (funext fun a => ?_)
  have := n.isLt
  match a with
  | ⟨0, _⟩ => rfl
  | ⟨1, _⟩ => refine Fin.ext ?_; show n.val / 1 % 2048 = n.val; omega
  | ⟨2, _⟩ => rfl

theorem tap1_apply : val_main_v56 (F := Ideal) cw (ix3 s t n) = cw (ix3 (0 : Fin 1) n (1 : Fin 3)) := by
  rw [val_main_v56_apply, val_main_v55_apply, val_main_v52_apply, val_main_v51_apply]
  refine congrArg cw (funext fun a => ?_)
  have := n.isLt
  match a with
  | ⟨0, _⟩ => rfl
  | ⟨1, _⟩ => refine Fin.ext ?_; show n.val / 1 % 2048 = n.val; omega
  | ⟨2, _⟩ => rfl

theorem tap2_apply : val_main_v63 (F := Ideal) cw (ix3 s t n) = cw (ix3 (0 : Fin 1) n (2 : Fin 3)) := by
  rw [val_main_v63_apply, val_main_v62_apply, val_main_v60_apply, val_main_v59_apply]
  refine congrArg cw (funext fun a => ?_)
  have := n.isLt
  match a with
  | ⟨0, _⟩ => rfl
  | ⟨1, _⟩ => refine Fin.ext ?_; show n.val / 1 % 2048 = n.val; omega
  | ⟨2, _⟩ => rfl

/-- The right half, by sequence and token. -/
theorem right_apply : val_main_v66 (F := Ideal) p cw (ix3 s t n) = right p cw (tok s t) n := by
  rw [val_main_v66_apply, val_main_v65_apply, val_main_v58_apply, val_main_v50_apply, val_main_v48_apply, val_main_v57_apply,
    val_main_v64_apply, val_main_v49_apply, val_main_cst_4_apply, gate_apply, tap0_apply, tap1_apply, tap2_apply, before2_apply,
    before1_apply, before0_apply]
  simp only [Ideal.ofBits_def, Ideal.addf_def, Ideal.mulf_def, Ideal.ofBits_zero_f32, zero_add]
  rfl

end Conv

section Result

variable (x0 : FVec Ideal S8192x2048 .f32) (x1 x2 : FVec Ideal S8192x2048 .bf16) (x3 x4 : FVec Ideal S1x2048 .f32)
  (x5 : FVec Ideal S8192x12800 .f32) (x6 : FVec Ideal S1x2048x3 .f32) (r : Fin 8192) (n : Fin 2048)

theorem flat_idx (c : Fin 4096) : idx_main_v68 (ix2 r c)
    = ix3 (⟨r.val / 4096, by have := r.isLt; omega⟩ : Fin 2) (⟨r.val % 4096, Nat.mod_lt _ (by norm_num)⟩ : Fin 4096) c := by
  have hr := r.isLt
  have hc := c.isLt
  funext a
  refine Fin.ext ?_
  match a with
  | ⟨0, _⟩ => show (r.val * 4096 + c.val) / 16777216 = r.val / 4096; omega
  | ⟨1, _⟩ => show (r.val * 4096 + c.val) / 4096 % 4096 = r.val % 4096; omega
  | ⟨2, _⟩ => show (r.val * 4096 + c.val) % 4096 = c.val; omega

theorem tok_split : tok (⟨r.val / 4096, by have := r.isLt; omega⟩ : Fin 2) (⟨r.val % 4096, Nat.mod_lt _ (by norm_num)⟩ : Fin 4096) = r := by
  refine Fin.ext ?_
  show r.val / 4096 * 4096 + r.val % 4096 = r.val
  omega

/-- The reference's result in its left half. -/
theorem ref_left : val_main_v69 (F := Ideal) x0 x1 x2 x3 x4 x5 x6 (ix2 r (⟨n.val, by have := n.isLt; omega⟩ : Fin 4096))
    = left x0 x1 x2 x3 x4 r n := by
  rw [val_main_v69_apply, val_main_v68_apply, flat_idx, Ideal.truncf_def]
  have h := left_apply x0 x1 x2 x3 x4 (⟨r.val / 4096, by have := r.isLt; omega⟩ : Fin 2) (⟨r.val % 4096, Nat.mod_lt _ (by norm_num)⟩ : Fin 4096) n
  rw [tok_split] at h
  rw [← h]
  unfold val_main_v67
  refine concatenate_pair_apply_left (t := S2x4096x4096) (s₁ := S2x4096x2048) (s₂ := S2x4096x2048) (2 : Fin 3) (val_main_v35 (F := Ideal) x0 x1 x2 x3 x4)
    (val_main_v66 (F := Ideal) x5 x6) _ _ rfl _ fun b => ?_
  match b with
  | ⟨0, _⟩ => rfl
  | ⟨1, _⟩ => rfl
  | ⟨2, _⟩ => rfl

/-- The reference's result in its right half. -/
theorem ref_right : val_main_v69 (F := Ideal) x0 x1 x2 x3 x4 x5 x6 (ix2 r (⟨2048 + n.val, by have := n.isLt; omega⟩ : Fin 4096))
    = right x5 x6 r n := by
  rw [val_main_v69_apply, val_main_v68_apply, flat_idx, Ideal.truncf_def]
  have h := right_apply x5 x6 (⟨r.val / 4096, by have := r.isLt; omega⟩ : Fin 2) (⟨r.val % 4096, Nat.mod_lt _ (by norm_num)⟩ : Fin 4096) n
  rw [tok_split] at h
  rw [← h]
  unfold val_main_v67
  refine concatenate_pair_apply_right (t := S2x4096x4096) (s₁ := S2x4096x2048) (s₂ := S2x4096x2048) (2 : Fin 3) (val_main_v35 (F := Ideal) x0 x1 x2 x3 x4)
    (val_main_v66 (F := Ideal) x5 x6) _ _ rfl rfl _ (fun b hb => ?_) ?_
  · match b with
    | ⟨0, _⟩ => rfl
    | ⟨1, _⟩ => rfl
    | ⟨2, _⟩ => exact absurd rfl hb
  · first | rfl | exact Nat.add_comm _ _

end Result

end Cert.MixRef

end
-- ==== Proof.Mix.lean ====
/-
  The value of the output mix: the blocks the points write back make up the reference's result, where the head outputs
  are finite.
-/
module

public import proofs.«01_k».proof.Defs
public import proofs.«01_k».proof.Proof.MixBlocks
public import proofs.«01_k».proof.Proof.MixRef

@[expose] public section

noncomputable section

open Idealize.ShloMosaic Idealize.ShloMosaic.TcCoe Idealize.SL.Sem Idealize.ShloMosaic.ValueIdx
open Idealize.ShloMosaic.Pipeline (Dat)

namespace Cert.Mix

open Cert.KernelIdeal Cert.KernelIdeal.Gen Cert.HeadNorm Cert.HeadSum Cert.ConvTaps

variable (m : (ℓ : Loc nD τ sig) → Buf (Elt Ideal) ℓ)

/-- The result: the reference's function of the arguments. -/
abbrev G (c : Dev nD) : Buf (Elt Ideal) ((c : Thread nD τ).loc main_v7) :=
  Cert.ReferenceIdeal.Read.val_main_v69 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The head outputs are real numbers. -/
def FiniteY (c : Dev nD) : Prop :=
  ∀ i : S8192x2048.Idx, ∃ r : ℝ, m ((c : Thread nD τ).loc main_arg0) i = (r : EReal)

theorem hz : (![0, 0] : Fin 2 → Nat) = fun _ => 0 := funext fun a => by fin_cases a <;> rfl

/-- The product the convolution runs over, in the block and in the rows above it. -/
theorem z_blk (c : Dev nD) (t : Fin cfg0.N) (j : Fin 128) (n : Fin 2048) :
    k0_pay52 (F := Ideal) (iblk m c 6 t) (iblk m c 7 t) (ix2 j (pad64 n)) = MixRef.z (m ((c : Thread nD τ).loc main_arg5)) (row t j) n :=
  congrArg₂ (fun a b : EReal => a * b) (blk6_apply m c t j n) (blk7_apply m c t j n)

theorem z_above (c : Dev nD) (t : Fin cfg0.N) (k : Fin 8) (n : Fin 2048) :
    k0_pay53 (F := Ideal) (iblk m c 8 t) (iblk m c 9 t) (ix2 k (pad64 n)) = MixRef.z (m ((c : Thread nD τ).loc main_arg5)) (rowAbove t k) n :=
  congrArg₂ (fun a b : EReal => a * b) (blk8_apply m c t k n) (blk9_apply m c t k n)

/-- One row up, within the sequence. -/
theorem down1_blk (c : Dev nD) (t : Fin cfg0.N) (j : Fin 128) (n : Fin 2048) :
    down1 (firstBit (grid0.coords t)) (k0_pay52 (F := Ideal) (iblk m c 6 t) (iblk m c 7 t)) (k0_pay53 (F := Ideal) (iblk m c 8 t) (iblk m c 9 t))
      (ix2 j (pad64 n)) = MixRef.before (m ((c : Thread nD τ).loc main_arg5)) 1 (row t j) n := by
  have ht : t.val < 64 := t.isLt
  have hj := j.isLt
  rw [down1_apply, firstBit_eq]
  unfold MixRef.before
  by_cases h : j.val < 1
  · rw [dif_pos h]
    by_cases h0 : t.val % 32 = 0
    · rw [if_pos h0, if_pos rfl, if_pos (show (t.val * 128 + j.val) % 4096 < 1 by omega)]
    · rw [if_neg h0, if_neg (by decide), if_neg (show ¬ (t.val * 128 + j.val) % 4096 < 1 by omega), z_above]
      refine congrArg (fun r => MixRef.z _ r n) (Fin.ext ?_)
      show t.val * 128 - 8 + 7 = t.val * 128 + j.val - 1
      omega
  · rw [dif_neg h, if_neg (show ¬ (t.val * 128 + j.val) % 4096 < 1 by omega), z_blk]
    refine congrArg (fun r => MixRef.z _ r n) (Fin.ext ?_)
    show t.val * 128 + (j.val - 1) = t.val * 128 + j.val - 1
    omega

/-- Two rows up, within the sequence. -/
theorem down2_blk (c : Dev nD) (t : Fin cfg0.N) (j : Fin 128) (n : Fin 2048) :
    down2 (firstBit (grid0.coords t)) (k0_pay52 (F := Ideal) (iblk m c 6 t) (iblk m c 7 t)) (k0_pay53 (F := Ideal) (iblk m c 8 t) (iblk m c 9 t))
      (ix2 j (pad64 n)) = MixRef.before (m ((c : Thread nD τ).loc main_arg5)) 2 (row t j) n := by
  have ht : t.val < 64 := t.isLt
  have hj := j.isLt
  rw [down2_apply, firstBit_eq]
  unfold MixRef.before
  by_cases h : j.val < 2
  · rw [dif_pos h]
    by_cases h0 : t.val % 32 = 0
    · rw [if_pos h0, if_pos rfl, if_pos (show (t.val * 128 + j.val) % 4096 < 2 by omega)]
    · rw [if_neg h0, if_neg (by decide), if_neg (show ¬ (t.val * 128 + j.val) % 4096 < 2 by omega), z_above]
      refine congrArg (fun r => MixRef.z _ r n) (Fin.ext ?_)
      show t.val * 128 - 8 + (6 + j.val) = t.val * 128 + j.val - 2
      omega
  · rw [dif_neg h, if_neg (show ¬ (t.val * 128 + j.val) % 4096 < 2 by omega), z_blk]
    refine congrArg (fun r => MixRef.z _ r n) (Fin.ext ?_)
    show t.val * 128 + (j.val - 2) = t.val * 128 + j.val - 2
    omega

/-- The left half of the block. -/
theorem left_blk (c : Dev nD) (hy : FiniteY m c) (t : Fin cfg0.N) (j : Fin 128) (n : Fin 2048) :
    first (F := Ideal) (iblk m c 0 t) (iblk m c 1 t) (iblk m c 2 t) (iblk m c 3 t) (iblk m c 4 t) ones (ix2 j n)
      = MixRef.left (m ((c : Thread nD τ).loc main_arg0)) (m ((c : Thread nD τ).loc main_arg1)) (m ((c : Thread nD τ).loc main_arg2))
          (m ((c : Thread nD τ).loc main_arg3)) (m ((c : Thread nD τ).loc main_arg4)) (row t j) n := by
  have hv : Finite (iblk m c 0 t) := fun i => by
    obtain ⟨j, n, rfl⟩ : ∃ (j : Fin 128) (n : Fin 2048), i = ix2 j n := ⟨i 0, i 1, eq_ix2 i⟩
    rw [blk0_apply]
    exact hy _
  refine (first_apply _ hv (iblk m c 1 t) (iblk m c 2 t) (iblk m c 3 t) (iblk m c 4 t) j n).trans ?_
  rw [blk1_apply, blk2_apply, blk3_apply, blk4_apply]
  simp only [blk0_apply]
  rfl

/-- The right half of the block. -/
theorem right_blk (c : Dev nD) (t : Fin cfg0.N) (j : Fin 128) (n : Fin 2048) :
    k0_pay56 (F := Ideal) (firstBit (grid0.coords t)) (k0_pay52 (iblk m c 6 t) (iblk m c 7 t)) (k0_pay53 (iblk m c 8 t) (iblk m c 9 t))
        (k0_pay54 (iblk m c 10 t)) (k0_pay55 (iblk m c 10 t)) (iota .tc S128x2176 32 [0] iota_S128x2176_d0_w32) (iblk m c 5 t) (ix2 j n)
      = MixRef.right (m ((c : Thread nD τ).loc main_arg5)) (m ((c : Thread nD τ).loc main_arg6)) (row t j) n := by
  refine (second_apply _ (iblk m c 5 t) _ _ (iblk m c 10 t) j n).trans ?_
  rw [down1_blk, down2_blk, z_blk, blk5_apply, blk10_apply m c t 0 0 rfl, blk10_apply m c t 1 1 rfl, blk10_apply m c t 2 2 rfl]
  rfl

/-- What a point writes back is its rows of the reference's result. -/
theorem flushed_eq (c : Dev nD) (hy : FiniteY m c) (t : Fin cfg0.N) :
    (dats m 0 c).flushed 11 t = (win0_11.blk t).view.read (Elt Ideal) (G m c) := by
  rw [Value.flushed11]
  obtain ⟨e0, e1, -⟩ := idx_rows t
  refine funext fun y => ?_
  show out0_11 (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) y = G m c ((win0_11.rect t).emb y)
  rw [out_eq]
  refine View.canon_apply_of_pieces (fun y : S128x4096.Idx => G m c ((win0_11.rect t).emb y)) _ (fun p hp => ?_) y (cover0_11 _ _ y)
  rcases List.mem_cons.mp hp with rfl | hp
  · intro x
    obtain ⟨j, n, rfl⟩ : ∃ (j : Fin 128) (n : Fin 2048), x = ix2 j n := ⟨x 0, x 1, eq_ix2 x⟩
    have ey : (win0_11.rect t).emb (r0_5.emb (ix2 j n)) = ix2 (row t j) (⟨2048 + n.val, by have := n.isLt; omega⟩ : Fin 4096) := by
      refine Shape.idx_ext₂ ?_ ?_
      · rw [win0_11.rect_emb_val, e0]; show t.val * 128 + (0 + 1 * j.val) = t.val * 128 + j.val; omega
      · rw [win0_11.rect_emb_val, e1]; show 0 * 4096 + (2048 + 1 * n.val) = 2048 + n.val; omega
    dsimp only
    rw [View.ld_unit_zero hz, View.ld_unit_zero hz, View.ld_unit_zero hz, View.ld_unit_zero hz, View.ld_unit_zero hz, View.ld_unit_zero hz]
    refine (right_blk m c t j n).trans ?_
    show _ = G m c ((win0_11.rect t).emb (r0_5.emb (ix2 j n)))
    rw [ey]
    exact (MixRef.ref_right _ _ _ _ _ _ _ (row t j) n).symm
  · obtain rfl := List.mem_singleton.mp hp
    intro x
    obtain ⟨j, n, rfl⟩ : ∃ (j : Fin 128) (n : Fin 2048), x = ix2 j n := ⟨x 0, x 1, eq_ix2 x⟩
    have ey : (win0_11.rect t).emb (r0_2.emb (ix2 j n)) = ix2 (row t j) (⟨n.val, by have := n.isLt; omega⟩ : Fin 4096) := by
      refine Shape.idx_ext₂ ?_ ?_
      · rw [win0_11.rect_emb_val, e0]; show t.val * 128 + (0 + 1 * j.val) = t.val * 128 + j.val; omega
      · rw [win0_11.rect_emb_val, e1]; show 0 * 4096 + (0 + 1 * n.val) = n.val; omega
    dsimp only
    rw [View.ld_unit_zero hz, View.ld_unit_zero hz, View.ld_unit_zero hz, View.ld_unit_zero hz, View.ld_unit_zero hz]
    refine (left_blk m c hy t j n).trans ?_
    show _ = G m c ((win0_11.rect t).emb (r0_2.emb (ix2 j n)))
    rw [ey]
    exact (MixRef.ref_left _ _ _ _ _ _ _ (row t j) n).symm

/-- An index of the result is in point `t`'s block when its row is. -/
theorem mem_blk (t : Fin cfg0.N) (i : S8192x4096.Idx) :
    i ∈ ((cfg0.win 11).blk t).view.set ↔ ∀ a : Fin 2, win0_11.index t a * win0_11.size a ≤ (i a).val
      ∧ (i a).val < win0_11.index t a * win0_11.size a + win0_11.xsize (grid0.coords t) a := by
  show i ∈ ((View.whole main_v7).slice (win0_11.rect t)).set ↔ _
  rw [View.set_slice_whole, Rect.mem_set_unit]
  exact Iff.rfl

theorem cover (i : S8192x4096.Idx) : ∃ t : Fin cfg0.N, (cfg0.win 11).flush t = true ∧ i ∈ ((cfg0.win 11).blk t).view.set := by
  have h0 : (i 0).val < 8192 := (i 0).isLt
  have h1 : (i 1).val < 4096 := (i 1).isLt
  have ht : (i 0).val / 128 < cfg0.N := by show _ < 64; omega
  refine ⟨⟨_, ht⟩, flush0_11 _, ?_⟩
  rw [mem_blk]
  obtain ⟨e0, e1, -⟩ := idx_rows ⟨_, ht⟩
  intro a
  match a with
  | ⟨0, _⟩ => show win0_11.index _ (0 : Fin 2) * 128 ≤ (i 0).val ∧ (i 0).val < win0_11.index _ (0 : Fin 2) * 128 + 128
              rw [e0]; dsimp only; omega
  | ⟨1, _⟩ => show win0_11.index _ (1 : Fin 2) * 4096 ≤ (i 1).val ∧ (i 1).val < win0_11.index _ (1 : Fin 2) * 4096 + 4096
              rw [e1]; omega

/-- The result array after the run is the reference's function of the arguments. -/
theorem final (c : Dev nD) (hy : FiniteY m c) : (dats m 0 c).arrAt 11 cfg0.N = G m c :=
  (dats m 0 c).arrAt_eq_of_cover 11 (G m c) (fun t _ => flushed_eq m c hy t) cover

/-- A number whose absolute value is below infinity is real. -/
theorem real_of_lt (a : EReal) (h : Ideal.cmp .olt (max a (-a)) (Ideal.ofBits .f32 0x7F800000#32) = 1#1) : ∃ r : ℝ, a = (r : EReal) := by
  have hi : Ideal.ofBits .f32 0x7F800000#32 = ⊤ := by simp [Ideal.ofBits, Ideal.ieee]
  rw [hi] at h
  induction a using EReal.rec with
  | bot => simp [Ideal.cmp] at h
  | coe r => exact ⟨r, rfl⟩
  | top => simp [Ideal.cmp] at h

/-- The precondition says that the head outputs are real. -/
theorem finite_of_pre [Cert.Pre_finite_y.Facts] (h : Cert.Pre_KernelIdeal_finite_y m) (c : Dev nD) : FiniteY m c := fun i =>
  real_of_lt _ (congrFun (h c) i)

/-- On the extended reals, where the head outputs are finite, the call computes the reference's mix. -/
theorem algebraic [Cert.Pre_finite_y.Facts] : Cert.algebraic_KernelIdeal_ReferenceIdeal_pre_finite_y := by
  intro m g m' g' hpre hagree
  refine ⟨fun c => G m c, (θ_run Cert.KernelIdeal.defs _ _).mono (fun r h c => ?_) (Value.run_blocks (F := Ideal) m g),
    (θ_run Cert.ReferenceIdeal.defs _ _).mono (fun r h c => ?_) (Cert.ReferenceIdeal.Value.run (F := Ideal) m' g')⟩
  · exact ⟨(h c).1.trans (final m c (finite_of_pre m hpre c)), (h c).2⟩
  · refine ⟨(h c).1.trans ?_, (h c).2⟩
    obtain ⟨a0, a1, a2, a3, a4, a5, a6⟩ := hagree c
    rw [Cert.ReferenceIdeal.Read.val_main_v69_eq, a0, a1, a2, a3, a4, a5, a6]

end Cert.Mix

end
-- ==== Proof.InProjRun.lean ====
/-
  The run of the input projection. A point of the 8 × 25 grid multiplies a block of 1024 normalized rows by 512 columns of the
  weight. The normalized rows are computed at the first point of a row block and kept in scratch for the 24 others, so the
  invariant carries them; the last weight block of a row overhangs its array, so what the body reads there is stated up to the
  words outside the array, and what it leaves in the result's block as the product for some such words.
-/
module

public import proofs.«01_k».proof.Proof.Gen.Kernel2Ideal.Frame
public import proofs.«01_k».proof.Proof.Gen.Kernel2Ideal.Skeleton
public import Idealize.ShloMosaic.Lib.Claim
public import Idealize.ShloMosaic.Lib.Pipeline.DatRel
public import Idealize.ShloMosaic.Lib.Pipeline.ArrRel

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The normalized rows -/

abbrev rw_ : Rect S1x4096 := Rect.unit (s := S1x4096) ![0, 0] S1x4096.size inb_S1x4096_S1x4096_0_0
abbrev r0 : Rect S1024x4096 := Rect.unit (s := S1024x4096) ![0, 0] S128x4096.size inb_S1024x4096_S128x4096_0_0
abbrev r1 : Rect S1024x4096 := Rect.unit (s := S1024x4096) ![128, 0] S128x4096.size inb_S1024x4096_S128x4096_128_0
abbrev r2 : Rect S1024x4096 := Rect.unit (s := S1024x4096) ![256, 0] S128x4096.size inb_S1024x4096_S128x4096_256_0
abbrev r3 : Rect S1024x4096 := Rect.unit (s := S1024x4096) ![384, 0] S128x4096.size inb_S1024x4096_S128x4096_384_0
abbrev r4 : Rect S1024x4096 := Rect.unit (s := S1024x4096) ![512, 0] S128x4096.size inb_S1024x4096_S128x4096_512_0
abbrev r5 : Rect S1024x4096 := Rect.unit (s := S1024x4096) ![640, 0] S128x4096.size inb_S1024x4096_S128x4096_640_0
abbrev r6 : Rect S1024x4096 := Rect.unit (s := S1024x4096) ![768, 0] S128x4096.size inb_S1024x4096_S128x4096_768_0
abbrev r7 : Rect S1024x4096 := Rect.unit (s := S1024x4096) ![896, 0] S128x4096.size inb_S1024x4096_S128x4096_896_0

/-- The scratch after the first point of a row block: its eight stores of 128 normalized rows, last first. -/
def normed (x : Vec F S1024x4096 .f32) (w : Vec F S1x4096 .f32) : Vec F S1024x4096 .bf16 :=
  View.canon [⟨r7, k0_pay9 (View.ld x r7) (View.ld w rw_)⟩, ⟨r6, k0_pay8 (View.ld x r6) (View.ld w rw_)⟩,
    ⟨r5, k0_pay7 (View.ld x r5) (View.ld w rw_)⟩, ⟨r4, k0_pay6 (View.ld x r4) (View.ld w rw_)⟩,
    ⟨r3, k0_pay5 (View.ld x r3) (View.ld w rw_)⟩, ⟨r2, k0_pay4 (View.ld x r2) (View.ld w rw_)⟩,
    ⟨r1, k0_pay3 (View.ld x r1) (View.ld w rw_)⟩, ⟨r0, k0_pay2 (View.ld x r0) (View.ld w rw_)⟩]

/-- The eight stores tile the scratch. -/
theorem cover_normed (p7 p6 p5 p4 p3 p2 p1 p0 : Vec F S128x4096 .bf16) (y : S1024x4096.Idx) :
    ∃ pc ∈ ([⟨r7, p7⟩, ⟨r6, p6⟩, ⟨r5, p5⟩, ⟨r4, p4⟩, ⟨r3, p3⟩, ⟨r2, p2⟩, ⟨r1, p1⟩, ⟨r0, p0⟩] :
      List (View.Piece (Elt F) S1024x4096 .bf16)), y ∈ pc.1.set :=
  View.cover_of_tiled (s := S1024x4096) _ S128x4096.size (by rfl) y

abbrev ra : Rect S1024x4096 := Rect.unit (s := S1024x4096) ![0, 0] S1024x4096.size inb_S1024x4096_S1024x4096_0_0
abbrev rb : Rect S1x512x4096 := Rect.unit (s := S1x512x4096) ![0, 0, 0] S1x512x4096.size inb_S1x512x4096_S1x512x4096_0_0_0
abbrev ro : Rect S1024x512 := Rect.unit (s := S1024x512) ![0, 0] S1024x512.size inb_S1024x512_S1024x512_0_0

/-- The tile of products the body leaves. -/
def prod (i : grid0.Coords) (b : Vec F S1x512x4096 .f32) (a : Vec F S1024x4096 .bf16) : Vec F S1024x512 .f32 :=
  View.canon [⟨ro, k0_pay1 i (View.ld b rb) (View.ld a ra)⟩]

theorem cover_prod (p : Vec F S1024x512 .f32) (y : S1024x512.Idx) :
    ∃ pc ∈ ([⟨ro, p⟩] : List (View.Piece (Elt F) S1024x512 .f32)), y ∈ pc.1.set :=
  View.cover_of_tiled [⟨ro, p⟩] S1024x512.size (by rfl) y

/-- The point is the first of its row block, as the body tests it. -/
abbrev isFirst (i : grid0.Coords) : BitVec 1 :=
  Scalar.cmpi .ne (Scalar.extui (Scalar.cmpi .eq (BitVec.ofNat 32 (i 1).val) 0#32)) 0#32

set_option maxHeartbeats 4000000 in
/-- A point that finds its row block normalized in scratch. -/
theorem sound_kept (c : Dev nD) (E : Set ℕ) (i : grid0.Coords)
    (hc : ¬ isFirst i = 1#1)
    (arg2 : Memref sig .tc .vmem S1x512x4096 .f32) (harg2 : arg2.IsWhole) (arg3 : Memref sig .tc .vmem S1x4096 .f32) (harg3 : arg3.IsWhole) (arg4 : Memref sig .tc .vmem S1024x4096 .f32) (harg4 : arg4.IsWhole) (arg5 : Memref sig .tc .vmem S1024x512 .f32) (harg5 : arg5.IsWhole) (arg6 : Memref sig .tc .vmem S1024x4096 .bf16) (harg6 : arg6.IsWhole)
    (b : Vec F S1x512x4096 .f32) (a : Vec F S1024x4096 .bf16) (K : PUnit → sProp 𝕄) :
    iprop(owns (c : Thread nD τ) arg2 fullShare b ∗ (∃ d, owns (c : Thread nD τ) arg5 fullShare d) ∗ owns (c : Thread nD τ) arg6 fullShare a
        ∗ (iprop(owns (c : Thread nD τ) arg2 fullShare b ∗ owns (c : Thread nD τ) arg5 fullShare (prod i b a) ∗ owns (c : Thread nD τ) arg6 fullShare a) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton]; unfold cc0_norm_matmul_skel
  unfold owns
  iintro ⟨⟨%f0, %hf0, H0⟩, ⟨%d1, %f1, -, H1⟩, ⟨%f2, %hf2, H2⟩, Hk⟩
  subst hf0 hf2
  sl_exec (disch := sl_exact hc)
  sl_step
  iapply Hk
  isplitl [H0]
  · iexists f0; isplitr; · ipureintro; rfl
    iexact H0
  isplitl [H1]
  · iexists _; isplitr
    swap; · iexact H1
    ipureintro
    exact View.read_writes_eq_canon _ _ _ (cover_prod _)
  iexists f2; isplitr; · ipureintro; rfl
  iexact H2

set_option maxHeartbeats 4000000 in
/-- The first point of a row block: it normalizes the rows into scratch. -/
theorem sound_first (c : Dev nD) (E : Set ℕ) (i : grid0.Coords)
    (hc : isFirst i = 1#1)
    (arg2 : Memref sig .tc .vmem S1x512x4096 .f32) (harg2 : arg2.IsWhole) (arg3 : Memref sig .tc .vmem S1x4096 .f32) (harg3 : arg3.IsWhole) (arg4 : Memref sig .tc .vmem S1024x4096 .f32) (harg4 : arg4.IsWhole) (arg5 : Memref sig .tc .vmem S1024x512 .f32) (harg5 : arg5.IsWhole) (arg6 : Memref sig .tc .vmem S1024x4096 .bf16) (harg6 : arg6.IsWhole)
    (b : Vec F S1x512x4096 .f32) (w : Vec F S1x4096 .f32) (x : Vec F S1024x4096 .f32) (K : PUnit → sProp 𝕄) :
    iprop(owns (c : Thread nD τ) arg2 fullShare b ∗ owns (c : Thread nD τ) arg3 fullShare w ∗ owns (c : Thread nD τ) arg4 fullShare x
        ∗ (∃ d, owns (c : Thread nD τ) arg5 fullShare d) ∗ (∃ d, owns (c : Thread nD τ) arg6 fullShare d)
        ∗ (iprop(owns (c : Thread nD τ) arg2 fullShare b ∗ owns (c : Thread nD τ) arg3 fullShare w ∗ owns (c : Thread nD τ) arg4 fullShare x
            ∗ owns (c : Thread nD τ) arg5 fullShare (prod i b (normed x w)) ∗ owns (c : Thread nD τ) arg6 fullShare (normed x w)) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton, k0_part1_eq_skeleton, k0_part2_eq_skeleton, k0_part3_eq_skeleton, k0_part4_eq_skeleton]
  unfold cc0_norm_matmul_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_prod _)).trans ?_
    sl_unfold_run_names
    unfold prod normed
    rw [← View.readCov_eq_canon_ld arg6.view _ ra (cover_normed _ _ _ _ _ _ _ _)]
    rfl
  iexists _; isplitr
  swap; · iexact H4
  ipureintro
  exact View.read_writes_eq_canon _ _ _ (cover_normed _ _ _ _ _ _ _ _)

/-! ## The proof data -/

/-- Where the window of the residual stream lies at a point. -/
theorem index_x : ∀ t : Fin cfg0.N, win0_2.index t (0 : Fin 2) = t.val / 25 ∧ win0_2.index t (1 : Fin 2) = 0 :=
  (by decide +kernel : ∀ t : Fin grid0.N, _)

/-- Points of one row block see the same rows. -/
theorem iblk_x_eq (c : Dev nD) (u t : Fin cfg0.N) (h : u.val / 25 = t.val / 25) :
    (iblk m c 2 u : Vec F S1024x4096 .f32) = iblk m c 2 t := by
  obtain ⟨a0, a1⟩ := index_x u
  obtain ⟨b0, b1⟩ := index_x t
  funext y
  show V m c main_v0 ((win0_2.rect u).emb y) = V m c main_v0 ((win0_2.rect t).emb y)
  refine congrArg _ (Shape.idx_ext₂ ?_ ?_)
  · rw [win0_2.rect_emb_val, win0_2.rect_emb_val, a0, b0, h]
  · rw [win0_2.rect_emb_val, win0_2.rect_emb_val, a1, b1]

/-- Every point sees the same norm weight. -/
theorem iblk_w_eq (c : Dev nD) (u t : Fin cfg0.N) : (iblk m c 1 u : Vec F S1x4096 .f32) = iblk m c 1 t := by
  funext y
  show V m c main_v3 ((win0_1.rect u).emb y) = V m c main_v3 ((win0_1.rect t).emb y)
  refine congrArg _ (Shape.idx_ext₂ ?_ ?_)
  · rw [win0_1.rect_emb_val, win0_1.rect_emb_val]; rfl
  · rw [win0_1.rect_emb_val, win0_1.rect_emb_val]; rfl

/-- The normalized rows of the row block of point `t`. -/
def rows (c : Dev nD) (t : Fin cfg0.N) : Vec F S1024x4096 .bf16 := normed (iblk m c 2 t) (iblk m c 1 t)

theorem rows_eq (c : Dev nD) (u t : Fin cfg0.N) (h : u.val / 25 = t.val / 25) : rows m c u = rows m c t := by
  unfold rows; rw [iblk_x_eq m c u t h, iblk_w_eq m c u t]

/-- The weight's block as the fetch leaves it in the buffer: the part inside the array, `d` outside it. -/
def wbuf (c : Dev nD) (t : Fin cfg0.N) (d : Vec F S1x512x4096 .f32) : Vec F S1x512x4096 .f32 :=
  win0_0.fill (grid0.coords t) d (iblk m c 0 t)

/-- The invariant before point `t`: inside a row block the scratch holds that block's normalized rows. -/
def inv (c : Dev nD) (t : Fin (cfg0.N + 1)) : sProp 𝕄 :=
  iprop((∃ f, ⌜t.val % 25 ≠ 0 → ∃ u : Fin cfg0.N, u.val / 25 = t.val / 25 ∧ f = rows m c u⌝
      ∗ owns (c : Thread nD τ) (Memref.whole cc0_scratch0) fullShare f)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => wbuf m c t (fun _ => Scalar.ofBits .f32 0#32)
    | ⟨1, _⟩ => iblk m c 1 t
    | ⟨2, _⟩ => iblk m c 2 t
    | ⟨3, _⟩ => fun _ => Scalar.ofBits .f32 0#32
  Φ t := inv m c t
  q _ := fullShare
  owed _ := 0

/-- The result's window is the one held to a predicate. -/
def marked : Fin cfg0.W → Bool
  | ⟨3, _⟩ => true
  | _ => false

/-- What the body leaves in the result's block: the product with the weight's block, whatever lies outside its array. -/
def left (c : Dev nD) (w : Fin cfg0.W) (t : Fin cfg0.N) (X : (cfg0.win w).block.Idx → Elt F (cfg0.win w).elt) : Prop :=
  match w with
  | ⟨0, _⟩ => True
  | ⟨1, _⟩ => True
  | ⟨2, _⟩ => True
  | ⟨3, _⟩ => ∃ d, X = prod (grid0.coords t) (wbuf m c t d) (rows m c t)

theorem A_eq (c : Dev nD) (w : Fin cfg0.W) : (dats m 0 c).A w = V m c (Pipeline.arrRef spec0 w) := by
  dsimp only [dats]

theorem after0 (c : Dev nD) (t : Fin cfg0.N) : (dats m 0 c).after 0 t = wbuf m c t (fun _ => Scalar.ofBits .f32 0#32) := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

theorem before0 (c : Dev nD) (t : Fin cfg0.N) (d) : (dats m 0 c).before 0 t d = wbuf m c t d := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

/-- The body tests whether its point is the first of a row block. -/
theorem isFirst_iff : ∀ t : Fin cfg0.N, isFirst (grid0.coords t) = 1#1 ↔ t.val % 25 = 0 :=
  (by decide +kernel : ∀ t : Fin grid0.N, _)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜((dats m 0 c).toRRel marked (left m c)).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, ⌜left m c 3 t X⌝ ∗ owns (c : Thread nD τ) (st0_3 t) fullShare X))

theorem cut_after0 (c : Dev nD) (t : Fin cfg0.N) : win0_0.cut (grid0.coords t) ((dats m 0 c).after 0 t) = iblk m c 0 t := by
  rw [after0]; exact win0_0.cut_fill _ _ _

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = inv m c t.castSucc from rfl, show (dats m 0 c).Φ t.succ = inv m c t.succ from rfl,
    show (dats m 0 c).owesAt () t.succ = (dats m 0 c).owesAt () t.castSucc from rfl, after1, after2]
  unfold inv
  iintro ⟨⟨⟨%f, %hf, Hs⟩, Hr⟩, Ho, ⟨%d0, H0⟩, ⟨%d1, H1⟩, ⟨%d2, H2⟩, ⟨%d3, -, H3⟩⟩
  by_cases hc : isFirst (grid0.coords t) = 1#1
  · iapply (sound_first c Set.univ (grid0.coords t) hc _ _ _ _ _ _ _ _ _ _ (wbuf m c t d0) (iblk m c 1 t) (iblk m c 2 t) _)
    isplitl [H0]; · iexact H0
    isplitl [H1]; · iexact H1
    isplitl [H2]; · iexact H2
    isplitl [H3]; · iexists _; iexact H3
    isplitl [Hs]; · iexists _; iexact Hs
    iintro ⟨H0, H1, H2, H3, Hs⟩
    isplitl [Hs Hr]
    · isplitl [Hs]
      · iexists rows m c t
        isplitr
        · ipureintro
          intro h
          exact ⟨t, by rw [Fin.val_succ] at h ⊢; omega, rfl⟩
        iexact Hs
      iexact Hr
    isplitl [Ho]; · iexact Ho
    isplitl [H0]
    · iexists d0
      have e : win0_0.fill (grid0.coords t) d0 (win0_0.cut (grid0.coords t) ((dats m 0 c).after 0 t)) = wbuf m c t d0 := by
        rw [cut_after0]; rfl
      rw [e]; iexact H0
    isplitl [H1]; · iexact H1
    isplitl [H2]; · iexact H2
    iexists prod (grid0.coords t) (wbuf m c t d0) (rows m c t)
    isplitr; · ipureintro; exact ⟨d0, rfl⟩
    iexact H3
  · have hn : t.val % 25 ≠ 0 := fun h => hc ((isFirst_iff t).mpr h)
    obtain ⟨u, hu, rfl⟩ := hf hn
    rw [rows_eq m c u t hu]
    iapply (sound_kept c Set.univ (grid0.coords t) hc _ _ _ _ _ _ _ _ _ _ (wbuf m c t d0) (rows m c t) _)
    isplitl [H0]; · iexact H0
    isplitl [H3]; · iexists _; iexact H3
    isplitl [Hs]; · iexact Hs
    iintro ⟨H0, H3, Hs⟩
    isplitl [Hs Hr]
    · isplitl [Hs]
      · iexists rows m c t
        isplitr
        · ipureintro
          intro h
          exact ⟨t, by rw [Fin.val_succ] at h ⊢; omega, rfl⟩
        iexact Hs
      iexact Hr
    isplitl [Ho]; · iexact Ho
    isplitl [H0]
    · iexists d0
      have e : win0_0.fill (grid0.coords t) d0 (win0_0.cut (grid0.coords t) ((dats m 0 c).after 0 t)) = wbuf m c t d0 := by
        rw [cut_after0]; rfl
      rw [e]; iexact H0
    isplitl [H1]; · iexact H1
    isplitl [H2]; · iexact H2
    iexists prod (grid0.coords t) (wbuf m c t d0) (rows m c t)
    isplitr; · ipureintro; exact ⟨d0, rfl⟩
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked (left m c) := fun t => by
  rw [bigSep_W0, bigSep_W0, defs₀_row]
  exact triple_restated (sound_body m c t) rfl .rfl fun _ => .rfl

/-! ## The run -/

/-- The tracked run of exact data with the marked windows held to a predicate, at variable data. -/
theorem run_rel (dats : (p : Fin 1) → (c : Dev nD) → Dat τ (Elt F) Unit ℕ (UR sig nD τ) ℕ (cfgs p) c)
    (fgt : Fin cfg0.W → Bool)
    (Rl : (c : Dev nD) → (w : Fin cfg0.W) → Fin cfg0.N → ((cfg0.win w).block.Idx → Elt F (cfg0.win w).elt) → Prop)
    (hbody : ∀ c, Pipeline.BodyObligationRel (dats 0 c) (defs₀ (F := F)) Variants.none () Set.univ fgt (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (fun r => Pipeline.RDat.FramePost cfg0 (fun c => (dats 0 c).toRRel fgt (Rl c)) (V m) r ∧ r.2.sem = fun _ => 0) :=
  Pipeline.RDat.θ_run_frame_track (Q' := _) cfgs (0 : Fin 1) launch0 defs₀ Variants.none (fun c => (dats 0 c).toRRel fgt (Rl c)) m ρ main
    (fun c => (hbody c).toRRel) hshare howed (V m) (hmain m Variants.none) hA hin hout

/-- What the region hands over is the invariant before the first point, -/
theorem inv_in (c : Dev nD) : Pipeline.ΦA spec0 c ⊢ inv m c 0 := by
  unfold Pipeline.ΦA inv
  rw [scopedRest0_eq]
  iintro ⟨⟨%f, Hs⟩, Hr⟩
  isplitl [Hs]
  · iexists f
    isplitr; · ipureintro; intro h; exact absurd rfl h
    rw [owns_whole]; iexact Hs
  iexact Hr

/-- and the invariant after the last gives it back. -/
theorem inv_out (c : Dev nD) : inv m c (Fin.last cfg0.N) ⊢ Pipeline.ΦA spec0 c := by
  unfold Pipeline.ΦA inv
  rw [scopedRest0_eq]
  simp only [owns_whole]
  iintro ⟨⟨%f, -, Hs⟩, Hr⟩
  isplitl [Hs]
  · iexists f; iexact Hs
  iexact Hr

/-- The data's result window, held to `left`. -/
abbrev rdat (c : Dev nD) := (dats m 0 c).toRRel marked (left m c)

theorem run_main : θ_run defs (onTc (τ := τ) (main (F := F))) (s₀ m ρ)
    (fun r => Pipeline.RDat.FramePost cfg0 (rdat m) (V m) r ∧ r.2.sem = fun _ => 0) :=
  run_rel m ρ (dats m) marked (left m) (body_obligation m) (fun c => (dats m 0 c).share_full fun _ => rfl) (fun _ _ => rfl) (A_eq m)
    (inv_in m) (inv_out m)

/-- The arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.InProj

end
-- ==== Proof.Norm.lean ====
/-
  The scale of a root-mean-square norm: what every element of a row is multiplied by, as a function of the row. The two
  constants are the row length 4096 and the epsilon, as the words both programs print.
-/
module

public import Idealize.ShloMosaic.Lib.ValueIdx
public import Idealize.ShloMosaic.PureOps.Ideal.Laws

@[expose] public section

noncomputable section

namespace Cert.Norm

open Idealize.ShloMosaic

/-- One over the square root of the mean square of the row `f` of 4096 elements, the epsilon added. -/
def scale (f : Fin 4096 → EReal) : EReal :=
  Ideal.rsqrt (Ideal.div (∑ k : Fin 4096, f k * f k) (Ideal.ofBits .f32 0x45800000#32) + Ideal.ofBits .f32 0x358637BD#32)

/-- A kernel's sum of squares along the rows of a block, read at a row. -/
theorem sumSq_apply {n : Nat} (x : FVec Ideal ⟨2, ![n, 4096]⟩ .f32)
    (h : (⟨2, ![n, 4096]⟩ : Shape).Reduces [1] ⟨1, ![n]⟩) (hφ : FKind.Formats .f32) (hacc : 0x00000000#32 = FKind.add.neutral .f32 hφ)
    (j : (⟨1, ![n]⟩ : Shape).Idx) :
    multiReduction .add [1] ⟨1, ![n]⟩ (mulf x x) 0x00000000#32 h hφ hacc j
      = ∑ k : Fin 4096, x (ValueIdx.ix2 (j 0) k) * x (ValueIdx.ix2 (j 0) k) := by
  rw [Ideal.multiReduction_add_single]
  refine Finset.sum_congr rfl fun k _ => ?_
  have e : h.lift j k = ValueIdx.ix2 (j 0) k := by
    funext a; apply Fin.ext
    match a with
    | ⟨0, _⟩ => rfl
    | ⟨1, _⟩ => rfl
  rw [e]; rfl

end Cert.Norm

end
-- ==== Proof.NormRows.lean ====
/-
  The row norm of the two kernels that normalize a block of rows before they multiply it: 128 rows at a time, read at an
  index.
-/
module

public import proofs.«01_k».proof.Proof.Norm
public import Idealize.ShloMosaic.Lib.Pipeline.Value
public import Idealize.ShloMosaic.Lib.ValueLayout
public import Idealize.ShloMosaic.Lib.ValueLayoutCasts
public import Idealize.ShloMosaic.Lib.Pipeline.ValueKit.Tiles

@[expose] public section

noncomputable section

namespace Cert.Norm

open Idealize.ShloMosaic Idealize.ShloMosaic.ValueIdx

/-- The element of `x` at row `j` and column `n`, times its row's scale, times the weight's element of the column. -/
def elem {a b : Nat} (x : FVec Ideal ⟨2, ![a, 4096]⟩ .f32) (w : FVec Ideal ⟨2, ![b, 4096]⟩ .f32) (j : Fin a) (i : Fin b) (n : Fin 4096) : EReal :=
  x (ix2 j n) * scale (fun k => x (ix2 j k)) * w (ix2 i n)

abbrev S1024 : Shape := ⟨2, ![1024, 4096]⟩

/-- The norm of 128 rows as a kernel writes it, read at an index. -/
theorem rows_apply (p : FVec Ideal ⟨2, ![128, 4096]⟩ .f32) (w : FVec Ideal ⟨2, ![1, 4096]⟩ .f32)
    (h1 : (⟨2, ![128, 4096]⟩ : Shape).Reduces [1] ⟨1, ![128]⟩) (hφ : FKind.Formats .f32) (hacc : 0x00000000#32 = FKind.add.neutral .f32 hφ)
    (h2 : (⟨1, ![128]⟩ : Shape).ShapeCasts ⟨2, ![128, 1]⟩) (h3 : (⟨2, ![128, 1]⟩ : Shape).Broadcasts ⟨2, ![128, 4096]⟩)
    (h4 : (⟨2, ![1, 4096]⟩ : Shape).Broadcasts ⟨2, ![128, 4096]⟩) (j : Fin 128) (n : Fin 4096) :
    mulf (mulf p (broadcastTo ⟨2, ![128, 4096]⟩ (rsqrt (addf (divf (shapeCast ⟨2, ![128, 1]⟩
        (multiReduction .add [1] ⟨1, ![128]⟩ (mulf p p) 0x00000000#32 h1 hφ hacc) h2)
        (broadcast ⟨2, ![128, 1]⟩ (Scalar.ofBits (F := Ideal) .f32 0x45800000#32)))
        (broadcast ⟨2, ![128, 1]⟩ (Scalar.ofBits (F := Ideal) .f32 0x358637BD#32)))) h3))
      (broadcastTo ⟨2, ![128, 4096]⟩ w h4) (ix2 j n) = elem p w j 0 n := by
  refine congrArg₂ (fun a b : EReal => a * b) (congrArg₂ (fun a b : EReal => a * b) rfl ?_) (broadcastTo_1b_ab_apply w h4 j n)
  refine (broadcastTo_apply _ h3 (ix2 j n) (ix2 j (0 : Fin 1)) fun a => match a with
    | ⟨0, _⟩ => rfl
    | ⟨1, _⟩ => rfl).trans ?_
  exact congrArg (fun s : EReal => Ideal.rsqrt (Ideal.div s (Ideal.ofBits .f32 0x45800000#32) + Ideal.ofBits .f32 0x358637BD#32))
    ((shapeCast_a_a1_apply _ h2 j 0).trans (sumSq_apply p h1 hφ hacc (ix1 j)))

/-- The norm of a band of 128 rows of `x`, stored at the band's place, agrees there with the norm of `x`. -/
theorem band (x : FVec Ideal S1024 .f32) (w : FVec Ideal ⟨2, ![1, 4096]⟩ .f32) (o : Nat)
    (inb : ∀ a, (![o, 0] : Fin 2 → Nat) a + (![128, 4096] : Fin 2 → Nat) a ≤ S1024.size a)
    (p : FVec Ideal ⟨2, ![128, 4096]⟩ .bf16) (v : FVec Ideal ⟨2, ![1, 4096]⟩ .f32) (hv : v = w)
    (hp : ∀ (j : Fin 128) (n : Fin 4096), p (ix2 j n)
      = elem (View.ld (Val := Elt Ideal) (e' := .f32) x (Rect.unit (s := S1024) ![o, 0] ![128, 4096] inb) : FVec Ideal ⟨2, ![128, 4096]⟩ .f32) v j 0 n)
    (r : Fin 1024) (c : Fin 4096) :
    View.TileAt (S := S1024) (Val := Elt Ideal) (e := .bf16) (ix2 r c) ![o, 0] ![128, 4096] p (elem x w r 0 c) := by
  intro y hy
  subst hv
  obtain ⟨j, n, rfl⟩ : ∃ (j : Fin 128) (n : Fin 4096), y = ix2 j n := ⟨y 0, y 1, eq_ix2 y⟩
  have e0 : r.val = o + j.val := (hy 0).symm ▸ rfl
  have e1 : c.val = 0 + n.val := (hy 1).symm ▸ rfl
  have e1' : c = n := Fin.ext (by omega)
  subst e1'
  have el (k : Fin 4096) : (View.ld (Val := Elt Ideal) (e' := .f32) x (Rect.unit (s := S1024) ![o, 0] ![128, 4096] inb) : FVec Ideal ⟨2, ![128, 4096]⟩ .f32) (ix2 j k)
      = x (ix2 r k) :=
    View.ld_unit_apply_of (Val := Elt Ideal) (e := .f32) x _ _ inb (ix2 j k) (ix2 r k) fun a => match a with
      | ⟨0, _⟩ => e0
      | ⟨1, _⟩ => (Nat.zero_add _).symm
  rw [hp]
  unfold elem
  simp only [el]

end Cert.Norm

end
-- ==== Proof.InProj.lean ====
/-
  The value of the input projection: the rows' root-mean-square norm times the weight, tile by tile, with the columns past
  the weight's last one zero, is the reference's.
-/
module

public import proofs.«01_k».proof.Defs
public import proofs.«01_k».proof.Proof.Gen.Kernel2
public import proofs.«01_k».proof.Proof.Gen.Reference2Ideal.Run
public import proofs.«01_k».proof.Proof.Gen.Reference2Ideal.Read
public import proofs.«01_k».proof.Proof.InProjRun
public import proofs.«01_k».proof.Proof.NormRows
public import Idealize.ShloMosaic.Lib.Pipeline.Value
public import Idealize.ShloMosaic.Lib.Pipeline.ArrRel
public import Idealize.ShloMosaic.Lib.MatmulPlain
public import Idealize.ShloMosaic.Lib.KernelVsHost
public import Idealize.ShloMosaic.Lib.StableHlo.Predicate

@[expose] public section

noncomputable section

open Idealize.ShloMosaic Idealize.ShloMosaic.TcCoe Idealize.SL.Sem Idealize.ShloMosaic.ValueIdx
open Idealize.ShloMosaic.Pipeline (Dat)

namespace Cert.InProj

open Cert.Kernel2Ideal Cert.Kernel2Ideal.Gen

/-- The two programs have one body table, written once in each. -/
theorem defs₀_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l with
  | ⟨0, _⟩ => rfl

theorem defs_eq : Cert.Kernel2.defs (F := Bits) = Cert.Kernel2Ideal.defs (F := Bits) :=
  congrArg (Pipeline.defs Cert.Kernel2Ideal.pcfgs) defs₀_eq

/-- The call's program runs without fault and leaves its arguments as they were. -/
theorem frame_kernel : Cert.quiescent_Kernel2 := fun m ρ _ =>
  (congrArg (fun d => θ_run d (onTc (τ := τ) (main (F := Bits))) ⟨m, fun _ => 0, ρ⟩ _) defs_eq).mpr (frame (F := Bits) m ρ)

/-- The same of the ideal program. -/
theorem frame_ideal : Cert.quiescent_Kernel2Ideal := fun m ρ _ => frame (F := Ideal) m ρ

variable (m : (ℓ : Loc nD τ sig) → Buf (Elt Ideal) ℓ) (ρ : Dev nD → PrngReg)

/-! ## The reference at an index -/

/-- The row of `x` that is row `r` of `x` laid out as 8192 rows. -/
abbrev xrow (x0 : FVec Ideal S2x4096x4096 .f32) : FVec Ideal S8192x4096 .f32 :=
  Cert.Reference2Ideal.Read.val_main_v0 (F := Ideal) x0

open Cert.Reference2Ideal.Read in
/-- The reference's norm, read at an index. -/
theorem ref_norm_apply (x0 : FVec Ideal S2x4096x4096 .f32) (x1 : FVec Ideal S1x4096 .f32) (r : Fin 8192) (n : Fin 4096) :
    val_main_v14 (F := Ideal) x0 x1 (ix2 r n) = Norm.elem (xrow x0) x1 r 0 n := by
  rw [val_main_v14_apply, val_main_v11_apply, val_main_v13_apply, val_main_v12_apply, val_main_v10_apply, val_main_v9_apply,
    val_main_v8_apply, val_main_v7_apply, val_main_v6_apply, val_main_v5_apply, val_main_v4_apply, val_main_v3_apply,
    val_main_cst_apply, val_main_cst_0_apply, val_main_cst_1_apply]
  simp only [val_main_v2_apply, Ideal.ofBits_def, Ideal.addf_def, Ideal.mulf_def, Ideal.hostDivf_def,
    Ideal.hostUnary_rsqrt_def, Ideal.ofBits_zero_f32, zero_add]
  have e (k : Fin 4096) : idx_main_v3 (idx_main_v4 (idx_main_v10 (ix2 r n))) k = ix2 r k := by
    funext a; match a with
    | ⟨0, _⟩ => rfl
    | ⟨1, _⟩ => rfl
  have e' : val_main_v1 (F := Ideal) x1 (idx_main_v12 (idx_main_v13 (ix2 r n))) = x1 (ix2 0 n) := by
    rw [val_main_v1_apply]
    refine congrArg x1 (Shape.idx_ext₂ rfl ?_)
    show n.val % 4096 = n.val
    exact Nat.mod_eq_of_lt n.isLt
  simp only [e, e']
  rfl

open Cert.Reference2Ideal.Read in
/-- The reference read at an index: inside the weight's columns the norm's row times the column, and zero past them. -/
theorem ref_apply (x0 : FVec Ideal S2x4096x4096 .f32) (x1 : FVec Ideal S1x4096 .f32) (x2 : FVec Ideal S1x4096x12736 .f32)
    (r : Fin 8192) (n : Fin 12800) :
    val_main_v17 (F := Ideal) x0 x1 x2 (ix2 r n) = if h : n.val < 12736 then
      (∑ k : Fin 4096, Norm.elem (xrow x0) x1 r 0 k * x2 (ix3 (0 : Fin 1) k (⟨n.val, h⟩ : Fin 12736)) : EReal) else 0 := by
  unfold val_main_v17
  split
  · next h =>
    refine (pad_apply_of_inside _ _ _ _ _ _ _ (ix2 r n) (ix2 r (⟨n.val, h⟩ : Fin 12736)) fun a => match a with
      | ⟨0, _⟩ => by show r.val = 0 + r.val * (0 + 1); omega
      | ⟨1, _⟩ => by show n.val = 0 + n.val * (0 + 1); omega).trans ?_
    rw [val_main_v16_apply]
    refine Finset.sum_congr rfl fun k _ => ?_
    refine congrArg₂ (fun a b : EReal => a * b) ?_ ?_
    · have e : lidx_main_v16 (ix2 r (⟨n.val, h⟩ : Fin 12736)) k = ix2 r k := Shape.idx_ext₂ rfl rfl
      rw [e, ref_norm_apply]
    · rw [val_main_v15_apply]
      have hk := k.isLt
      refine congrArg x2 (funext fun a => Fin.ext ?_)
      match a with
      | ⟨0, _⟩ => rfl
      | ⟨1, _⟩ => show (k.val * 12736 + n.val) / 12736 % 4096 = k.val; omega
      | ⟨2, _⟩ => show (k.val * 12736 + n.val) % 12736 = n.val; omega
  · next h =>
    refine (pad_apply_of_not_inside _ _ _ _ _ _ _ (ix2 r n) (1 : Fin 2) ?_).trans ?_
    · show ¬(0 ≤ n.val ∧ (n.val - 0) % (0 + 1) = 0 ∧ (n.val - 0) / (0 + 1) < 12736)
      omega
    · rw [val_main_call0_v0_apply]
      show (((0#32 : BitVec 32).toInt : ℝ) : EReal) = 0
      simp

/-- The result: the reference's function of the arguments. -/
abbrev G (c : Dev nD) : Buf (Elt Ideal) ((c : Thread nD τ).loc main_v4) :=
  Cert.Reference2Ideal.Read.val_main_v17 (F := Ideal) (m ((c : Thread nD τ).loc main_arg0)) (m ((c : Thread nD τ).loc main_arg1))
    (m ((c : Thread nD τ).loc main_arg2))

/-! ## The body's tile at an index -/

theorem pay_apply (p : FVec Ideal S128x4096 .f32) (w : FVec Ideal S1x4096 .f32) (j : Fin 128) (n : Fin 4096) :
    k0_pay2 (F := Ideal) p w (ix2 j n) = Norm.elem p w j 0 n := by
  have e : k0_pay2 (F := Ideal) p w = truncf .bf16 (mulf (mulf p (broadcastTo S128x4096 (rsqrt (addf (divf (shapeCast S128x1
        (multiReduction .add [1] S128 (mulf p p) 0x00000000#32 reduces_S128x4096_S128 (.inl rfl) rfl) shapeCasts_S128_S128x1)
        (broadcast S128x1 (Scalar.ofBits (F := Ideal) .f32 0x45800000#32)))
        (broadcast S128x1 (Scalar.ofBits (F := Ideal) .f32 0x358637BD#32)))) broadcasts_S128x1_S128x4096))
      (broadcastTo S128x4096 w broadcasts_S1x4096_S128x4096)) bitsLt_bf16_f32 := by
    unfold k0_pay2
    simp only [shapeCast_self]
  rw [e]
  exact Norm.rows_apply p w _ _ _ _ _ _ j n

theorem hz2 : (![0, 0] : Fin 2 → Nat) = fun _ => 0 := funext fun a => by fin_cases a <;> rfl
theorem hz3 : (![0, 0, 0] : Fin 3 → Nat) = fun _ => 0 := funext fun a => by fin_cases a <;> rfl

/-- The scratch's normalized rows, read at an index. -/
theorem normed_apply (x : FVec Ideal S1024x4096 .f32) (w : FVec Ideal S1x4096 .f32) (r : Fin 1024) (n : Fin 4096) :
    normed (F := Ideal) x w (ix2 r n) = Norm.elem x w r 0 n := by
  have hw : View.ld (Val := Elt Ideal) (e' := .f32) w rw_ = w := View.ld_unit_zero hz2 _ _
  unfold normed
  refine View.canon_eq_of_allAt _ _ _ (cover_normed _ _ _ _ _ _ _ _ _) ?_
  refine View.allAt_cons_unit _ _ _ _ _ (Norm.band x w 896 _ _ _ hw (pay_apply _ _) r n) ?_
  refine View.allAt_cons_unit _ _ _ _ _ (Norm.band x w 768 _ _ _ hw (pay_apply _ _) r n) ?_
  refine View.allAt_cons_unit _ _ _ _ _ (Norm.band x w 640 _ _ _ hw (pay_apply _ _) r n) ?_
  refine View.allAt_cons_unit _ _ _ _ _ (Norm.band x w 512 _ _ _ hw (pay_apply _ _) r n) ?_
  refine View.allAt_cons_unit _ _ _ _ _ (Norm.band x w 384 _ _ _ hw (pay_apply _ _) r n) ?_
  refine View.allAt_cons_unit _ _ _ _ _ (Norm.band x w 256 _ _ _ hw (pay_apply _ _) r n) ?_
  refine View.allAt_cons_unit _ _ _ _ _ (Norm.band x w 128 _ _ _ hw (pay_apply _ _) r n) ?_
  refine View.allAt_cons_unit _ _ _ _ _ (Norm.band x w 0 _ _ _ hw (pay_apply _ _) r n) ?_
  exact View.allAt_nil _ _

/-- The body's test of a column, as a comparison of numbers. -/
theorem inside_iff (i : grid0.Coords) (n : Fin 512) :
    IntOp.cmpi .slt (IntOp.addi (Scalar.muli (BitVec.ofNat 32 (i 1).val) 512#32) (BitVec.ofNat 32 n.val)) 12736#32 = 1#1
      ↔ (i 1).val * 512 + n.val < 12736 := by
  have hi : (i 1).val < 25 := (i 1).isLt
  have hn := n.isLt
  have e : IntOp.addi (Scalar.muli (BitVec.ofNat 32 (i 1).val) 512#32) (BitVec.ofNat 32 n.val)
      = BitVec.ofNat 32 ((i 1).val * 512 + n.val) := by
    show BitVec.ofNat 32 (i 1).val * BitVec.ofNat 32 512 + BitVec.ofNat 32 n.val = _
    rw [← BitVec.ofNat_mul, ← BitVec.ofNat_add]
  rw [e]
  exact Idealize.ShloMosaic.StableHlo.Predicate.slt_ofNat_iff _ 12736 (by omega) (by omega)

/-- The tile the body computes, read at an index. -/
theorem prod_apply (i : grid0.Coords) (b : FVec Ideal S1x512x4096 .f32) (a : FVec Ideal S1024x4096 .bf16) (j : Fin 1024) (n : Fin 512) :
    prod (F := Ideal) i b a (ix2 j n) = if (i 1).val * 512 + n.val < 12736 then
      (∑ k : Fin 4096, a (ix2 j k) * b (ix3 (0 : Fin 1) n k) : EReal) else 0 := by
  unfold prod
  rw [View.canon_unit_zero hz2, View.ld_unit_zero hz3, View.ld_unit_zero hz2]
  have e := Ideal.matmul_transposedRhs_apply (M := 1024) (K := 4096) (N := 512) none a
    (truncf .bf16 (shapeCast S512x4096 b shapeCasts_S1x512x4096_S512x4096) bitsLt_bf16_f32)
    (constant (F := Ideal) S1024x512 .f32 0x00000000#32) j n
  have e2 : (constant (F := Ideal) S1024x512 .f32 0x00000000#32 (ix2 j n) : EReal) = 0 := Ideal.ofBits_zero_f32
  have e3 (k : Fin 4096) : truncf (F := Ideal) .bf16 (shapeCast S512x4096 b shapeCasts_S1x512x4096_S512x4096) bitsLt_bf16_f32 (ix2 n k)
      = b (ix3 (0 : Fin 1) n k) := shapeCast_1ab_ab_apply b _ n k
  simp only [e2, e3, zero_add] at e
  show Scalar.select (IntOp.cmpi .slt (IntOp.addi (Scalar.muli (BitVec.ofNat 32 (i 1).val) 512#32) (BitVec.ofNat 32 (0 * 512 + n.val))) 12736#32)
    (FloatOps.matmul (F := Ideal) (DotDims.transposedRhs 1024 4096 512) none a
      (truncf .bf16 (shapeCast S512x4096 b shapeCasts_S1x512x4096_S512x4096) bitsLt_bf16_f32)
      (constant (F := Ideal) S1024x512 .f32 0x00000000#32) (ix2 j n)) (Ideal.ofBits .f32 0x00000000#32) = _
  rw [e, Ideal.ofBits_zero_f32, Nat.zero_mul, Nat.zero_add]
  unfold Scalar.select
  exact if_congr (inside_iff i n) rfl rfl

/-! ## The blocks and the array -/

/-- Where each window's block lies at a point of the 8 × 25 grid, and how far the weight's last block reaches. -/
theorem idx_facts : ∀ t : Fin cfg0.N, win0_3.index t (0 : Fin 2) = t.val / 25 ∧ win0_3.index t (1 : Fin 2) = t.val % 25
    ∧ win0_0.index t (0 : Fin 3) = 0 ∧ win0_0.index t (1 : Fin 3) = t.val % 25 ∧ win0_0.index t (2 : Fin 3) = 0
    ∧ win0_0.xsize (grid0.coords t) (0 : Fin 3) = 1 ∧ win0_0.xsize (grid0.coords t) (1 : Fin 3) = min 512 (12736 - t.val % 25 * 512)
    ∧ win0_0.xsize (grid0.coords t) (2 : Fin 3) = 4096
    ∧ win0_1.index t (0 : Fin 2) = 0 ∧ win0_1.index t (1 : Fin 2) = 0
    ∧ (grid0.coords t 1).val = t.val % 25 :=
  (by decide +kernel : ∀ t : Fin grid0.N, _)

/-- The host's layouts of the three arguments. -/
theorem V_main_v0 (c : Dev nD) : V m c main_v0 = xrow (m ((c : Thread nD τ).loc main_arg0)) := by
  unfold_abbrev_sides
  after_results
  rfl

theorem V_main_v3 (c : Dev nD) : (V m c main_v3 : FVec Ideal S1x4096 .f32) = m ((c : Thread nD τ).loc main_arg1) := by
  have e : (V m c main_v3 : FVec Ideal S1x4096 .f32) = shapeCast S1x4096 (shapeCast S4096 (m ((c : Thread nD τ).loc main_arg1) : FVec Ideal S1x4096 .f32)
      shapeCasts_S1x4096_S4096) shapeCasts_S4096_S1x4096 := by
    unfold_abbrev_sides
    after_results
    rfl
  rw [e]
  funext i
  obtain ⟨u, n, rfl⟩ : ∃ (u : Fin 1) (n : Fin 4096), i = ix2 u n := ⟨i 0, i 1, eq_ix2 i⟩
  refine (shapeCast_a_1a_apply _ _ u n).trans ((shapeCast_1a_a_apply _ _ n).trans (congrArg _ (Shape.idx_ext₂ ?_ rfl)))
  show 0 = u.val
  omega

theorem V_main_v2 (c : Dev nD) (u : Fin 1) (n : Fin 12736) (k : Fin 4096) :
    (V m c main_v2 : FVec Ideal S1x12736x4096 .f32) (ix3 u n k)
      = (m ((c : Thread nD τ).loc main_arg2) : FVec Ideal S1x4096x12736 .f32) (ix3 u k n) := by
  have e : (V m c main_v2 : FVec Ideal S1x12736x4096 .f32) = transpose S1x12736x4096 [0, 2, 1] (m ((c : Thread nD τ).loc main_arg2) : FVec Ideal S1x4096x12736 .f32)
      transposes_S1x4096x12736_S1x12736x4096_0_2_1 := by
    unfold_abbrev_sides
    after_results
    try rfl
  rw [e]
  exact transpose_apply _ _ _ (ix3 u n k) (ix3 u k n) fun b => match b with
    | ⟨0, _⟩ => rfl
    | ⟨1, _⟩ => rfl
    | ⟨2, _⟩ => rfl

/-- The row and column of the arrays at row `j` and column `n` of point `t`'s tile. -/
abbrev row (t : Fin cfg0.N) (j : Fin 1024) : Fin 8192 :=
  ⟨t.val / 25 * 1024 + j.val, by have h : t.val < 200 := t.isLt; have := j.isLt; omega⟩
abbrev col (t : Fin cfg0.N) (n : Fin 512) : Fin 12800 :=
  ⟨t.val % 25 * 512 + n.val, by have := n.isLt; omega⟩

theorem blk2_apply (c : Dev nD) (t : Fin cfg0.N) (j : Fin 1024) (k : Fin 4096) :
    (iblk m c 2 t : FVec Ideal S1024x4096 .f32) (ix2 j k) = xrow (m ((c : Thread nD τ).loc main_arg0)) (ix2 (row t j) k) := by
  obtain ⟨e0, e1⟩ := index_x t
  show V m c main_v0 ((win0_2.rect t).emb (ix2 j k)) = _
  rw [V_main_v0]
  refine congrArg _ (Shape.idx_ext₂ ?_ ?_)
  · rw [win0_2.rect_emb_val, e0]; rfl
  · rw [win0_2.rect_emb_val, e1]; show 0 * 4096 + k.val = k.val; omega

theorem blk1_apply (c : Dev nD) (t : Fin cfg0.N) (u : Fin 1) (k : Fin 4096) :
    (iblk m c 1 t : FVec Ideal S1x4096 .f32) (ix2 u k) = (m ((c : Thread nD τ).loc main_arg1) : FVec Ideal S1x4096 .f32) (ix2 u k) := by
  obtain ⟨-, -, -, -, -, -, -, -, e0, e1, -⟩ := idx_facts t
  show V m c main_v3 ((win0_1.rect t).emb (ix2 u k)) = _
  rw [V_main_v3]
  refine congrArg _ (Shape.idx_ext₂ ?_ ?_)
  · rw [win0_1.rect_emb_val, e0]; show 0 * 1 + u.val = u.val; omega
  · rw [win0_1.rect_emb_val, e1]; show 0 * 4096 + k.val = k.val; omega

/-- The weight's block in its buffer, at a row that lies inside the array. -/
theorem wbuf_apply (c : Dev nD) (t : Fin cfg0.N) (d : FVec Ideal S1x512x4096 .f32) (n : Fin 512) (k : Fin 4096)
    (h : t.val % 25 * 512 + n.val < 12736) :
    wbuf m c t d (ix3 (0 : Fin 1) n k)
      = (m ((c : Thread nD τ).loc main_arg2) : FVec Ideal S1x4096x12736 .f32) (ix3 (0 : Fin 1) k (⟨t.val % 25 * 512 + n.val, h⟩ : Fin 12736)) := by
  obtain ⟨-, -, e0, e1, e2, x0, x1, x2, -⟩ := idx_facts t
  have hm : win0_0.moved (grid0.coords t) (ix3 (0 : Fin 1) n k : S1x512x4096.Idx) = true :=
    (win0_0.moved_iff _ _).mpr fun a => by
      have hn := n.isLt
      have hk := k.isLt
      match a with
      | ⟨0, _⟩ => exact lt_of_lt_of_eq Nat.zero_lt_one x0.symm
      | ⟨1, _⟩ => refine lt_of_lt_of_eq ?_ x1.symm; show n.val < _; omega
      | ⟨2, _⟩ => exact lt_of_lt_of_eq hk x2.symm
  unfold wbuf Pipeline.Window.fill
  rw [dif_pos hm]
  refine Eq.trans ?_ (V_main_v2 m c 0 ⟨t.val % 25 * 512 + n.val, h⟩ k)
  show V m c main_v2 ((win0_0.rect t).emb _) = _
  refine congrArg _ (funext fun a => Fin.ext ?_)
  match a with
  | ⟨0, _⟩ => refine (win0_0.rect_emb_val _ _ (0 : Fin 3)).trans ?_; rw [e0]; rfl
  | ⟨1, _⟩ => refine (win0_0.rect_emb_val _ _ (1 : Fin 3)).trans ?_; rw [e1]; rfl
  | ⟨2, _⟩ => refine (win0_0.rect_emb_val _ _ (2 : Fin 3)).trans ?_; rw [e2]; show 0 * 4096 + k.val = k.val; omega

/-- What a point leaves in the result's block is its tile of the reference's result. -/
theorem left_eq (c : Dev nD) (t : Fin cfg0.N) (d : FVec Ideal S1x512x4096 .f32) (j : Fin 1024) (n : Fin 512) :
    prod (F := Ideal) (grid0.coords t) (wbuf m c t d) (rows m c t) (ix2 j n) = G m c (ix2 (row t j) (col t n)) := by
  obtain ⟨-, -, -, -, -, -, -, -, -, -, ei⟩ := idx_facts t
  refine (prod_apply _ _ _ j n).trans (Eq.trans ?_ (ref_apply _ _ _ (row t j) (col t n)).symm)
  rw [ei]
  by_cases h : t.val % 25 * 512 + n.val < 12736
  · rw [if_pos h, dif_pos h]
    refine Finset.sum_congr rfl fun k _ => congrArg₂ (fun a b : EReal => a * b) ?_ (wbuf_apply m c t d n k h)
    refine (normed_apply _ _ j k).trans ?_
    unfold Norm.elem
    simp only [blk2_apply, blk1_apply]
  · rw [if_neg h, dif_neg h]

/-- An index of the result is in point `t`'s tile when both coordinates are. -/
theorem mem_blk (t : Fin cfg0.N) (i : S8192x12800.Idx) :
    i ∈ ((cfg0.win 3).blk t).view.set ↔ ∀ a : Fin 2, win0_3.index t a * win0_3.size a ≤ (i a).val
      ∧ (i a).val < win0_3.index t a * win0_3.size a + win0_3.xsize (grid0.coords t) a := by
  show i ∈ ((View.whole main_v4).slice (win0_3.rect t)).set ↔ _
  rw [View.set_slice_whole, Rect.mem_set_unit]
  exact Iff.rfl

theorem cover (i : S8192x12800.Idx) : ∃ t : Fin cfg0.N, (cfg0.win 3).flush t = true ∧ i ∈ ((cfg0.win 3).blk t).view.set := by
  have h0 : (i 0).val < 8192 := (i 0).isLt
  have h1 : (i 1).val < 12800 := (i 1).isLt
  have ht : (i 0).val / 1024 * 25 + (i 1).val / 512 < cfg0.N := by show _ < 200; omega
  refine ⟨⟨_, ht⟩, flush0_3 _, ?_⟩
  rw [mem_blk]
  obtain ⟨e0, e1, -⟩ := idx_facts ⟨_, ht⟩
  intro a
  match a with
  | ⟨0, _⟩ => show win0_3.index _ (0 : Fin 2) * 1024 ≤ (i 0).val ∧ (i 0).val < win0_3.index _ (0 : Fin 2) * 1024 + 1024
              rw [e0]; dsimp only; omega
  | ⟨1, _⟩ => show win0_3.index _ (1 : Fin 2) * 512 ≤ (i 1).val ∧ (i 1).val < win0_3.index _ (1 : Fin 2) * 512 + 512
              rw [e1]; dsimp only; omega

/-- Of any exact contents the points may have left, the result array ends as the reference's function of the arguments. -/
theorem final (c : Dev nD) (after : (w : Fin cfg0.W) → Fin cfg0.N → (cfg0.win w).block.Idx → Elt Ideal (cfg0.win w).elt)
    (h : ∀ (w : Fin cfg0.W) (u : Fin cfg0.N), (cfg0.win w).flush u = true → (rdat m c).Leaves w u (after w u)) :
    ((rdat m c).withAfter after).arrAt 3 cfg0.N = G m c := by
  refine ((rdat m c).withAfter after).arrAt_eq_of_cover 3 (G m c) (fun t hf => ?_) cover
  have hl : left m c 3 t (after 3 t) := Dat.toRRel_leaves _ rfl (h 3 t hf)
  obtain ⟨d, hd⟩ := hl
  obtain ⟨e0, e1, -⟩ := idx_facts t
  show win0_3.cut (grid0.coords t) (after 3 t) = _
  rw [hd]
  funext y
  obtain ⟨j, n, rfl⟩ : ∃ (j : Fin 1024) (n : Fin 512), y = ix2 j n := ⟨y 0, y 1, eq_ix2 y⟩
  have ey : (win0_3.rect t).emb (ix2 j n) = ix2 (row t j) (col t n) := by
    refine Shape.idx_ext₂ ?_ ?_
    · rw [win0_3.rect_emb_val, e0]; rfl
    · rw [win0_3.rect_emb_val, e1]; rfl
  show prod (F := Ideal) (grid0.coords t) (wbuf m c t d) (rows m c t) (ix2 j n) = G m c ((win0_3.rect t).emb (ix2 j n))
  rw [ey]
  exact left_eq m c t d j n

/-- On the extended reals the call computes the reference's norm and projection. -/
theorem algebraic : Cert.algebraic_Kernel2Ideal_Reference2Ideal := by
  intro m g m' g' _ hagree
  refine ⟨fun c => G m c, (θ_run Cert.Kernel2Ideal.defs _ _).mono (fun r h c => ?_) (run_main (F := Ideal) m g),
    (θ_run Cert.Reference2Ideal.defs _ _).mono (fun r h c => ?_) (Cert.Reference2Ideal.Value.run (F := Ideal) m' g')⟩
  · obtain ⟨after, hL, hA⟩ := h.1.exists_exact c
    exact ⟨(hA 3).trans (final m c after hL),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩
  · refine ⟨(h c).1.trans ?_, (h c).2⟩
    rw [Cert.Reference2Ideal.Read.val_main_v17_eq, (hagree c).1, (hagree c).2.1, (hagree c).2.2]

end Cert.InProj

end
-- ==== Proof.OutProj.lean ====
/-
  The value of the output projection: `h + mixed · w_out`, tile by tile, is the reference's.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.Lib.MatmulPlain
public import Idealize.ShloMosaic.Lib.ValueLayout

@[expose] public section

noncomputable section

open Idealize.ShloMosaic Idealize.ShloMosaic.TcCoe Idealize.SL.Sem Idealize.ShloMosaic.ValueIdx
open Idealize.ShloMosaic.Pipeline (Dat)

namespace Cert.OutProj

open Cert.Kernel3Ideal Cert.Kernel3Ideal.Gen

variable (m : (ℓ : Loc nD τ sig) → Buf (Elt Ideal) ℓ) (ρ : Dev nD → PrngReg)

open Cert.Reference3Ideal.Read in
/-- The reference read at an index: the residual's element plus the row of `mixed` times the column of `w_out`. -/
theorem ref_apply (x0 : FVec Ideal S8192x4096 .bf16) (x1 : FVec Ideal S4096x4096 .bf16) (x2 : FVec Ideal S8192x4096 .f32)
    (r : Fin 8192) (n : Fin 4096) :
    val_main_v3 (F := Ideal) x0 x1 x2 (ix2 r n) = x2 (ix2 r n) + ∑ k : Fin 4096, x0 (ix2 r k) * x1 (ix2 k n) := by
  rw [val_main_v3_apply, val_main_v2_apply, Ideal.addf_def]
  refine congrArg _ (Finset.sum_congr rfl fun k _ => ?_)
  rw [val_main_v0_apply, val_main_v1_apply]
  exact congrArg₂ (fun (a : EReal) b => a * b) (congrArg x0 (Shape.idx_ext₂ rfl rfl)) (congrArg x1 (Shape.idx_ext₂ rfl rfl))

/-- The result: the reference's function of the arguments. -/
abbrev G (c : Dev nD) : Buf (Elt Ideal) ((c : Thread nD τ).loc main_v1) :=
  Cert.Reference3Ideal.Read.val_main_v3 (F := Ideal) (m ((c : Thread nD τ).loc main_arg0)) (m ((c : Thread nD τ).loc main_arg1))
    (m ((c : Thread nD τ).loc main_arg2))

/-- Where each window's block lies at a point of the 8 × 8 grid. -/
theorem idx_facts : ∀ t : Fin cfg0.N, win0_3.index t (0 : Fin 2) = t.val / 8 ∧ win0_3.index t (1 : Fin 2) = t.val % 8
    ∧ win0_0.index t (0 : Fin 2) = t.val / 8 ∧ win0_0.index t (1 : Fin 2) = 0
    ∧ win0_1.index t (0 : Fin 3) = 0 ∧ win0_1.index t (1 : Fin 3) = 0 ∧ win0_1.index t (2 : Fin 3) = t.val % 8
    ∧ win0_2.index t (0 : Fin 2) = t.val / 8 ∧ win0_2.index t (1 : Fin 2) = t.val % 8 :=
  (by decide +kernel : ∀ t : Fin grid0.N, _)

/-- The weight with the host's leading unit axis, read at an index. -/
theorem V_main_v0 (c : Dev nD) (i : S1x4096x4096.Idx) :
    V m c main_v0 i = m ((c : Thread nD τ).loc main_arg1) (ix2 (i 1) (i 2)) := by
  have e : V m c main_v0 = broadcastInDim S1x4096x4096 ![1, 2] bcast_S4096x4096_S1x4096x4096_1_2 (m ((c : Thread nD τ).loc main_arg1)) := by
    unfold_abbrev_sides
    after_results
  rw [e]
  exact broadcastInDim_apply _ _ _ i (ix2 (i 1) (i 2)) fun a => match a with
    | ⟨0, _⟩ => rfl
    | ⟨1, _⟩ => rfl

/-- The row and column of the arrays at row `j` and column `n` of point `t`'s tile. -/
abbrev row (t : Fin cfg0.N) (j : Fin 1024) : Fin 8192 :=
  ⟨t.val / 8 * 1024 + j.val, by have h : t.val < 64 := t.isLt; have := j.isLt; omega⟩
abbrev col (t : Fin cfg0.N) (n : Fin 512) : Fin 4096 :=
  ⟨t.val % 8 * 512 + n.val, by have := n.isLt; omega⟩

/-- The blocks of the three operands, read at an index of the block. -/
theorem blk0_apply (c : Dev nD) (t : Fin cfg0.N) (j : Fin 1024) (k : Fin 4096) :
    iblk m c 0 t (ix2 j k : S1024x4096.Idx) = m ((c : Thread nD τ).loc main_arg0) (ix2 (row t j) k) := by
  obtain ⟨-, -, e0, e1, -⟩ := idx_facts t
  show V m c main_arg0 ((win0_0.rect t).emb (ix2 j k)) = _
  rw [V_main_arg0]
  refine congrArg _ (Shape.idx_ext₂ ?_ ?_)
  · rw [win0_0.rect_emb_val, e0]; rfl
  · rw [win0_0.rect_emb_val, e1]; show 0 * 4096 + k.val = k.val; omega

theorem blk1_apply (c : Dev nD) (t : Fin cfg0.N) (u : Fin 1) (k : Fin 4096) (n : Fin 512) :
    iblk m c 1 t (ix3 u k n : S1x4096x512.Idx) = m ((c : Thread nD τ).loc main_arg1) (ix2 k (col t n)) := by
  obtain ⟨-, -, -, -, -, e1, e2, -⟩ := idx_facts t
  show V m c main_v0 ((win0_1.rect t).emb (ix3 u k n)) = _
  rw [V_main_v0]
  refine congrArg _ (Shape.idx_ext₂ ?_ ?_)
  · show ((win0_1.rect t).emb (ix3 u k n) 1).val = k.val
    rw [win0_1.rect_emb_val, e1]; show 0 * 4096 + k.val = k.val; omega
  · show ((win0_1.rect t).emb (ix3 u k n) 2).val = _
    rw [win0_1.rect_emb_val, e2]; rfl

theorem blk2_apply (c : Dev nD) (t : Fin cfg0.N) (j : Fin 1024) (n : Fin 512) :
    iblk m c 2 t (ix2 j n : S1024x512.Idx) = m ((c : Thread nD τ).loc main_arg2) (ix2 (row t j) (col t n)) := by
  obtain ⟨-, -, -, -, -, -, -, e0, e1⟩ := idx_facts t
  show V m c main_arg2 ((win0_2.rect t).emb (ix2 j n)) = _
  rw [V_main_arg2]
  refine congrArg _ (Shape.idx_ext₂ ?_ ?_)
  · rw [win0_2.rect_emb_val, e0]; rfl
  · rw [win0_2.rect_emb_val, e1]; rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The tile the body computes, read at an index. -/
theorem pay_apply (v0 : FVec Ideal S1024x512 .f32) (v1 : FVec Ideal S1024x4096 .bf16) (v2 : FVec Ideal S1x4096x512 .bf16)
    (j : Fin 1024) (n : Fin 512) :
    k0_pay1 (F := Ideal) v0 v1 v2 (ix2 j n) = v0 (ix2 j n) + ∑ k : Fin 4096, v1 (ix2 j k) * v2 (ix3 0 k n) := by
  have e := Ideal.matmul_plain_apply (M := 1024) (K := 4096) (N := 512) none v1
    (shapeCast S4096x512 v2 shapeCasts_S1x4096x512_S4096x512) (constant (F := Ideal) S1024x512 .f32 0x00000000#32) j n
  simp only [shapeCast_1ab_ab_apply] at e
  refine (congrArg (fun s : EReal => v0 (ix2 j n) + s) e).trans ?_
  show v0 (ix2 j n) + (Ideal.ofBits .f32 0x00000000#32 + _) = _
  rw [Ideal.ofBits_zero_f32, zero_add]

/-- What a point writes back is its tile of the reference's result. -/
theorem flushed_eq (c : Dev nD) (t : Fin cfg0.N) :
    (dats m 0 c).flushed 3 t = (win0_3.blk t).view.read (Elt Ideal) (G m c) := by
  rw [Value.flushed3]
  funext y
  obtain ⟨e0, e1, -⟩ := idx_facts t
  obtain ⟨j, n, rfl⟩ : ∃ (j : Fin 1024) (n : Fin 512), y = ix2 j n := ⟨y 0, y 1, eq_ix2 y⟩
  have ey : (win0_3.rect t).emb (ix2 j n) = ix2 (row t j) (col t n) := by
    refine Shape.idx_ext₂ ?_ ?_
    · rw [win0_3.rect_emb_val, e0]; rfl
    · rw [win0_3.rect_emb_val, e1]; rfl
  show out0_3 (iblk m c 0 t) (iblk m c 1 t) (iblk m c 2 t) (ix2 j n) = G m c ((win0_3.rect t).emb (ix2 j n))
  rw [ey]
  refine Eq.trans ?_ (ref_apply _ _ _ (row t j) (col t n)).symm
  unfold out0_3
  rw [View.ld_unit_zero hz2, View.ld_unit_zero hz2, View.ld_unit_zero hz3, View.canon_unit_zero hz2]
  refine (pay_apply (iblk m c 2 t) (iblk m c 0 t) (iblk m c 1 t) j n).trans ?_
  rw [blk2_apply]
  simp only [blk0_apply, blk1_apply]

/-- An index of the result is in point `t`'s tile when both coordinates are. -/
theorem mem_blk (t : Fin cfg0.N) (i : S8192x4096.Idx) :
    i ∈ ((cfg0.win 3).blk t).view.set ↔ ∀ a : Fin 2, win0_3.index t a * win0_3.size a ≤ (i a).val
      ∧ (i a).val < win0_3.index t a * win0_3.size a + win0_3.xsize (grid0.coords t) a := by
  show i ∈ ((View.whole main_v1).slice (win0_3.rect t)).set ↔ _
  rw [View.set_slice_whole, Rect.mem_set_unit]
  exact Iff.rfl

theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have ht : (i 0).val / 1024 * 8 + (i 1).val / 512 < cfg0.N := by show _ < 64; omega
  refine ⟨⟨_, ht⟩, flush0_3 _, ?_⟩
  rw [mem_blk]
  obtain ⟨e0, e1, -⟩ := idx_facts ⟨_, ht⟩
  intro a
  match a with
  | ⟨0, _⟩ => show win0_3.index _ (0 : Fin 2) * 1024 ≤ (i 0).val ∧ (i 0).val < win0_3.index _ (0 : Fin 2) * 1024 + 1024
              rw [e0]; dsimp only; omega
  | ⟨1, _⟩ => show win0_3.index _ (1 : Fin 2) * 512 ≤ (i 1).val ∧ (i 1).val < win0_3.index _ (1 : Fin 2) * 512 + 512
              rw [e1]; dsimp only; omega

/-- The result array after the run is the reference's function of the arguments. -/
theorem final (c : Dev nD) : (dats m 0 c).arrAt 3 cfg0.N = G m c :=
  (dats m 0 c).arrAt_eq_of_cover 3 (G m c) (fun t _ => flushed_eq m c t) cover

/-- On the extended reals the call computes the reference's projection and residual sum. -/
theorem algebraic : Cert.algebraic_Kernel3Ideal_Reference3Ideal := by
  intro m g m' g' _ hagree
  refine ⟨fun c => G m c, (θ_run Cert.Kernel3Ideal.defs _ _).mono (fun r h c => ?_) (Value.run_blocks (F := Ideal) m g),
    (θ_run Cert.Reference3Ideal.defs _ _).mono (fun r h c => ?_) (Cert.Reference3Ideal.Value.run (F := Ideal) m' g')⟩
  · exact ⟨(h c).1.trans (final m c), (h c).2⟩
  · refine ⟨(h c).1.trans ?_, (h c).2⟩
    rw [Cert.Reference3Ideal.Read.val_main_v3_eq, (hagree c).1, (hagree c).2.1, (hagree c).2.2]

end Cert.OutProj

end
-- ==== Proof.QueryRun.lean ====
/-
  The run of the query projection. A point of the 8 × 4 grid multiplies a block of 1024 normalized rows by 512 columns of the
  weight. The normalized rows are computed at the first point of a row block and kept in scratch for the three others, so the
  invariant carries them; that first point also copies them to the second result's block, which the others leave as it is and
  the last writes back.
-/
module

public import proofs.«01_k».proof.Proof.Gen.Kernel4Ideal.Frame
public import proofs.«01_k».proof.Proof.Gen.Kernel4Ideal.Skeleton
public import Idealize.ShloMosaic.Lib.Claim
public import Idealize.ShloMosaic.Lib.Pipeline.TableIdle
public import Idealize.ShloMosaic.Lib.Pipeline.Value

@[expose] public section

set_option maxRecDepth 16384

noncomputable section

namespace Cert.Query

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The normalized rows -/

abbrev rw_ : Rect S1x4096 := Rect.unit (s := S1x4096) ![0, 0] S1x4096.size inb_S1x4096_S1x4096_0_0
abbrev r0 : Rect S1024x4096 := Rect.unit (s := S1024x4096) ![0, 0] S128x4096.size inb_S1024x4096_S128x4096_0_0
abbrev r1 : Rect S1024x4096 := Rect.unit (s := S1024x4096) ![128, 0] S128x4096.size inb_S1024x4096_S128x4096_128_0
abbrev r2 : Rect S1024x4096 := Rect.unit (s := S1024x4096) ![256, 0] S128x4096.size inb_S1024x4096_S128x4096_256_0
abbrev r3 : Rect S1024x4096 := Rect.unit (s := S1024x4096) ![384, 0] S128x4096.size inb_S1024x4096_S128x4096_384_0
abbrev r4 : Rect S1024x4096 := Rect.unit (s := S1024x4096) ![512, 0] S128x4096.size inb_S1024x4096_S128x4096_512_0
abbrev r5 : Rect S1024x4096 := Rect.unit (s := S1024x4096) ![640, 0] S128x4096.size inb_S1024x4096_S128x4096_640_0
abbrev r6 : Rect S1024x4096 := Rect.unit (s := S1024x4096) ![768, 0] S128x4096.size inb_S1024x4096_S128x4096_768_0
abbrev r7 : Rect S1024x4096 := Rect.unit (s := S1024x4096) ![896, 0] S128x4096.size inb_S1024x4096_S128x4096_896_0

/-- The scratch after the first point of a row block: its eight stores of 128 normalized rows, last first. -/
def normed (x : Vec F S1024x4096 .f32) (w : Vec F S1x4096 .f32) : Vec F S1024x4096 .bf16 :=
  View.canon [⟨r7, k0_pay2 (View.ld x r7) (View.ld w rw_)⟩, ⟨r6, k0_pay1 (View.ld x r6) (k0_pay11 (View.ld x r6)) (View.ld w rw_)⟩,
    ⟨r5, k0_pay10 (View.ld x r5) (View.ld w rw_)⟩, ⟨r4, k0_pay9 (View.ld x r4) (k0_pay8 (View.ld x r4)) (View.ld w rw_)⟩,
    ⟨r3, k0_pay7 (View.ld x r3) (View.ld w rw_)⟩, ⟨r2, k0_pay6 (View.ld x r2) (View.ld w rw_)⟩,
    ⟨r1, k0_pay5 (View.ld x r1) (View.ld w rw_)⟩, ⟨r0, k0_pay4 (View.ld x r0) (View.ld w rw_)⟩]

/-- The eight stores tile the scratch. -/
theorem cover_normed (p7 p6 p5 p4 p3 p2 p1 p0 : Vec F S128x4096 .bf16) (y : S1024x4096.Idx) :
    ∃ pc ∈ ([⟨r7, p7⟩, ⟨r6, p6⟩, ⟨r5, p5⟩, ⟨r4, p4⟩, ⟨r3, p3⟩, ⟨r2, p2⟩, ⟨r1, p1⟩, ⟨r0, p0⟩] :
      List (View.Piece (Elt F) S1024x4096 .bf16)), y ∈ pc.1.set :=
  View.cover_of_tiled (s := S1024x4096) _ S128x4096.size (by rfl) y

abbrev ra : Rect S1024x4096 := Rect.unit (s := S1024x4096) ![0, 0] S1024x4096.size inb_S1024x4096_S1024x4096_0_0
abbrev rb : Rect S1x4096x512 := Rect.unit (s := S1x4096x512) ![0, 0, 0] S1x4096x512.size inb_S1x4096x512_S1x4096x512_0_0_0
abbrev ro : Rect S1024x512 := Rect.unit (s := S1024x512) ![0, 0] S1024x512.size inb_S1024x512_S1024x512_0_0

/-- The tile of products the body leaves. -/
def prod (b : Vec F S1x4096x512 .bf16) (a : Vec F S1024x4096 .bf16) : Vec F S1024x512 .f32 :=
  View.canon [⟨ro, k0_pay3 (View.ld b rb) (View.ld a ra)⟩]

theorem cover_prod (p : Vec F S1024x512 .f32) (y : S1024x512.Idx) :
    ∃ pc ∈ ([⟨ro, p⟩] : List (View.Piece (Elt F) S1024x512 .f32)), y ∈ pc.1.set :=
  View.cover_of_tiled [⟨ro, p⟩] S1024x512.size (by rfl) y

/-- The copy of the normalized rows, one store of the whole block. -/
theorem cover_copy (p : Vec F S1024x4096 .bf16) (y : S1024x4096.Idx) :
    ∃ pc ∈ ([⟨ra, p⟩] : List (View.Piece (Elt F) S1024x4096 .bf16)), y ∈ pc.1.set :=
  View.cover_of_tiled [⟨ra, p⟩] S1024x4096.size (by rfl) y

theorem whole_zero : (![0, 0] : Fin 2 → ℕ) = fun _ => 0 := by funext a; fin_cases a <;> rfl

/-- The copied rows are the rows. -/
theorem copy_eq (a : Vec F S1024x4096 .bf16) :
    View.canon [(⟨ra, View.ld a ra⟩ : View.Piece (Elt F) S1024x4096 .bf16)] = a :=
  (View.canon_unit_zero (S := S1024x4096) whole_zero inb_S1024x4096_S1024x4096_0_0 _).trans
    (View.ld_unit_zero (Val := Elt F) (e := .bf16) (S := S1024x4096) whole_zero inb_S1024x4096_S1024x4096_0_0 a)

/-- The point is the first of its row block, as the body tests it. -/
abbrev isFirst (i : grid0.Coords) : BitVec 1 :=
  Scalar.cmpi .ne (Scalar.extui (Scalar.cmpi .eq (BitVec.ofNat 32 (i 1).val) 0#32)) 0#32

theorem cond2_eq (i : grid0.Coords) : k0_cond2 i = isFirst i := rfl

set_option maxHeartbeats 4000000 in
/-- A point that finds its row block normalized in scratch. -/
theorem sound_kept (c : Dev nD) (E : Set ℕ) (i : grid0.Coords)
    (hc : ¬ isFirst i = 1#1) (hd : ¬ k0_cond2 i = 1#1)
    (arg2 : Memref sig .tc .vmem S1x4096x512 .bf16) (harg2 : arg2.IsWhole) (arg3 : Memref sig .tc .vmem S1x4096 .f32) (harg3 : arg3.IsWhole) (arg4 : Memref sig .tc .vmem S1024x4096 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole)
    (b : Vec F S1x4096x512 .bf16) (a : Vec F S1024x4096 .bf16) (K : PUnit → sProp 𝕄) :
    iprop(owns (c : Thread nD τ) arg2 fullShare b ∗ (∃ d, owns (c : Thread nD τ) arg5 fullShare d) ∗ owns (c : Thread nD τ) arg7 fullShare a
        ∗ (iprop(owns (c : Thread nD τ) arg2 fullShare b ∗ owns (c : Thread nD τ) arg5 fullShare (prod b a) ∗ owns (c : Thread nD τ) arg7 fullShare a) -∗ K ⟨⟩))
      ⊢ wp frame (wpE (defs₀ (F := F)) Variants.none c none) E (cc0_norm_matmul i arg2 harg2 arg3 harg3 arg4 harg4 arg5 harg5 arg6 harg6 arg7 harg7) K := by
  simp only [cc0_norm_matmul_eq_skeleton]; unfold cc0_norm_matmul_skel
  unfold owns
  iintro ⟨⟨%f0, %hf0, H0⟩, ⟨%d1, %f1, -, H1⟩, ⟨%f2, %hf2, H2⟩, Hk⟩
  subst hf0 hf2
  sl_exec (disch := first | sl_exact hc | sl_exact hd)
  sl_step
  iapply Hk
  isplitl [H0]
  · iexists f0; isplitr; · ipureintro; rfl
    iexact H0
  isplitl [H1]
  · iexists _; isplitr
    swap; · iexact H1
    ipureintro
    exact View.read_writes_eq_canon _ _ _ (cover_prod _)
  iexists f2; isplitr; · ipureintro; rfl
  iexact H2

set_option maxHeartbeats 4000000 in
/-- The first point of a row block: it normalizes the rows into scratch and copies them out. -/
theorem sound_first (c : Dev nD) (E : Set ℕ) (i : grid0.Coords)
    (hc : isFirst i = 1#1) (hd : k0_cond2 i = 1#1)
    (arg2 : Memref sig .tc .vmem S1x4096x512 .bf16) (harg2 : arg2.IsWhole) (arg3 : Memref sig .tc .vmem S1x4096 .f32) (harg3 : arg3.IsWhole) (arg4 : Memref sig .tc .vmem S1024x4096 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole)
    (b : Vec F S1x4096x512 .bf16) (w : Vec F S1x4096 .f32) (x : Vec F S1024x4096 .f32) (K : PUnit → sProp 𝕄) :
    iprop(owns (c : Thread nD τ) arg2 fullShare b ∗ owns (c : Thread nD τ) arg3 fullShare w ∗ owns (c : Thread nD τ) arg4 fullShare x
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare b ∗ owns (c : Thread nD τ) arg3 fullShare w ∗ owns (c : Thread nD τ) arg4 fullShare x
            ∗ owns (c : Thread nD τ) arg5 fullShare (prod b (normed x w)) ∗ owns (c : Thread nD τ) arg6 fullShare (normed x w)
            ∗ owns (c : Thread nD τ) arg7 fullShare (normed x w)) -∗ K ⟨⟩))
      ⊢ wp frame (wpE (defs₀ (F := F)) Variants.none c none) E (cc0_norm_matmul i arg2 harg2 arg3 harg3 arg4 harg4 arg5 harg5 arg6 harg6 arg7 harg7) K := by
  simp only [cc0_norm_matmul_eq_skeleton]
  unfold cc0_norm_matmul_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact hc | sl_exact hd)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_prod _)).trans ?_
    sl_unfold_run_names
    unfold prod normed
    rw [← View.readCov_eq_canon_ld arg7.view _ ra (cover_normed _ _ _ _ _ _ _ _)]
    rfl
  isplitl [H4]
  · iexists _; isplitr
    swap; · iexact H4
    ipureintro
    refine (View.read_writes_eq_canon _ _ _ (cover_copy _)).trans ?_
    refine Eq.trans ?_ (copy_eq _)
    sl_unfold_run_names
    unfold normed
    rw [← View.readCov_eq_canon_ld arg7.view _ ra (cover_normed _ _ _ _ _ _ _ _)]
    rfl
  iexists _; isplitr
  swap; · iexact H5
  ipureintro
  exact View.read_writes_eq_canon _ _ _ (cover_normed _ _ _ _ _ _ _ _)

/-! ## The proof data -/

/-- Where the window of the residual stream lies at a point. -/
theorem index_x : ∀ t : Fin cfg0.N, win0_2.index t (0 : Fin 2) = t.val / 4 ∧ win0_2.index t (1 : Fin 2) = 0 :=
  (by decide +kernel : ∀ t : Fin grid0.N, _)

/-- Points of one row block see the same rows. -/
theorem iblk_x_eq (c : Dev nD) (u t : Fin cfg0.N) (h : u.val / 4 = t.val / 4) :
    (iblk m c 2 u : Vec F S1024x4096 .f32) = iblk m c 2 t := by
  obtain ⟨a0, a1⟩ := index_x u
  obtain ⟨b0, b1⟩ := index_x t
  funext y
  show V m c main_arg0 ((win0_2.rect u).emb y) = V m c main_arg0 ((win0_2.rect t).emb y)
  refine congrArg _ (Shape.idx_ext₂ ?_ ?_)
  · rw [win0_2.rect_emb_val, win0_2.rect_emb_val, a0, b0, h]
  · rw [win0_2.rect_emb_val, win0_2.rect_emb_val, a1, b1]

/-- Every point sees the same norm weight. -/
theorem iblk_w_eq (c : Dev nD) (u t : Fin cfg0.N) : (iblk m c 1 u : Vec F S1x4096 .f32) = iblk m c 1 t := by
  funext y
  show V m c main_v2 ((win0_1.rect u).emb y) = V m c main_v2 ((win0_1.rect t).emb y)
  refine congrArg _ (Shape.idx_ext₂ ?_ ?_)
  · rw [win0_1.rect_emb_val, win0_1.rect_emb_val]; rfl
  · rw [win0_1.rect_emb_val, win0_1.rect_emb_val]; rfl

/-- The normalized rows of the row block of point `t`. -/
def rows (c : Dev nD) (t : Fin cfg0.N) : Vec F S1024x4096 .bf16 := normed (iblk m c 2 t) (iblk m c 1 t)

theorem rows_eq (c : Dev nD) (u t : Fin cfg0.N) (h : u.val / 4 = t.val / 4) : rows m c u = rows m c t := by
  unfold rows; rw [iblk_x_eq m c u t h, iblk_w_eq m c u t]

/-- The invariant before point `t`: inside a row block the scratch holds that block's normalized rows. -/
def inv (c : Dev nD) (t : Fin (cfg0.N + 1)) : sProp 𝕄 :=
  iprop((∃ f, ⌜t.val % 4 ≠ 0 → ∃ u : Fin cfg0.N, u.val / 4 = t.val / 4 ∧ f = rows m c u⌝
      ∗ owns (c : Thread nD τ) (Memref.whole cc0_scratch0) fullShare f)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (iblk m c 0 t) (rows m c t)
    | ⟨4, _⟩ => rows m c t
  Φ t := inv m c t
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = prod (iblk m c 0 t) (rows m c t) := by dsimp only [dats]
theorem after4 (c : Dev nD) (t : Fin cfg0.N) : (dats m 0 c).after 4 t = rows m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The second result's block -/

/-- The body tests whether its point is the first of a row block. -/
theorem isFirst_iff : ∀ t : Fin cfg0.N, isFirst (grid0.coords t) = 1#1 ↔ t.val % 4 = 0 :=
  (by decide +kernel : ∀ t : Fin grid0.N, _)

/-- Off the first point of a row block the body leaves the second result's block alone. -/
theorem idle4_iff (t : Fin cfg0.N) : cfg0.idle 4 (cfg0.grid.coords t) = true ↔ t.val % 4 ≠ 0 := by
  show (!(isFirst (grid0.coords t) == 1#1)) = true ↔ _
  rw [Bool.not_eq_true', beq_eq_false_iff_ne, ne_eq, isFirst_iff]

theorem fresh4 (n : ℕ) (h : n < cfg0.N) : cfg0.fresh 4 n = true ↔ n % 4 = 0 := by
  induction n with
  | zero => exact ⟨fun _ => rfl, fun _ => Pipeline.Cfg.fresh_zero cfg0 4⟩
  | succ n ih =>
    have hn : n < cfg0.N := by omega
    rw [Pipeline.Cfg.fresh_succ cfg0 4 n hn, Bool.or_eq_true, Bool.and_eq_true, flush0_4 ⟨n, hn⟩, idle4_iff ⟨n, hn⟩, ih hn]
    show n % 4 = 3 ∨ n % 4 ≠ 0 ∧ n % 4 = 0 ↔ _
    omega

/-- Off the first point of a row block the second result's buffer holds the row block's normalized rows. -/
theorem before4 (c : Dev nD) (t : Fin cfg0.N) (ht : t.val % 4 ≠ 0) (d) : (dats m 0 c).before 4 t d = rows m c t := by
  have hcarry : ∀ (t : Fin cfg0.N) (_ : t.val ≠ 0), cfg0.idle 4 (cfg0.grid.coords t) = true → cfg0.fresh 4 t.val = false →
      (dats m 0 c).after 4 t = (dats m 0 c).after 4 ⟨t.val - 1, by omega⟩ := fun t h0 hi _ => by
    rw [after4, after4]
    have h4 := (idle4_iff t).mp hi
    exact rows_eq m c _ _ (show t.val / 4 = (t.val - 1) / 4 by omega)
  have hf : ¬ cfg0.fresh 4 t.val = true := fun h => ht ((fresh4 t.val t.isLt).mp h)
  rw [(dats m 0 c).before_out_traj 4 rfl (fun _ _ => rfl) hcarry t.val t rfl d, if_neg hf, after4]
  exact rows_eq m c _ _ (show (t.val - 1) / 4 = t.val / 4 by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- Whatever the point, the row block's normalized rows in the second result's buffer is what the body owes for it. -/
theorem leaves4 (c : Dev nD) (t : Fin cfg0.N) :
    owns (c : Thread nD τ) (st0_4 t) fullShare (rows m c t) ⊢ (dats m 0 c).leavesExact 4 t := by
  cases hi : cfg0.idle 4 (cfg0.grid.coords t) with
  | false =>
    have e : (dats m 0 c).leavesExact 4 t = owns (c : Thread nD τ) (st0_4 t) fullShare ((dats m 0 c).after 4 t) := by
      unfold Dat.leavesExact; rw [hi]
    rw [e, after4]
  | true =>
    cases hf : (cfg0.win 4).flush t with
    | true =>
      have e : (dats m 0 c).leavesExact 4 t = owns (c : Thread nD τ) (st0_4 t) fullShare ((dats m 0 c).after 4 t) := by
        unfold Dat.leavesExact; rw [hi, hf]
      rw [e, after4]
    | false =>
      rw [(dats m 0 c).leavesExact_idle 4 t hi hf]
      iintro H
      iexists rows m c t
      rw [before4 m c t ((idle4_iff t).mp hi)]
      iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = inv m c t.castSucc from rfl, show (dats m 0 c).Φ t.succ = inv m c t.succ from rfl,
    show (dats m 0 c).owesAt () t.succ = (dats m 0 c).owesAt () t.castSucc from rfl, after0, after1, after2, after3]
  unfold inv
  iintro ⟨⟨⟨%f, %hf, Hs⟩, Hr⟩, Ho, ⟨%d0, H0⟩, ⟨%d1, H1⟩, ⟨%d2, H2⟩, ⟨%d3, H3⟩, ⟨%d4, H4⟩⟩
  by_cases hc : isFirst (grid0.coords t) = 1#1
  · iapply (sound_first c Set.univ (grid0.coords t) hc hc _ _ _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [Hs]; · iexists _; iexact Hs
    iintro ⟨H0, H1, H2, H3, H4, Hs⟩
    isplitl [Hs Hr]
    · isplitl [Hs]
      · iexists rows m c t
        isplitr
        · ipureintro
          intro h
          exact ⟨t, by rw [Fin.val_succ] at h ⊢; omega, rfl⟩
        iexact Hs
      iexact Hr
    isplitl [Ho]; · iexact Ho
    isplitl [H0]; · iexact H0
    isplitl [H1]; · iexact H1
    isplitl [H2]; · iexact H2
    isplitl [H3]; · iexact H3
    iapply (leaves4 m c t); iexact H4
  · have hn : t.val % 4 ≠ 0 := fun h => hc ((isFirst_iff t).mpr h)
    obtain ⟨u, hu, rfl⟩ := hf hn
    rw [rows_eq m c u t hu, before4 m c t hn]
    iapply (sound_kept c Set.univ (grid0.coords t) hc hc _ _ _ _ _ _ _ _ _ _ _ _ (iblk m c 0 t) (rows m c t) _)
    isplitl [H0]; · iexact H0
    isplitl [H3]; · iexists _; iexact H3
    isplitl [Hs]; · iexact Hs
    iintro ⟨H0, H3, Hs⟩
    isplitl [Hs Hr]
    · isplitl [Hs]
      · iexists rows m c t
        isplitr
        · ipureintro
          intro h
          exact ⟨t, by rw [Fin.val_succ] at h ⊢; omega, rfl⟩
        iexact Hs
      iexact Hr
    isplitl [Ho]; · iexact Ho
    isplitl [H0]; · iexact H0
    isplitl [H1]; · iexact H1
    isplitl [H2]; · iexact H2
    isplitl [H3]; · iexact H3
    iapply (leaves4 m c t); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the region hands over is the invariant before the first point, -/
theorem inv_in (c : Dev nD) : Pipeline.ΦA spec0 c ⊢ inv m c 0 := by
  unfold Pipeline.ΦA inv
  rw [scopedRest0_eq]
  iintro ⟨⟨%f, Hs⟩, Hr⟩
  isplitl [Hs]
  · iexists f
    isplitr; · ipureintro; intro h; exact absurd rfl h
    rw [owns_whole]; iexact Hs
  iexact Hr

/-- and the invariant after the last gives it back. -/
theorem inv_out (c : Dev nD) : inv m c (Fin.last cfg0.N) ⊢ Pipeline.ΦA spec0 c := by
  unfold Pipeline.ΦA inv
  rw [scopedRest0_eq]
  simp only [owns_whole]
  iintro ⟨⟨%f, -, Hs⟩, Hr⟩
  isplitl [Hs]
  · iexists f; iexact Hs
  iexact Hr

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Query

end
-- ==== Proof.Query.lean ====
/-
  The values of the query projection: the rows' root-mean-square norm, and its product with the query weight tile by tile, are
  the reference's.
-/
module

public import proofs.«01_k».proof.Defs
public import proofs.«01_k».proof.Proof.Gen.Kernel4
public import proofs.«01_k».proof.Proof.Gen.Reference4Ideal.Run
public import proofs.«01_k».proof.Proof.Gen.Reference4Ideal.Read
public import proofs.«01_k».proof.Proof.QueryRun
public import proofs.«01_k».proof.Proof.NormRows
public import Idealize.ShloMosaic.Lib.Pipeline.Value
public import Idealize.ShloMosaic.Lib.MatmulPlain
public import Idealize.ShloMosaic.Lib.KernelVsHost

@[expose] public section

noncomputable section

open Idealize.ShloMosaic Idealize.ShloMosaic.TcCoe Idealize.SL.Sem Idealize.ShloMosaic.ValueIdx
open Idealize.ShloMosaic.Pipeline (Dat)

namespace Cert.Query

open Cert.Kernel4Ideal Cert.Kernel4Ideal.Gen

/-- The two programs have one body table, written once in each. -/
theorem defs₀_eq : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l with
  | ⟨0, _⟩ => rfl

theorem defs_eq : Cert.Kernel4.defs (F := Bits) = Cert.Kernel4Ideal.defs (F := Bits) :=
  congrArg (Pipeline.defs Cert.Kernel4Ideal.pcfgs) defs₀_eq

/-- The call's program runs without fault and leaves its arguments as they were. -/
theorem frame_kernel : Cert.quiescent_Kernel4 := fun m ρ _ =>
  (congrArg (fun d => θ_run d (onTc (τ := τ) (main (F := Bits))) ⟨m, fun _ => 0, ρ⟩ _) defs_eq).mpr (frame (F := Bits) m ρ)

/-- The same of the ideal program. -/
theorem frame_ideal : Cert.quiescent_Kernel4Ideal := fun m ρ _ => frame (F := Ideal) m ρ

variable (m : (ℓ : Loc nD τ sig) → Buf (Elt Ideal) ℓ) (ρ : Dev nD → PrngReg)

/-! ## The reference at an index -/

open Cert.Reference4Ideal.Read in
/-- The reference's norm, read at an index. -/
theorem ref_norm_apply (x0 : FVec Ideal S8192x4096 .f32) (x1 : FVec Ideal S1x4096 .f32) (r : Fin 8192) (n : Fin 4096) :
    val_main_v13 (F := Ideal) x0 x1 (ix2 r n) = Norm.elem x0 x1 r 0 n := by
  rw [val_main_v13_apply, val_main_v10_apply, val_main_v12_apply, val_main_v11_apply, val_main_v9_apply, val_main_v8_apply,
    val_main_v7_apply, val_main_v6_apply, val_main_v5_apply, val_main_v4_apply, val_main_v3_apply, val_main_v2_apply,
    val_main_cst_apply, val_main_cst_0_apply, val_main_cst_1_apply]
  simp only [val_main_v1_apply, Ideal.ofBits_def, Ideal.addf_def, Ideal.mulf_def, Ideal.hostDivf_def,
    Ideal.hostUnary_rsqrt_def, Ideal.ofBits_zero_f32, zero_add]
  have e (k : Fin 4096) : idx_main_v2 (idx_main_v3 (idx_main_v9 (ix2 r n))) k = ix2 r k := by
    funext a; match a with
    | ⟨0, _⟩ => rfl
    | ⟨1, _⟩ => rfl
  have e' : val_main_v0 (F := Ideal) x1 (idx_main_v11 (idx_main_v12 (ix2 r n))) = x1 (ix2 0 n) := by
    rw [val_main_v0_apply]
    refine congrArg x1 (Shape.idx_ext₂ rfl ?_)
    show n.val % 4096 = n.val
    exact Nat.mod_eq_of_lt n.isLt
  simp only [e, e']
  rfl

open Cert.Reference4Ideal.Read in
/-- The reference's second result is its norm. -/
theorem ref_xn_apply (x0 : FVec Ideal S8192x4096 .f32) (x1 : FVec Ideal S1x4096 .f32) (r : Fin 8192) (n : Fin 4096) :
    val_main_v16 (F := Ideal) x0 x1 (ix2 r n) = Norm.elem x0 x1 r 0 n :=
  (val_main_v16_apply (F := Ideal) x0 x1 (ix2 r n)).trans (ref_norm_apply x0 x1 r n)

open Cert.Reference4Ideal.Read in
/-- The reference's product, read at an index. -/
theorem ref_apply (x0 : FVec Ideal S8192x4096 .f32) (x1 : FVec Ideal S1x4096 .f32) (x2 : FVec Ideal S4096x2048 .bf16)
    (r : Fin 8192) (n : Fin 2048) :
    val_main_v15 (F := Ideal) x0 x1 x2 (ix2 r n) = (∑ k : Fin 4096, Norm.elem x0 x1 r 0 k * x2 (ix2 k n) : EReal) := by
  rw [val_main_v15_apply]
  refine Finset.sum_congr rfl fun k _ => congrArg₂ (fun a b : EReal => a * b) ?_ ?_
  · have e : lidx_main_v15 (ix2 r n) k = ix2 r k := Shape.idx_ext₂ rfl rfl
    rw [e, ref_norm_apply]
  · have e : ridx_main_v15 (ix2 r n) k = ix2 k n := Shape.idx_ext₂ rfl rfl
    rw [e]
    exact val_main_v14_apply (F := Ideal) x2 (ix2 k n)

/-- The results: the reference's functions of the arguments. -/
abbrev G (c : Dev nD) : Buf (Elt Ideal) ((c : Thread nD τ).loc main_v3_0) :=
  Cert.Reference4Ideal.Read.val_main_v15 (F := Ideal) (m ((c : Thread nD τ).loc main_arg0)) (m ((c : Thread nD τ).loc main_arg1))
    (m ((c : Thread nD τ).loc main_arg2))
abbrev Gx (c : Dev nD) : Buf (Elt Ideal) ((c : Thread nD τ).loc main_v3_1) :=
  Cert.Reference4Ideal.Read.val_main_v16 (F := Ideal) (m ((c : Thread nD τ).loc main_arg0)) (m ((c : Thread nD τ).loc main_arg1))

/-! ## The body's tiles at an index -/

theorem pay_apply (p : FVec Ideal S128x4096 .f32) (w : FVec Ideal S1x4096 .f32) (j : Fin 128) (n : Fin 4096) :
    k0_pay4 (F := Ideal) p w (ix2 j n) = Norm.elem p w j 0 n := by
  have e : k0_pay4 (F := Ideal) p w = truncf .bf16 (mulf (mulf p (broadcastTo S128x4096 (rsqrt (addf (divf (shapeCast S128x1
        (multiReduction .add [1] S128 (mulf p p) 0x00000000#32 reduces_S128x4096_S128 (.inl rfl) rfl) shapeCasts_S128_S128x1)
        (broadcast S128x1 (Scalar.ofBits (F := Ideal) .f32 0x45800000#32)))
        (broadcast S128x1 (Scalar.ofBits (F := Ideal) .f32 0x358637BD#32)))) broadcasts_S128x1_S128x4096))
      (broadcastTo S128x4096 w broadcasts_S1x4096_S128x4096)) bitsLt_bf16_f32 := by
    unfold k0_pay4
    simp only [shapeCast_self]
  rw [e]
  exact Norm.rows_apply p w _ _ _ _ _ _ j n

theorem hz3 : (![0, 0, 0] : Fin 3 → Nat) = fun _ => 0 := funext fun a => by fin_cases a <;> rfl

/-- The scratch's normalized rows, read at an index. -/
theorem normed_apply (x : FVec Ideal S1024x4096 .f32) (w : FVec Ideal S1x4096 .f32) (r : Fin 1024) (n : Fin 4096) :
    normed (F := Ideal) x w (ix2 r n) = Norm.elem x w r 0 n := by
  have hw : View.ld (Val := Elt Ideal) (e' := .f32) w rw_ = w := View.ld_unit_zero whole_zero _ _
  unfold normed
  refine View.canon_eq_of_allAt _ _ _ (cover_normed _ _ _ _ _ _ _ _ _) ?_
  refine View.allAt_cons_unit _ _ _ _ _ (Norm.band x w 896 _ _ _ hw (pay_apply _ _) r n) ?_
  refine View.allAt_cons_unit _ _ _ _ _ (Norm.band x w 768 _ _ _ hw (pay_apply _ _) r n) ?_
  refine View.allAt_cons_unit _ _ _ _ _ (Norm.band x w 640 _ _ _ hw (pay_apply _ _) r n) ?_
  refine View.allAt_cons_unit _ _ _ _ _ (Norm.band x w 512 _ _ _ hw (pay_apply _ _) r n) ?_
  refine View.allAt_cons_unit _ _ _ _ _ (Norm.band x w 384 _ _ _ hw (pay_apply _ _) r n) ?_
  refine View.allAt_cons_unit _ _ _ _ _ (Norm.band x w 256 _ _ _ hw (pay_apply _ _) r n) ?_
  refine View.allAt_cons_unit _ _ _ _ _ (Norm.band x w 128 _ _ _ hw (pay_apply _ _) r n) ?_
  refine View.allAt_cons_unit _ _ _ _ _ (Norm.band x w 0 _ _ _ hw (pay_apply _ _) r n) ?_
  exact View.allAt_nil _ _

/-- The tile the body computes, read at an index. -/
theorem prod_apply (b : FVec Ideal S1x4096x512 .bf16) (a : FVec Ideal S1024x4096 .bf16) (j : Fin 1024) (n : Fin 512) :
    prod (F := Ideal) b a (ix2 j n) = (∑ k : Fin 4096, a (ix2 j k) * b (ix3 (0 : Fin 1) k n) : EReal) := by
  unfold prod
  rw [View.canon_unit_zero whole_zero, View.ld_unit_zero hz3, View.ld_unit_zero whole_zero]
  have e := Ideal.matmul_plain_apply (M := 1024) (K := 4096) (N := 512) none a
    (shapeCast S4096x512 b shapeCasts_S1x4096x512_S4096x512) (constant (F := Ideal) S1024x512 .f32 0x00000000#32) j n
  have e2 : (constant (F := Ideal) S1024x512 .f32 0x00000000#32 (ix2 j n) : EReal) = 0 := Ideal.ofBits_zero_f32
  have e3 (k : Fin 4096) : shapeCast S4096x512 b shapeCasts_S1x4096x512_S4096x512 (ix2 k n) = b (ix3 (0 : Fin 1) k n) :=
    shapeCast_1ab_ab_apply b _ k n
  simp only [e2, e3, zero_add] at e
  exact e

/-! ## The blocks and the arrays -/

/-- Where each window's block lies at a point of the 8 × 4 grid. -/
theorem idx_facts : ∀ t : Fin cfg0.N, win0_3.index t (0 : Fin 2) = t.val / 4 ∧ win0_3.index t (1 : Fin 2) = t.val % 4
    ∧ win0_4.index t (0 : Fin 2) = t.val / 4 ∧ win0_4.index t (1 : Fin 2) = 0
    ∧ win0_0.index t (0 : Fin 3) = 0 ∧ win0_0.index t (1 : Fin 3) = 0 ∧ win0_0.index t (2 : Fin 3) = t.val % 4
    ∧ win0_1.index t (0 : Fin 2) = 0 ∧ win0_1.index t (1 : Fin 2) = 0 :=
  (by decide +kernel : ∀ t : Fin grid0.N, _)

/-- The host's layouts of the two weights. -/
theorem V_main_v2 (c : Dev nD) : (V m c main_v2 : FVec Ideal S1x4096 .f32) = m ((c : Thread nD τ).loc main_arg1) := by
  have e : (V m c main_v2 : FVec Ideal S1x4096 .f32) = shapeCast S1x4096 (shapeCast S4096 (m ((c : Thread nD τ).loc main_arg1) : FVec Ideal S1x4096 .f32)
      shapeCasts_S1x4096_S4096) shapeCasts_S4096_S1x4096 := by
    unfold_abbrev_sides
    after_results
    rfl
  rw [e]
  funext i
  obtain ⟨u, n, rfl⟩ : ∃ (u : Fin 1) (n : Fin 4096), i = ix2 u n := ⟨i 0, i 1, eq_ix2 i⟩
  refine (shapeCast_a_1a_apply _ _ u n).trans ((shapeCast_1a_a_apply _ _ n).trans (congrArg _ (Shape.idx_ext₂ ?_ rfl)))
  show 0 = u.val
  omega

theorem V_main_v1 (c : Dev nD) (u : Fin 1) (k : Fin 4096) (n : Fin 2048) :
    (V m c main_v1 : FVec Ideal S1x4096x2048 .bf16) (ix3 u k n)
      = (m ((c : Thread nD τ).loc main_arg2) : FVec Ideal S4096x2048 .bf16) (ix2 k n) := by
  have e : (V m c main_v1 : FVec Ideal S1x4096x2048 .bf16) = broadcastInDim S1x4096x2048 ![1, 2] bcast_S4096x2048_S1x4096x2048_1_2
      (m ((c : Thread nD τ).loc main_arg2) : FVec Ideal S4096x2048 .bf16) := by
    unfold_abbrev_sides
    after_results
    try rfl
  rw [e]
  exact broadcastInDim_apply _ bcast_S4096x2048_S1x4096x2048_1_2 _ (ix3 u k n) (ix2 k n) fun a => match a with
    | ⟨0, _⟩ => by show k.val = if (4096 : Nat) = 1 then 0 else k.val; rw [if_neg (by decide)]
    | ⟨1, _⟩ => by show n.val = if (2048 : Nat) = 1 then 0 else n.val; rw [if_neg (by decide)]

/-- The row and column of the arrays at row `j` and column `n` of point `t`'s tile. -/
abbrev row (t : Fin cfg0.N) (j : Fin 1024) : Fin 8192 :=
  ⟨t.val / 4 * 1024 + j.val, by have h : t.val < 32 := t.isLt; have := j.isLt; omega⟩
abbrev col (t : Fin cfg0.N) (n : Fin 512) : Fin 2048 :=
  ⟨t.val % 4 * 512 + n.val, by have := n.isLt; omega⟩

theorem blk2_apply (c : Dev nD) (t : Fin cfg0.N) (j : Fin 1024) (k : Fin 4096) :
    (iblk m c 2 t : FVec Ideal S1024x4096 .f32) (ix2 j k) = (m ((c : Thread nD τ).loc main_arg0) : FVec Ideal S8192x4096 .f32) (ix2 (row t j) k) := by
  obtain ⟨e0, e1⟩ := index_x t
  show V m c main_arg0 ((win0_2.rect t).emb (ix2 j k)) = _
  rw [V_main_arg0]
  refine congrArg _ (Shape.idx_ext₂ ?_ ?_)
  · rw [win0_2.rect_emb_val, e0]; rfl
  · rw [win0_2.rect_emb_val, e1]; show 0 * 4096 + k.val = k.val; omega

theorem blk1_apply (c : Dev nD) (t : Fin cfg0.N) (u : Fin 1) (k : Fin 4096) :
    (iblk m c 1 t : FVec Ideal S1x4096 .f32) (ix2 u k) = (m ((c : Thread nD τ).loc main_arg1) : FVec Ideal S1x4096 .f32) (ix2 u k) := by
  obtain ⟨-, -, -, -, -, -, -, e0, e1⟩ := idx_facts t
  show V m c main_v2 ((win0_1.rect t).emb (ix2 u k)) = _
  rw [V_main_v2]
  refine congrArg _ (Shape.idx_ext₂ ?_ ?_)
  · rw [win0_1.rect_emb_val, e0]; show 0 * 1 + u.val = u.val; omega
  · rw [win0_1.rect_emb_val, e1]; show 0 * 4096 + k.val = k.val; omega

theorem blk0_apply (c : Dev nD) (t : Fin cfg0.N) (k : Fin 4096) (n : Fin 512) :
    (iblk m c 0 t : FVec Ideal S1x4096x512 .bf16) (ix3 (0 : Fin 1) k n)
      = (m ((c : Thread nD τ).loc main_arg2) : FVec Ideal S4096x2048 .bf16) (ix2 k (col t n)) := by
  obtain ⟨-, -, -, -, e0, e1, e2, -, -⟩ := idx_facts t
  refine Eq.trans ?_ (V_main_v1 m c 0 k (col t n))
  show V m c main_v1 ((win0_0.rect t).emb (ix3 (0 : Fin 1) k n)) = _
  refine congrArg _ (funext fun a => Fin.ext ?_)
  match a with
  | ⟨0, _⟩ => refine (win0_0.rect_emb_val _ _ (0 : Fin 3)).trans ?_; rw [e0]; rfl
  | ⟨1, _⟩ => refine (win0_0.rect_emb_val _ _ (1 : Fin 3)).trans ?_; rw [e1]; show 0 * 4096 + k.val = k.val; omega
  | ⟨2, _⟩ => refine (win0_0.rect_emb_val _ _ (2 : Fin 3)).trans ?_; rw [e2]; rfl

/-- The normalized rows at a point are the norm of the array's rows. -/
theorem rows_apply (c : Dev nD) (t : Fin cfg0.N) (j : Fin 1024) (k : Fin 4096) :
    rows (F := Ideal) m c t (ix2 j k) = Norm.elem (m ((c : Thread nD τ).loc main_arg0) : FVec Ideal S8192x4096 .f32)
      (m ((c : Thread nD τ).loc main_arg1) : FVec Ideal S1x4096 .f32) (row t j) 0 k := by
  refine (normed_apply _ _ j k).trans ?_
  unfold Norm.elem
  simp only [blk2_apply, blk1_apply]

/-- What a point leaves in the first result's block is its tile of the reference's product. -/
theorem prod_eq (c : Dev nD) (t : Fin cfg0.N) (j : Fin 1024) (n : Fin 512) :
    prod (F := Ideal) (iblk m c 0 t) (rows m c t) (ix2 j n) = G m c (ix2 (row t j) (col t n)) := by
  refine (prod_apply _ _ j n).trans (Eq.trans ?_ (ref_apply _ _ _ (row t j) (col t n)).symm)
  exact Finset.sum_congr rfl fun k _ => congrArg₂ (fun a b : EReal => a * b) (rows_apply m c t j k) (blk0_apply m c t k n)

theorem flushed3_eq (c : Dev nD) (t : Fin cfg0.N) :
    win0_3.cut (grid0.coords t) ((dats m 0 c).after 3 t) = fun y => G m c ((win0_3.rect t).emb y) := by
  obtain ⟨e0, e1, -⟩ := idx_facts t
  rw [after3]
  funext y
  obtain ⟨j, n, rfl⟩ : ∃ (j : Fin 1024) (n : Fin 512), y = ix2 j n := ⟨y 0, y 1, eq_ix2 y⟩
  have ey : (win0_3.rect t).emb (ix2 j n) = ix2 (row t j) (col t n) := by
    refine Shape.idx_ext₂ ?_ ?_
    · rw [win0_3.rect_emb_val, e0]; rfl
    · rw [win0_3.rect_emb_val, e1]; rfl
  show prod (F := Ideal) (iblk m c 0 t) (rows m c t) (ix2 j n) = G m c ((win0_3.rect t).emb (ix2 j n))
  rw [ey]
  exact prod_eq m c t j n

theorem flushed4_eq (c : Dev nD) (t : Fin cfg0.N) :
    win0_4.cut (grid0.coords t) ((dats m 0 c).after 4 t) = fun y => Gx m c ((win0_4.rect t).emb y) := by
  obtain ⟨-, -, e0, e1, -⟩ := idx_facts t
  rw [after4]
  funext y
  obtain ⟨j, n, rfl⟩ : ∃ (j : Fin 1024) (n : Fin 4096), y = ix2 j n := ⟨y 0, y 1, eq_ix2 y⟩
  have ey : (win0_4.rect t).emb (ix2 j n) = ix2 (row t j) n := by
    refine Shape.idx_ext₂ ?_ ?_
    · rw [win0_4.rect_emb_val, e0]; rfl
    · rw [win0_4.rect_emb_val, e1]; show 0 * 4096 + n.val = n.val; omega
  show rows (F := Ideal) m c t (ix2 j n) = Gx m c ((win0_4.rect t).emb (ix2 j n))
  rw [ey]
  exact (rows_apply m c t j n).trans (ref_xn_apply _ _ _ _).symm

/-- An index of a result is in point `t`'s block when both coordinates are. -/
theorem mem_blk3 (t : Fin cfg0.N) (i : S8192x2048.Idx) :
    i ∈ ((cfg0.win 3).blk t).view.set ↔ ∀ a : Fin 2, win0_3.index t a * win0_3.size a ≤ (i a).val
      ∧ (i a).val < win0_3.index t a * win0_3.size a + win0_3.xsize (grid0.coords t) a := by
  show i ∈ ((View.whole main_v3_0).slice (win0_3.rect t)).set ↔ _
  rw [View.set_slice_whole, Rect.mem_set_unit]
  exact Iff.rfl

theorem mem_blk4 (t : Fin cfg0.N) (i : S8192x4096.Idx) :
    i ∈ ((cfg0.win 4).blk t).view.set ↔ ∀ a : Fin 2, win0_4.index t a * win0_4.size a ≤ (i a).val
      ∧ (i a).val < win0_4.index t a * win0_4.size a + win0_4.xsize (grid0.coords t) a := by
  show i ∈ ((View.whole main_v3_1).slice (win0_4.rect t)).set ↔ _
  rw [View.set_slice_whole, Rect.mem_set_unit]
  exact Iff.rfl

theorem cover3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have ht : (i 0).val / 1024 * 4 + (i 1).val / 512 < cfg0.N := by show _ < 32; omega
  refine ⟨⟨_, ht⟩, flush0_3 _, ?_⟩
  rw [mem_blk3]
  obtain ⟨e0, e1, -⟩ := idx_facts ⟨_, ht⟩
  intro a
  match a with
  | ⟨0, _⟩ => show win0_3.index _ (0 : Fin 2) * 1024 ≤ (i 0).val ∧ (i 0).val < win0_3.index _ (0 : Fin 2) * 1024 + 1024
              rw [e0]; dsimp only; omega
  | ⟨1, _⟩ => show win0_3.index _ (1 : Fin 2) * 512 ≤ (i 1).val ∧ (i 1).val < win0_3.index _ (1 : Fin 2) * 512 + 512
              rw [e1]; dsimp only; omega

theorem cover4 (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have ht : (i 0).val / 1024 * 4 + 3 < cfg0.N := by show _ < 32; omega
  refine ⟨⟨_, ht⟩, (flush0_4 _).mpr ?_, ?_⟩
  · dsimp only; omega
  rw [mem_blk4]
  obtain ⟨-, -, e0, e1, -⟩ := idx_facts ⟨_, ht⟩
  intro a
  match a with
  | ⟨0, _⟩ => show win0_4.index _ (0 : Fin 2) * 1024 ≤ (i 0).val ∧ (i 0).val < win0_4.index _ (0 : Fin 2) * 1024 + 1024
              rw [e0]; dsimp only; omega
  | ⟨1, _⟩ => show win0_4.index _ (1 : Fin 2) * 4096 ≤ (i 1).val ∧ (i 1).val < win0_4.index _ (1 : Fin 2) * 4096 + 4096
              rw [e1]; omega

/-- The result arrays after the run are the reference's functions of the arguments. -/
theorem final3 (c : Dev nD) : (dats m 0 c).arrAt 3 cfg0.N = G m c :=
  (dats m 0 c).arrAt_eq_of_cover 3 (G m c) (fun t _ => flushed3_eq m c t) cover3

theorem final4 (c : Dev nD) : (dats m 0 c).arrAt 4 cfg0.N = Gx m c :=
  (dats m 0 c).arrAt_eq_of_cover 4 (Gx m c) (fun t _ => flushed4_eq m c t) cover4

/-- On the extended reals the call computes the reference's norm and its projection. -/
theorem algebraic : Cert.algebraic_Kernel4Ideal_Reference4Ideal := by
  intro m g m' g' _ hagree
  refine ⟨fun c => G m c, fun c => Gx m c, (θ_run Cert.Kernel4Ideal.defs _ _).mono (fun r h c => ?_) (run_main (F := Ideal) m g),
    (θ_run Cert.Reference4Ideal.defs _ _).mono (fun r h c => ?_) (Cert.Reference4Ideal.Value.run (F := Ideal) m' g')⟩
  · exact ⟨((h.1 c).1 3).trans (final3 m c), ((h.1 c).1 4).trans (final4 m c),
      ((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩
  · refine ⟨(h c).1.trans ?_, (h c).2.1.trans ?_, (h c).2.2⟩
    · rw [Cert.Reference4Ideal.Read.val_main_v15_eq, (hagree c).1, (hagree c).2.1, (hagree c).2.2]
    · rw [Cert.Reference4Ideal.Read.val_main_v16_eq, (hagree c).1, (hagree c).2.1]

end Cert.Query

end
-- ==== Proof.FinalNorm.lean ====
/-
  The value of the last call: the root-mean-square norm of `h + peer`, row block by row block, is the reference's.
-/
module

public import proofs.«01_k».proof.Defs
public import proofs.«01_k».proof.Proof.Norm
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Value

@[expose] public section

noncomputable section

open Idealize.ShloMosaic Idealize.ShloMosaic.TcCoe Idealize.SL.Sem Idealize.ShloMosaic.ValueIdx
open Idealize.ShloMosaic.Pipeline (Dat)

namespace Cert.FinalNorm

open Cert.Kernel5Ideal Cert.Kernel5Ideal.Gen

variable (m : (ℓ : Loc nD τ sig) → Buf (Elt Ideal) ℓ) (ρ : Dev nD → PrngReg)

open Cert.Reference5Ideal.Read in
/-- The reference's norm read at an index: the element of the sum, times its row's scale, times the weight. -/
theorem ref_apply (x0 x1 : FVec Ideal S8192x4096 .f32) (x2 : FVec Ideal S4096 .f32) (r : Fin 8192) (n : Fin 4096) :
    Cert.Reference5Ideal.Read.val_main_v13 (F := Ideal) x0 x1 x2 (ix2 r n)
      = (x0 (ix2 r n) + x1 (ix2 r n)) * Norm.scale (fun k => x0 (ix2 r k) + x1 (ix2 r k)) * x2 (ix1 n) := by
  rw [val_main_v13_apply, val_main_v10_apply, val_main_v12_apply, val_main_v11_apply, val_main_v9_apply, val_main_v8_apply,
    val_main_v7_apply, val_main_v6_apply, val_main_v5_apply, val_main_v4_apply, val_main_v3_apply, val_main_v2_apply,
    val_main_v0_apply, val_main_cst_apply, val_main_cst_0_apply, val_main_cst_1_apply]
  simp only [val_main_v1_apply, val_main_v0_apply, Ideal.ofBits_def, Ideal.addf_def, Ideal.mulf_def, Ideal.hostDivf_def,
    Ideal.hostUnary_rsqrt_def, Ideal.ofBits_zero_f32, zero_add]
  have e (k : Fin 4096) : idx_main_v2 (idx_main_v3 (idx_main_v9 (ix2 r n))) k = ix2 r k := by
    funext a; match a with
    | ⟨0, _⟩ => rfl
    | ⟨1, _⟩ => rfl
  have e' : idx_main_v11 (idx_main_v12 (ix2 r n)) = ix1 n := by
    funext a; match a with
    | ⟨0, _⟩ => rfl
  simp only [e, e']
  rfl

/-- The result: the reference's function of the arguments. -/
abbrev G (c : Dev nD) : Buf (Elt Ideal) ((c : Thread nD τ).loc main_v1) :=
  Cert.Reference5Ideal.Read.val_main_v13 (F := Ideal) (m ((c : Thread nD τ).loc main_arg0)) (m ((c : Thread nD τ).loc main_arg1))
    (m ((c : Thread nD τ).loc main_arg2))

/-- Where each window's block lies: the row windows at the point's rows, the weight window at the whole row. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The host's reshape of the weight, read at an index. -/
theorem V_main_v0 (c : Dev nD) (i : S1x4096.Idx) :
    V m c main_v0 i = m ((c : Thread nD τ).loc main_arg2) (ix1 (i 1)) := by
  have e : V m c main_v0 = shapeCast S1x4096 (m ((c : Thread nD τ).loc main_arg2)) shapeCasts_S4096_S1x4096 := by
    unfold_abbrev_sides
    after_results
    rfl
  rw [e]
  refine shapeCast_apply _ _ i (ix1 (i 1)) ?_
  rw [Shape.rowMajor_val_one, Shape.rowMajor_val_two]
  have h : (i 0).val < 1 := (i 0).isLt
  show (i 1).val = (i 0).val * 4096 + (i 1).val
  omega

/-- Row `j` of point `t`'s blocks is row `256 t + j` of the arrays. -/
abbrev row (t : Fin cfg0.N) (j : Fin 256) : Fin 8192 :=
  ⟨t.val * 256 + j.val, by have h : t.val < 32 := t.isLt; have := j.isLt; omega⟩

/-- The blocks of the two summands and of the weight, read at an index of the block. -/
theorem blk0_apply (c : Dev nD) (t : Fin cfg0.N) (j : Fin 256) (n : Fin 4096) :
    iblk m c 0 t (ix2 j n : S256x4096.Idx) = m ((c : Thread nD τ).loc main_arg0) (ix2 (row t j) n) := by
  obtain ⟨-, -, e0, e1, -⟩ := idx_facts t
  show V m c main_arg0 ((win0_0.rect t).emb (ix2 j n)) = _
  rw [V_main_arg0]
  refine congrArg _ (Shape.idx_ext₂ ?_ ?_)
  · rw [win0_0.rect_emb_val, e0]; rfl
  · rw [win0_0.rect_emb_val, e1]; show 0 * 4096 + n.val = n.val; omega

theorem blk1_apply (c : Dev nD) (t : Fin cfg0.N) (j : Fin 256) (n : Fin 4096) :
    iblk m c 1 t (ix2 j n : S256x4096.Idx) = m ((c : Thread nD τ).loc main_arg1) (ix2 (row t j) n) := by
  obtain ⟨-, -, -, -, e0, e1, -⟩ := idx_facts t
  show V m c main_arg1 ((win0_1.rect t).emb (ix2 j n)) = _
  rw [V_main_arg1]
  refine congrArg _ (Shape.idx_ext₂ ?_ ?_)
  · rw [win0_1.rect_emb_val, e0]; rfl
  · rw [win0_1.rect_emb_val, e1]; show 0 * 4096 + n.val = n.val; omega

theorem blk2_apply (c : Dev nD) (t : Fin cfg0.N) (j : Fin 1) (n : Fin 4096) :
    iblk m c 2 t (ix2 j n : S1x4096.Idx) = m ((c : Thread nD τ).loc main_arg2) (ix1 n) := by
  obtain ⟨-, -, -, -, -, -, e0, e1⟩ := idx_facts t
  show V m c main_v0 ((win0_2.rect t).emb (ix2 j n)) = _
  rw [V_main_v0]
  refine congrArg _ (congrArg ix1 (Fin.ext ?_))
  rw [win0_2.rect_emb_val, e1]; show 0 * 4096 + n.val = n.val; omega

theorem hz : (![0, 0] : Fin 2 → Nat) = fun _ => 0 := funext fun a => by fin_cases a <;> rfl

/-- The body's result read at an index of the block. -/
theorem E3_apply (P0 P1 : FVec Ideal S256x4096 .f32) (P2 : FVec Ideal S1x4096 .f32) (j : Fin 256) (n : Fin 4096) :
    Value.E3 (F := Ideal) P0 P1 P2 (ix2 j n)
      = (P0 (ix2 j n) + P1 (ix2 j n)) * Norm.scale (fun k => P0 (ix2 j k) + P1 (ix2 j k)) * P2 (ix2 (0 : Fin 1) n) := by
  have e3 : Value.ix3_0 (ix2 j n) = ix2 j n := Shape.idx_ext₂ rfl rfl
  have e4 : Value.ix3_1 (ix2 j n) = ix2 j n := Shape.idx_ext₂ rfl rfl
  have e5 : Value.ix3_3 (ix2 j n) = ix2 (0 : Fin 1) n := Shape.idx_ext₂ rfl rfl
  unfold Value.E3
  rw [e3, e4, e5]
  exact congrArg (fun s : EReal => (P0 (ix2 j n) + P1 (ix2 j n)) * Ideal.rsqrt (Ideal.div s (Ideal.ofBits .f32 0x45800000#32)
    + Ideal.ofBits .f32 0x358637BD#32) * P2 (ix2 (0 : Fin 1) n)) (Norm.sumSq_apply (addf (F := Ideal) P0 P1) _ _ _ (Value.ix3_2 (ix2 j n)))

/-- What a point writes back is its rows of the reference's result. -/
theorem flushed_eq (c : Dev nD) (t : Fin cfg0.N) :
    (dats m 0 c).flushed 3 t = (win0_3.blk t).view.read (Elt Ideal) (G m c) := by
  rw [Value.flushed3]
  funext y
  obtain ⟨e0, e1, -⟩ := idx_facts t
  obtain ⟨j, n, rfl⟩ : ∃ (j : Fin 256) (n : Fin 4096), y = ix2 j n := ⟨y 0, y 1, eq_ix2 y⟩
  have ey : (win0_3.rect t).emb (ix2 j n) = ix2 (row t j) n := by
    refine Shape.idx_ext₂ ?_ ?_
    · rw [win0_3.rect_emb_val, e0]; rfl
    · rw [win0_3.rect_emb_val, e1]; show 0 * 4096 + n.val = n.val; omega
  show out0_3 (iblk m c 0 t) (iblk m c 1 t) (iblk m c 2 t) (ix2 j n) = G m c ((win0_3.rect t).emb (ix2 j n))
  rw [ey]
  refine Eq.trans ?_ (ref_apply _ _ _ (row t j) n).symm
  unfold out0_3
  rw [View.ld_unit_zero hz, View.ld_unit_zero hz, View.ld_unit_zero hz, Value.canon3_eq]
  refine (E3_apply (iblk m c 0 t) (iblk m c 1 t) (iblk m c 2 t) j n).trans ?_
  rw [blk0_apply, blk1_apply, blk2_apply]
  simp only [blk0_apply, blk1_apply]

/-- An index of the result is in point `t`'s block when its row is. -/
theorem mem_blk (t : Fin cfg0.N) (i : S8192x4096.Idx) :
    i ∈ ((cfg0.win 3).blk t).view.set ↔ ∀ a : Fin 2, win0_3.index t a * win0_3.size a ≤ (i a).val
      ∧ (i a).val < win0_3.index t a * win0_3.size a + win0_3.xsize (grid0.coords t) a := by
  show i ∈ ((View.whole main_v1).slice (win0_3.rect t)).set ↔ _
  rw [View.set_slice_whole, Rect.mem_set_unit]
  exact Iff.rfl

theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have ht : (i 0).val / 256 < cfg0.N := by show _ < 32; omega
  refine ⟨⟨_, ht⟩, flush0_3 _, ?_⟩
  rw [mem_blk]
  obtain ⟨e0, e1, -⟩ := idx_facts ⟨_, ht⟩
  intro a
  match a with
  | ⟨0, _⟩ => show win0_3.index _ (0 : Fin 2) * 256 ≤ (i 0).val ∧ (i 0).val < win0_3.index _ (0 : Fin 2) * 256 + 256
              rw [e0]; dsimp only; omega
  | ⟨1, _⟩ => show win0_3.index _ (1 : Fin 2) * 4096 ≤ (i 1).val ∧ (i 1).val < win0_3.index _ (1 : Fin 2) * 4096 + 4096
              rw [e1]; omega

/-- The result array after the run is the reference's function of the arguments. -/
theorem final (c : Dev nD) : (dats m 0 c).arrAt 3 cfg0.N = G m c :=
  (dats m 0 c).arrAt_eq_of_cover 3 (G m c) (fun t _ => flushed_eq m c t) cover

/-- On the extended reals the call computes the reference's norm of the sum. -/
theorem algebraic : Cert.algebraic_Kernel5Ideal_Reference5Ideal := by
  intro m g m' g' _ hagree
  refine ⟨fun c => G m c, (θ_run Cert.Kernel5Ideal.defs _ _).mono (fun r h c => ?_) (Value.run_blocks (F := Ideal) m g),
    (θ_run Cert.Reference5Ideal.defs _ _).mono (fun r h c => ?_) (Cert.Reference5Ideal.Value.run (F := Ideal) m' g')⟩
  · exact ⟨(h c).1.trans (final m c), (h c).2⟩
  · refine ⟨(h c).1.trans ?_, (h c).2⟩
    rw [Cert.Reference5Ideal.Read.val_main_v13_eq, (hagree c).1, (hagree c).2.1, (hagree c).2.2]

end Cert.FinalNorm

end
-- ==== Proof.PrepOuts.lean ====
/-
  The eight blocks a grid point leaves, as plain expressions of the fourteen blocks it reads: the loads and stores are of
  whole blocks, and the head sums, chunk by chunk in the body, are `HeadSum.headSum`.
-/
module

public import proofs.«01_k».proof.Proof.Gen.Kernel6Ideal.Value
public import proofs.«01_k».proof.Proof.HeadNorm
public import Idealize.ShloMosaic.Lib.WholeRead

@[expose] public section

noncomputable section

open Idealize.ShloMosaic Idealize.ShloMosaic.TcCoe Idealize.SL.Sem Idealize.ShloMosaic.ValueIdx

namespace Cert.Prep

open Cert.Kernel6Ideal Cert.Kernel6Ideal.Gen Cert.HeadSum

section Whole

variable {sig : RefSig} {Val : EltTy → Type} {κ : Kind} {sp : Space} {s : Shape} {e : EltTy}

theorem hz : (![0, 0] : Fin 2 → Nat) = fun _ => 0 := funext fun a => by fin_cases a <;> rfl

/-- A load of a whole block. -/
def rd {a b : Nat} {m : Memref sig κ sp ⟨2, ![a, b]⟩ e} (h : m.IsWhole) (X : (⟨2, ![a, b]⟩ : Shape).Idx → Val e)
    (inb : ∀ d, (![0, 0] : Fin 2 → Nat) d + (⟨2, ![a, b]⟩ : Shape).size d ≤ (⟨2, ![a, b]⟩ : Shape).size d) : (⟨2, ![a, b]⟩ : Shape).Idx → Val e :=
  View.readAt Val m.view (Rect.unit (s := ⟨2, ![a, b]⟩) ![0, 0] (⟨2, ![a, b]⟩ : Shape).size inb).toLoadRect (h.unread X)

/-- It reads the block. -/
theorem rd_eq {a b : Nat} {m : Memref sig κ sp ⟨2, ![a, b]⟩ e} (h : m.IsWhole) (X : (⟨2, ![a, b]⟩ : Shape).Idx → Val e) (inb) :
    rd h X inb = X := by
  funext x
  refine (h.readAt_unread X (Rect.unit (s := ⟨2, ![a, b]⟩) ![0, 0] (⟨2, ![a, b]⟩ : Shape).size inb).toLoadRect x).trans (congrArg X (Shape.idx_ext₂ ?_ ?_))
  · show 0 + 1 * (x 0).val = _; omega
  · show 0 + 1 * (x 1).val = _; omega

/-- A store of a whole block leaves it. -/
theorem write_full [∀ e, Nonempty (Val e)] (v : View sig κ sp s e) (f : v.ty.Contents Val) {off : Fin s.rank → Nat} (ho : off = fun _ => 0)
    (inb : ∀ a, off a + s.size a ≤ s.size a) (w : s.Idx → Val e) :
    v.read Val (v.writes Val f [(⟨Rect.unit off s.size inb, w⟩ : View.Piece Val s e)]) = w := by
  rw [View.read_writes_eq_canon v f _ (fun y => ⟨_, List.mem_singleton.mpr rfl, View.mem_set_unit_zero ho inb y⟩), View.canon_unit_zero ho inb w]

end Whole

variable {F : FTy → Type} [FloatOps F]

/-- The mix of a row with the row before it, for the wide columns and for the narrow ones. -/
abbrev wide (i : grid0.Coords) (x0 : Vec F S128x6144 .f32) (x2 : Vec F S8x6144 .f32) (x4 : Vec F S1x6144 .f32) : FVec F S128x6144 .f32 := k0_pay1 i x0 x2 x4
abbrev narrow (i : grid0.Coords) (x1 : Vec F S128x512 .f32) (x3 : Vec F S8x512 .f32) (x5 : Vec F S1x512 .f32) : FVec F S128x512 .f32 :=
  k0_pay4 x1 (iota .tc S128x512 32 [0] iota_S128x512_d0_w32) (k0_pay2 x1) (k0_pay3 i x3) 0#32 x5

/-- The rate. -/
abbrev rateB (i : grid0.Coords) (x1 : Vec F S128x512 .f32) (x3 : Vec F S8x512 .f32) (x5 : Vec F S1x512 .f32) (x7 : Vec F S1x2048 .f32) (x12 : Vec F S512x2048 .bf16) :
    FVec F S128x2048 .f32 :=
  k0_pay9 x1 (iota .tc S128x512 32 [0] iota_S128x512_d0_w32) (k0_pay2 x1) (k0_pay3 i x3) 0#32 x5 x7 x12

/-- A key over its head's length. -/
def unitB (q : FVec F S128x2048 .f32) : FVec F S128x2048 .f32 :=
  mulf q (rsqrt (maximumf (headSum (mulf q q) ones) (broadcast S128x2048 (Scalar.ofBits .f32 0x179ABE15#32))))

def outR (i : grid0.Coords) (x0 : Vec F S128x6144 .f32) (x2 : Vec F S8x6144 .f32) (x4 : Vec F S1x6144 .f32) : FVec F S128x2048 .bf16 :=
  k0_pay46 (k0_pay5 (wide i x0 x2 x4))

def outK (i : grid0.Coords) (x0 : Vec F S128x6144 .f32) (x1 : Vec F S128x512 .f32) (x2 : Vec F S8x6144 .f32) (x3 : Vec F S8x512 .f32) (x4 : Vec F S1x6144 .f32)
    (x5 : Vec F S1x512 .f32) (x7 x9 : Vec F S1x2048 .f32) (x12 : Vec F S512x2048 .bf16) : FVec F S128x2048 .bf16 :=
  k0_pay47 (k0_pay6 (wide i x0 x2 x4)) (rateB i x1 x3 x5 x7 x12) x9

def outV (i : grid0.Coords) (x0 : Vec F S128x6144 .f32) (x2 : Vec F S8x6144 .f32) (x4 : Vec F S1x6144 .f32) : FVec F S128x2048 .bf16 :=
  k0_pay48 (k0_pay7 (wide i x0 x2 x4))

def outUnit (i : grid0.Coords) (x0 : Vec F S128x6144 .f32) (x2 : Vec F S8x6144 .f32) (x4 : Vec F S1x6144 .f32) (x8 : Vec F S1x2048 .f32) : FVec F S128x2048 .bf16 :=
  truncf .bf16 (unitB (k0_pay11 (k0_pay6 (wide i x0 x2 x4)) x8)) bitsLt_bf16_f32

def outStep (i : grid0.Coords) (x0 : Vec F S128x6144 .f32) (x1 : Vec F S128x512 .f32) (x2 : Vec F S8x6144 .f32) (x3 : Vec F S8x512 .f32) (x4 : Vec F S1x6144 .f32)
    (x5 : Vec F S1x512 .f32) (x7 x8 : Vec F S1x2048 .f32) (x12 : Vec F S512x2048 .bf16) : FVec F S128x2048 .bf16 :=
  truncf .bf16 (mulf (unitB (k0_pay11 (k0_pay6 (wide i x0 x2 x4)) x8)) (rateB i x1 x3 x5 x7 x12)) bitsLt_bf16_f32

def outDecay (i : grid0.Coords) (x1 : Vec F S128x512 .f32) (x3 : Vec F S8x512 .f32) (x5 : Vec F S1x512 .f32) (x6 : Vec F S1x2048 .f32) (x11 : Vec F S512x2048 .bf16) :
    FVec F S128x2048 .f32 :=
  k0_pay51 (k0_pay8 x1 (iota .tc S128x512 32 [0] iota_S128x512_d0_w32) (k0_pay2 x1) (k0_pay3 i x3) 0#32 x5 x6 x11)

def outGate (i : grid0.Coords) (x1 : Vec F S128x512 .f32) (x3 : Vec F S8x512 .f32) (x5 : Vec F S1x512 .f32) (x13 : Vec F S512x2048 .bf16) : FVec F S128x2048 .bf16 :=
  k0_pay52 (k0_pay10 (narrow i x1 x3 x5) x13)

def outBonus (i : grid0.Coords) (x0 : Vec F S128x6144 .f32) (x1 : Vec F S128x512 .f32) (x2 : Vec F S8x6144 .f32) (x3 : Vec F S8x512 .f32) (x4 : Vec F S1x6144 .f32)
    (x5 : Vec F S1x512 .f32) (x7 x9 x10 : Vec F S1x2048 .f32) (x12 : Vec F S512x2048 .bf16) : FVec F S128x2048 .bf16 :=
  truncf .bf16 (mulf (headSum (k0_pay53 (k0_pay5 (wide i x0 x2 x4)) (k0_pay45 (k0_pay6 (wide i x0 x2 x4)) (rateB i x1 x3 x5 x7 x12) x9) x10) ones)
    (k0_pay7 (wide i x0 x2 x4))) bitsLt_bf16_f32

section Outs

variable (c : Dev nD) (i : grid0.Coords) (arg1 : Memref sig .tc .vmem S128x6144 .f32) (harg1 : arg1.IsWhole) (arg2 : Memref sig .tc .vmem S128x512 .f32) (harg2 : arg2.IsWhole) (arg3 : Memref sig .tc .vmem S8x6144 .f32) (harg3 : arg3.IsWhole) (arg4 : Memref sig .tc .vmem S8x512 .f32) (harg4 : arg4.IsWhole) (arg5 : Memref sig .tc .vmem S1x6144 .f32) (harg5 : arg5.IsWhole) (arg6 : Memref sig .tc .vmem S1x512 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x2048 .bf16) (harg19 : arg19.IsWhole) (arg20 : Memref sig .tc .vmem S128x2048 .f32) (harg20 : arg20.IsWhole) (arg21 : Memref sig .tc .vmem S128x2048 .bf16) (harg21 : arg21.IsWhole) (arg22 : Memref sig .tc .vmem S128x2048 .bf16) (harg22 : arg22.IsWhole)
    (x0 : Vec F S128x6144 .f32) (x1 : Vec F S128x512 .f32) (x2 : Vec F S8x6144 .f32) (x3 : Vec F S8x512 .f32) (x4 : Vec F S1x6144 .f32) (x5 : Vec F S1x512 .f32) (x6 : Vec F S1x2048 .f32) (x7 : Vec F S1x2048 .f32) (x8 : Vec F S1x2048 .f32) (x9 : Vec F S1x2048 .f32) (x10 : Vec F S1x2048 .f32) (x11 : Vec F S512x2048 .bf16) (x12 : Vec F S512x2048 .bf16) (x13 : Vec F S512x2048 .bf16)

/-- Output 0 of a point is the receptance. -/
theorem out14_eq : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outR i x0 x2 x4 := by
  unfold out0_A_14 kernelRun0_A
  dsimp only
  refine (write_full _ _ hz _ _).trans ?_
  refine (rfl : _ = outR i (rd harg1 x0 inb_S128x6144_S128x6144_0_0) (rd harg3 x2 inb_S8x6144_S8x6144_0_0) (rd harg5 x4 inb_S1x6144_S1x6144_0_0)).trans ?_
  rw [rd_eq harg1 x0, rd_eq harg3 x2, rd_eq harg5 x4]

/-- Output 1 of a point is the updated key. -/
theorem out15_eq : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outK i x0 x1 x2 x3 x4 x5 x7 x9 x12 := by
  unfold out0_A_15 kernelRun0_A
  dsimp only
  refine (write_full _ _ hz _ _).trans ?_
  refine (rfl : _ = outK i (rd harg1 x0 inb_S128x6144_S128x6144_0_0) (rd harg2 x1 inb_S128x512_S128x512_0_0) (rd harg3 x2 inb_S8x6144_S8x6144_0_0) (rd harg4 x3 inb_S8x512_S8x512_0_0) (rd harg5 x4 inb_S1x6144_S1x6144_0_0) (rd harg6 x5 inb_S1x512_S1x512_0_0) (rd harg8 x7 inb_S1x2048_S1x2048_0_0) (rd harg10 x9 inb_S1x2048_S1x2048_0_0) (rd harg13 x12 inb_S512x2048_S512x2048_0_0)).trans ?_
  rw [rd_eq harg1 x0, rd_eq harg2 x1, rd_eq harg3 x2, rd_eq harg4 x3, rd_eq harg5 x4, rd_eq harg6 x5, rd_eq harg8 x7, rd_eq harg10 x9, rd_eq harg13 x12]

/-- Output 2 of a point is the value. -/
theorem out16_eq : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outV i x0 x2 x4 := by
  unfold out0_A_16 kernelRun0_A
  dsimp only
  refine (write_full _ _ hz _ _).trans ?_
  refine (rfl : _ = outV i (rd harg1 x0 inb_S128x6144_S128x6144_0_0) (rd harg3 x2 inb_S8x6144_S8x6144_0_0) (rd harg5 x4 inb_S1x6144_S1x6144_0_0)).trans ?_
  rw [rd_eq harg1 x0, rd_eq harg3 x2, rd_eq harg5 x4]

/-- Output 3 of a point is the removal key of unit length. -/
theorem out17_eq : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outUnit i x0 x2 x4 x8 := by
  unfold out0_A_17 kernelRun0_A
  dsimp only
  refine (write_full _ _ hz _ _).trans ?_
  refine (rfl : _ = outUnit i (rd harg1 x0 inb_S128x6144_S128x6144_0_0) (rd harg3 x2 inb_S8x6144_S8x6144_0_0) (rd harg5 x4 inb_S1x6144_S1x6144_0_0) (rd harg9 x8 inb_S1x2048_S1x2048_0_0)).trans ?_
  rw [rd_eq harg1 x0, rd_eq harg3 x2, rd_eq harg5 x4, rd_eq harg9 x8]

/-- Output 4 of a point is the removal key times the rate. -/
theorem out18_eq : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outStep i x0 x1 x2 x3 x4 x5 x7 x8 x12 := by
  unfold out0_A_18 kernelRun0_A
  dsimp only
  refine (write_full _ _ hz _ _).trans ?_
  refine (rfl : _ = outStep i (rd harg1 x0 inb_S128x6144_S128x6144_0_0) (rd harg2 x1 inb_S128x512_S128x512_0_0) (rd harg3 x2 inb_S8x6144_S8x6144_0_0) (rd harg4 x3 inb_S8x512_S8x512_0_0) (rd harg5 x4 inb_S1x6144_S1x6144_0_0) (rd harg6 x5 inb_S1x512_S1x512_0_0) (rd harg8 x7 inb_S1x2048_S1x2048_0_0) (rd harg9 x8 inb_S1x2048_S1x2048_0_0) (rd harg13 x12 inb_S512x2048_S512x2048_0_0)).trans ?_
  rw [rd_eq harg1 x0, rd_eq harg2 x1, rd_eq harg3 x2, rd_eq harg4 x3, rd_eq harg5 x4, rd_eq harg6 x5, rd_eq harg8 x7, rd_eq harg9 x8, rd_eq harg13 x12]

/-- Output 5 of a point is the log of the decay. -/
theorem out19_eq : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outDecay i x1 x3 x5 x6 x11 := by
  unfold out0_A_19 kernelRun0_A
  dsimp only
  refine (write_full _ _ hz _ _).trans ?_
  refine (rfl : _ = outDecay i (rd harg2 x1 inb_S128x512_S128x512_0_0) (rd harg4 x3 inb_S8x512_S8x512_0_0) (rd harg6 x5 inb_S1x512_S1x512_0_0) (rd harg7 x6 inb_S1x2048_S1x2048_0_0) (rd harg12 x11 inb_S512x2048_S512x2048_0_0)).trans ?_
  rw [rd_eq harg2 x1, rd_eq harg4 x3, rd_eq harg6 x5, rd_eq harg7 x6, rd_eq harg12 x11]

/-- Output 6 of a point is the gate. -/
theorem out20_eq : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outGate i x1 x3 x5 x13 := by
  unfold out0_A_20 kernelRun0_A
  dsimp only
  refine (write_full _ _ hz _ _).trans ?_
  refine (rfl : _ = outGate i (rd harg2 x1 inb_S128x512_S128x512_0_0) (rd harg4 x3 inb_S8x512_S8x512_0_0) (rd harg6 x5 inb_S1x512_S1x512_0_0) (rd harg14 x13 inb_S512x2048_S512x2048_0_0)).trans ?_
  rw [rd_eq harg2 x1, rd_eq harg4 x3, rd_eq harg6 x5, rd_eq harg14 x13]

/-- Output 7 of a point is the bonus. -/
theorem out21_eq : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outBonus i x0 x1 x2 x3 x4 x5 x7 x9 x10 x12 := by
  unfold out0_A_21 kernelRun0_A
  dsimp only
  refine (write_full _ _ hz _ _).trans ?_
  refine (rfl : _ = outBonus i (rd harg1 x0 inb_S128x6144_S128x6144_0_0) (rd harg2 x1 inb_S128x512_S128x512_0_0) (rd harg3 x2 inb_S8x6144_S8x6144_0_0) (rd harg4 x3 inb_S8x512_S8x512_0_0) (rd harg5 x4 inb_S1x6144_S1x6144_0_0) (rd harg6 x5 inb_S1x512_S1x512_0_0) (rd harg8 x7 inb_S1x2048_S1x2048_0_0) (rd harg10 x9 inb_S1x2048_S1x2048_0_0) (rd harg11 x10 inb_S1x2048_S1x2048_0_0) (rd harg13 x12 inb_S512x2048_S512x2048_0_0)).trans ?_
  rw [rd_eq harg1 x0, rd_eq harg2 x1, rd_eq harg3 x2, rd_eq harg4 x3, rd_eq harg5 x4, rd_eq harg6 x5, rd_eq harg8 x7, rd_eq harg10 x9, rd_eq harg11 x10, rd_eq harg13 x12]

end Outs

end Cert.Prep

end
-- ==== Proof.PrepRef.lean ====
/-
  The reference of the recurrence's preparation read at an index: the token shift, the three low-rank products, the
  normalised key, the update key, the log decay, the gate and the bonus, each of a row and a lane.
-/
module

public import proofs.«01_k».proof.Defs
public import proofs.«01_k».proof.Proof.MixRef
public import proofs.«01_k».proof.Proof.Gen.Reference6Ideal.Run
public import proofs.«01_k».proof.Proof.Gen.Reference6Ideal.Read
public import Idealize.ShloMosaic.Lib.KernelVsHost

@[expose] public section

noncomputable section

open Idealize.ShloMosaic Idealize.ShloMosaic.TcCoe Idealize.SL.Sem Idealize.ShloMosaic.ValueIdx

namespace Cert.PrepRef

open Cert.Reference6Ideal Cert.Reference6Ideal.Gen Cert.Reference6Ideal.Read
open Cert.HeadSum (lane)
open Cert.MixRef (tok head)

/-! ## The values, by row and lane -/

section Spec

variable (p : FVec Ideal S8192x12800 .f32) (mu : FVec Ideal S1x6592 .f32)

/-- The projection at one of the columns used here. -/
abbrev at_ (r : Fin 8192) (n : Fin 6592) : EReal := p (ix2 r (⟨n.val, by have := n.isLt; omega⟩ : Fin 12800))

/-- The same one token earlier in the sequence, zero before its start. -/
def prev (r : Fin 8192) (n : Fin 6592) : EReal :=
  if r.val % 4096 < 1 then 0 else at_ p ⟨r.val - 1, by have := r.isLt; omega⟩ n

/-- The token shift: part of the way to the token before. -/
def mixed (r : Fin 8192) (n : Fin 6592) : EReal :=
  at_ p r n + (prev p r n - at_ p r n) * mu (ix2 (0 : Fin 1) n)

/-- Lane `n` of the receptance, the key and the value. -/
abbrev cR (n : Fin 2048) : Fin 6592 := ⟨n.val, by have := n.isLt; omega⟩
abbrev cK (n : Fin 2048) : Fin 6592 := ⟨2048 + n.val, by have := n.isLt; omega⟩
abbrev cV (n : Fin 2048) : Fin 6592 := ⟨4096 + n.val, by have := n.isLt; omega⟩

/-- Column `k` of the three low-rank inputs. -/
abbrev cW (k : Fin 96) : Fin 6592 := ⟨6144 + k.val, by have := k.isLt; omega⟩
abbrev cA (k : Fin 96) : Fin 6592 := ⟨6240 + k.val, by have := k.isLt; omega⟩
abbrev cG (k : Fin 256) : Fin 6592 := ⟨6336 + k.val, by have := k.isLt; omega⟩

/-- What the decay is made of. -/
def zw (w0 : FVec Ideal S1x2048 .f32) (w2 : FVec Ideal S1x96x2048 .f32) (r : Fin 8192) (n : Fin 2048) : EReal :=
  w0 (ix2 (0 : Fin 1) n) + ∑ k : Fin 96, Ideal.tanh (mixed p mu r (cW k)) * w2 (ix3 (0 : Fin 1) k n)

/-- The log decay of `z`: minus the exponential of minus softplus(-z) minus one half. -/
def logDecay (z : EReal) : EReal :=
  -Ideal.exp (-(max (-z) 0 + Ideal.log1p (Ideal.exp (-max (-z) (-(-z))))) - Ideal.ofBits .f32 0x3F000000#32)

/-- The in-context learning rate. -/
def rate (a0 : FVec Ideal S1x2048 .f32) (a2 : FVec Ideal S1x96x2048 .f32) (r : Fin 8192) (n : Fin 2048) : EReal :=
  Ideal.logistic (a0 (ix2 (0 : Fin 1) n) + ∑ k : Fin 96, mixed p mu r (cA k) * a2 (ix3 (0 : Fin 1) k n))

/-- The gate. -/
def gate (g2 : FVec Ideal S1x256x2048 .f32) (r : Fin 8192) (n : Fin 2048) : EReal :=
  ∑ k : Fin 256, Ideal.logistic (mixed p mu r (cG k)) * g2 (ix3 (0 : Fin 1) k n)

/-- The key scaled, and normalised over its head. -/
def scaled (kk : FVec Ideal S1x2048 .f32) (r : Fin 8192) (n : Fin 2048) : EReal :=
  mixed p mu r (cK n) * kk (ix2 (0 : Fin 1) n)
def unit (kk : FVec Ideal S1x2048 .f32) (r : Fin 8192) (n : Fin 2048) : EReal :=
  scaled p mu kk r n * Ideal.rsqrt (max (∑ k : Fin 64, scaled p mu kk r (lane n k) * scaled p mu kk r (lane n k))
    (Ideal.ofBits .f32 0x179ABE15#32))

variable (a0 : FVec Ideal S1x2048 .f32) (a2 : FVec Ideal S1x96x2048 .f32)

/-- The key as the update uses it. -/
def upd (ka : FVec Ideal S1x2048 .f32) (r : Fin 8192) (n : Fin 2048) : EReal :=
  mixed p mu r (cK n) * (Ideal.ofBits .f32 0x3F800000#32
    + (rate p mu a0 a2 r n - Ideal.ofBits .f32 0x3F800000#32) * ka (ix2 (0 : Fin 1) n))

/-- What the bonus sums over a head, and the bonus. -/
def rk (ka rw : FVec Ideal S1x2048 .f32) (r : Fin 8192) (n : Fin 2048) : EReal :=
  mixed p mu r (cR n) * upd p mu a0 a2 ka r n * rw (ix2 (0 : Fin 1) n)
def bonus (ka rw : FVec Ideal S1x2048 .f32) (r : Fin 8192) (n : Fin 2048) : EReal :=
  (∑ k : Fin 64, rk p mu a0 a2 ka rw r (lane n k)) * mixed p mu r (cV n)

end Spec

/-! ## The reference, by sequence, token and lane -/

theorem one_f32 : Ideal.ofBits .f32 0x3F800000#32 = (1 : EReal) := by
  simp [Ideal.ofBits, Ideal.ieee]
  rw [← EReal.coe_mul, ← EReal.coe_one]
  norm_num

section Tokens

variable (x0 : FVec Ideal S8192x12800 .f32) (x1 : FVec Ideal S1x6592 .f32) (s : Fin 2) (t : Fin 4096)

theorem at_apply (n : Fin 6592) : val_main_v1 (F := Ideal) x0 (ix3 s t n) = at_ x0 (tok s t) n := by
  rw [val_main_v1_apply, val_main_v0_apply]
  have hn := n.isLt
  refine congrArg x0 (Shape.idx_ext₂ ?_ ?_)
  · show ((s.val * 4096 + t.val) * 6592 + n.val) / 6592 = s.val * 4096 + t.val
    omega
  · show ((s.val * 4096 + t.val) * 6592 + n.val) % 6592 = n.val
    omega

/-- The padding's value. -/
theorem zero_apply (i : S_.Idx) : val_main_call0_v0 (F := Ideal) i = 0 := by
  show (((0#32 : BitVec 32).toInt : ℝ) : EReal) = 0
  norm_num

theorem prev_apply (n : Fin 6592) : val_main_v3 (F := Ideal) x0 (ix3 s t n) = prev x0 (tok s t) n := by
  rw [val_main_v3_apply]
  unfold prev
  have ht := t.isLt
  have hm : (tok s t).val % 4096 = t.val := by show (s.val * 4096 + t.val) % 4096 = t.val; omega
  rw [hm]
  by_cases h : t.val < 1
  · rw [if_pos h, ← zero_apply (Shape.Idx.first h_S_)]
    refine pad_apply_of_not_inside _ _ _ _ _ _ _ _ (1 : Fin 3) fun hh => ?_
    have h1 : 1 ≤ t.val := hh.1
    omega
  · rw [if_neg h]
    have e : (⟨(tok s t).val - 1, by have := (tok s t).isLt; omega⟩ : Fin 8192) = tok s ⟨t.val - 1, by omega⟩ := by
      refine Fin.ext ?_
      show s.val * 4096 + t.val - 1 = s.val * 4096 + (t.val - 1)
      omega
    rw [e, ← at_apply]
    refine pad_apply_of_inside _ _ _ _ _ _ _ _ _ fun a => ?_
    match a with
    | ⟨0, _⟩ => show s.val = 0 + s.val * (0 + 1); omega
    | ⟨1, _⟩ => show t.val = 1 + (t.val - 1) * (0 + 1); omega
    | ⟨2, _⟩ => show n.val = 0 + n.val * (0 + 1); omega

theorem mu_apply (n : Fin 6592) : val_main_v7 (F := Ideal) x1 (ix3 s t n) = x1 (ix2 (0 : Fin 1) n) := by
  rw [val_main_v7_apply, val_main_v6_apply, val_main_v5_apply]
  refine congrArg x1 (Shape.idx_ext₂ rfl ?_)
  show n.val % 6592 = n.val
  have := n.isLt; omega

theorem mixed_apply (n : Fin 6592) : val_main_v9 (F := Ideal) x0 x1 (ix3 s t n) = mixed x0 x1 (tok s t) n := by
  rw [val_main_v9_apply, val_main_v8_apply, val_main_v4_apply, at_apply, prev_apply, mu_apply]
  rfl

theorem ext3 {a b c : Nat} (i j : Shape.Idx ⟨3, ![a, b, c]⟩) (h0 : (i 0).val = (j 0).val) (h1 : (i 1).val = (j 1).val)
    (h2 : (i 2).val = (j 2).val) : i = j := by
  funext d
  refine Fin.ext ?_
  match d with
  | ⟨0, _⟩ => exact h0
  | ⟨1, _⟩ => exact h1
  | ⟨2, _⟩ => exact h2

theorem r_apply (n : Fin 2048) : val_main_v10 (F := Ideal) x0 x1 (ix3 s t n) = mixed x0 x1 (tok s t) (cR n) := by
  rw [val_main_v10_apply, ← mixed_apply]
  exact congrArg _ (ext3 _ _ rfl rfl rfl)
theorem k_apply (n : Fin 2048) : val_main_v11 (F := Ideal) x0 x1 (ix3 s t n) = mixed x0 x1 (tok s t) (cK n) := by
  rw [val_main_v11_apply, ← mixed_apply]
  exact congrArg _ (ext3 _ _ rfl rfl rfl)
theorem v_apply (n : Fin 2048) : val_main_v12 (F := Ideal) x0 x1 (ix3 s t n) = mixed x0 x1 (tok s t) (cV n) := by
  rw [val_main_v12_apply, ← mixed_apply]
  exact congrArg _ (ext3 _ _ rfl rfl rfl)
theorem wl_apply (k : Fin 96) : val_main_v13 (F := Ideal) x0 x1 (ix3 s t k) = mixed x0 x1 (tok s t) (cW k) := by
  rw [val_main_v13_apply, ← mixed_apply]
  exact congrArg _ (ext3 _ _ rfl rfl rfl)
theorem al_apply (k : Fin 96) : val_main_v14 (F := Ideal) x0 x1 (ix3 s t k) = mixed x0 x1 (tok s t) (cA k) := by
  rw [val_main_v14_apply, ← mixed_apply]
  exact congrArg _ (ext3 _ _ rfl rfl rfl)
theorem gl_apply (k : Fin 256) : val_main_v15 (F := Ideal) x0 x1 (ix3 s t k) = mixed x0 x1 (tok s t) (cG k) := by
  rw [val_main_v15_apply, ← mixed_apply]
  exact congrArg _ (ext3 _ _ rfl rfl rfl)

/-- A row of lanes laid over all tokens. -/
theorem lanes_apply (x : FVec Ideal S1x2048 .f32) (n : Fin 2048) : val_main_v21 (F := Ideal) x (ix3 s t n) = x (ix2 (0 : Fin 1) n) := by
  rw [val_main_v21_apply, val_main_v20_apply, val_main_v16_apply]
  refine congrArg x (Shape.idx_ext₂ rfl ?_)
  show n.val % 2048 = n.val
  have := n.isLt; omega

theorem w2_apply (x : FVec Ideal S1x96x2048 .f32) (k : Fin 96) (n : Fin 2048) :
    val_main_v18 (F := Ideal) x (ix2 k n) = x (ix3 (0 : Fin 1) k n) := by
  rw [val_main_v18_apply]
  have hk := k.isLt
  have hn := n.isLt
  refine congrArg x (ext3 _ _ rfl ?_ ?_)
  · show (k.val * 2048 + n.val) / 2048 % 96 = k.val
    omega
  · show (k.val * 2048 + n.val) % 2048 = n.val
    omega

theorem g2_apply (x : FVec Ideal S1x256x2048 .f32) (k : Fin 256) (n : Fin 2048) :
    val_main_v48 (F := Ideal) x (ix2 k n) = x (ix3 (0 : Fin 1) k n) := by
  rw [val_main_v48_apply]
  have hk := k.isLt
  have hn := n.isLt
  refine congrArg x (ext3 _ _ rfl ?_ ?_)
  · show (k.val * 2048 + n.val) / 2048 % 256 = k.val
    omega
  · show (k.val * 2048 + n.val) % 2048 = n.val
    omega

theorem zw_apply (x2 : FVec Ideal S1x2048 .f32) (x3 : FVec Ideal S1x96x2048 .f32) (n : Fin 2048) :
    val_main_v22 (F := Ideal) x0 x1 x2 x3 (ix3 s t n) = zw x0 x1 x2 x3 (tok s t) n := by
  rw [val_main_v22_apply, lanes_apply, val_main_v19_apply]
  refine congrArg (fun y : EReal => x2 (ix2 (0 : Fin 1) n) + y) (Finset.sum_congr rfl fun k _ => ?_)
  have e1 : lidx_main_v19 (ix3 s t n) k = ix3 s t k := ext3 _ _ rfl rfl rfl
  have e2 : ridx_main_v19 (ix3 s t n) k = ix2 k n := Shape.idx_ext₂ rfl rfl
  rw [e1, e2, w2_apply, val_main_v17_apply, wl_apply]
  rfl

/-- The softplus as it is expanded: its test for not-a-number is never met. -/
theorem logDecay_apply (x2 : FVec Ideal S1x2048 .f32) (x3 : FVec Ideal S1x96x2048 .f32) (n : Fin 2048) :
    val_main_v29 (F := Ideal) x0 x1 x2 x3 (ix3 s t n) = logDecay (zw x0 x1 x2 x3 (tok s t) n) := by
  rw [val_main_v29_apply, val_main_v28_apply, val_main_v27_apply, val_main_v25_apply, val_main_v24_apply, val_main_v26_apply,
    val_main_cst_apply, val_main_call1_v4_apply, val_main_call1_v11_apply, val_main_call1_v10_apply, val_main_call1_v9_apply,
    val_main_call1_v8_apply, val_main_call1_v7_apply, val_main_call1_v1_apply, val_main_call1_v3_apply, val_main_call1_v0_apply,
    val_main_call1_v2_apply, val_main_call1_cst_apply, val_main_v23_apply, zw_apply]
  have e (y : EReal) : FloatOps.cmpf (F := Ideal) (φ := .f32) .une y y = 0#1 := by
    show Ideal.cmp .une y y = 0#1
    simp [Ideal.cmp]
  rw [e]
  generalize zw x0 x1 x2 x3 (tok s t) n = z
  show -Ideal.exp (-(max (-z) (Ideal.ofBits .f32 0x00000000#32) + Ideal.log1p (Ideal.exp (-max ((-z) - Ideal.ofBits .f32 0x00000000#32) (-((-z) - Ideal.ofBits .f32 0x00000000#32)))))
    - Ideal.ofBits .f32 0x3F000000#32) = _
  rw [Ideal.ofBits_zero_f32, sub_zero]
  rfl

theorem rate_apply (x4 : FVec Ideal S1x2048 .f32) (x5 : FVec Ideal S1x96x2048 .f32) (n : Fin 2048) :
    val_main_v41 (F := Ideal) x0 x1 x4 x5 (ix3 s t n) = rate x0 x1 x4 x5 (tok s t) n := by
  have e : val_main_v35 (F := Ideal) x0 x1 x4 x5 (ix3 s t n)
      = x4 (ix2 (0 : Fin 1) n) + ∑ k : Fin 96, mixed x0 x1 (tok s t) (cA k) * x5 (ix3 (0 : Fin 1) k n) := by
    rw [val_main_v35_apply, val_main_v32_apply]
    refine congrArg₂ (fun x y : EReal => x + y) (lanes_apply s t x4 n) (Finset.sum_congr rfl fun k _ => ?_)
    have e1 : lidx_main_v32 (ix3 s t n) k = ix3 s t k := ext3 _ _ rfl rfl rfl
    have e2 : ridx_main_v32 (ix3 s t n) k = ix2 k n := Shape.idx_ext₂ rfl rfl
    rw [e1, e2, al_apply]
    exact congrArg _ (w2_apply x5 k n)
  rw [val_main_v41_apply, val_main_v40_apply, val_main_cst_1_apply, val_main_v39_apply, val_main_v38_apply, val_main_cst_0_apply,
    val_main_v37_apply, val_main_v36_apply, e]
  show Ideal.div (Ideal.ofBits .f32 0x3F800000#32) (Ideal.ofBits .f32 0x3F800000#32 + Ideal.exp (-_)) = _
  rw [one_f32]
  rfl

theorem gate_apply (x6 : FVec Ideal S1x256x2048 .f32) (n : Fin 2048) :
    val_main_v49 (F := Ideal) x0 x1 x6 (ix3 s t n) = gate x0 x1 x6 (tok s t) n := by
  rw [val_main_v49_apply]
  refine Finset.sum_congr rfl fun k _ => ?_
  have e1 : lidx_main_v49 (ix3 s t n) k = ix3 s t k := ext3 _ _ rfl rfl rfl
  have e2 : ridx_main_v49 (ix3 s t n) k = ix2 k n := Shape.idx_ext₂ rfl rfl
  rw [e1, e2, g2_apply, val_main_v47_apply, val_main_v46_apply, val_main_cst_3_apply, val_main_v45_apply, val_main_v44_apply, val_main_cst_2_apply,
    val_main_v43_apply, val_main_v42_apply, gl_apply]
  show Ideal.div (Ideal.ofBits .f32 0x3F800000#32) (Ideal.ofBits .f32 0x3F800000#32 + Ideal.exp (-_)) * _ = _
  rw [one_f32]
  rfl

end Tokens

/-! ## The heads -/

section Heads

variable (x0 : FVec Ideal S8192x12800 .f32) (x1 : FVec Ideal S1x6592 .f32) (s : Fin 2) (t : Fin 4096) (h : Fin 32) (k : Fin 64)

/-- Lane `k` of head `h` in the flat arrays. -/
theorem join_idx : idx_main_v50 (ix4 s t h k) = ix3 s t (head h k) := by
  have hs := s.isLt
  have ht := t.isLt
  have hh := h.isLt
  have hk := k.isLt
  refine ext3 _ _ ?_ ?_ ?_
  · show (((s.val * 4096 + t.val) * 32 + h.val) * 64 + k.val) / 8388608 = s.val
    omega
  · show (((s.val * 4096 + t.val) * 32 + h.val) * 64 + k.val) / 2048 % 4096 = t.val
    omega
  · show (((s.val * 4096 + t.val) * 32 + h.val) * 64 + k.val) % 2048 = h.val * 64 + k.val
    omega

theorem hr_apply : val_main_v50 (F := Ideal) x0 x1 (ix4 s t h k) = mixed x0 x1 (tok s t) (cR (head h k)) := by
  rw [val_main_v50_apply, join_idx, r_apply]
theorem hk_apply : val_main_v51 (F := Ideal) x0 x1 (ix4 s t h k) = mixed x0 x1 (tok s t) (cK (head h k)) := by
  rw [val_main_v51_apply]
  exact (congrArg _ (join_idx s t h k)).trans (k_apply x0 x1 s t _)
theorem hv_apply : val_main_v52 (F := Ideal) x0 x1 (ix4 s t h k) = mixed x0 x1 (tok s t) (cV (head h k)) := by
  rw [val_main_v52_apply]
  exact (congrArg _ (join_idx s t h k)).trans (v_apply x0 x1 s t _)
theorem hw_apply (x2 : FVec Ideal S1x2048 .f32) (x3 : FVec Ideal S1x96x2048 .f32) :
    val_main_v53 (F := Ideal) x0 x1 x2 x3 (ix4 s t h k) = logDecay (zw x0 x1 x2 x3 (tok s t) (head h k)) := by
  rw [val_main_v53_apply]
  exact (congrArg _ (join_idx s t h k)).trans (logDecay_apply x0 x1 s t x2 x3 _)
theorem ha_apply (x4 : FVec Ideal S1x2048 .f32) (x5 : FVec Ideal S1x96x2048 .f32) :
    val_main_v54 (F := Ideal) x0 x1 x4 x5 (ix4 s t h k) = rate x0 x1 x4 x5 (tok s t) (head h k) := by
  rw [val_main_v54_apply]
  exact (congrArg _ (join_idx s t h k)).trans (rate_apply x0 x1 s t x4 x5 _)

/-- A per-head row laid over all tokens. -/
theorem weight_apply (x : FVec Ideal S1x2048 .f32) : val_main_v58 (F := Ideal) x (ix4 s t h k) = x (ix2 (0 : Fin 1) (head h k)) := by
  rw [val_main_v58_apply, val_main_v57_apply, val_main_v56_apply, val_main_v55_apply]
  refine congrArg x (Shape.idx_ext₂ rfl ?_)
  show (h.val * 64 + k.val) % 2048 = h.val * 64 + k.val
  have := h.isLt; have := k.isLt; omega

theorem scaled_apply (x7 : FVec Ideal S1x2048 .f32) :
    val_main_v59 (F := Ideal) x0 x1 x7 (ix4 s t h k) = scaled x0 x1 x7 (tok s t) (head h k) := by
  rw [val_main_v59_apply, hk_apply, weight_apply]
  rfl

theorem lane_head (k' : Fin 64) : lane (head h k) k' = head h k' := by
  refine Fin.ext ?_
  show (h.val * 64 + k.val) / 64 * 64 + k'.val = h.val * 64 + k'.val
  have := k.isLt; omega

/-- Dropping the last axis, and putting the summed one back. -/
theorem drop_last : idx_main_v62 (idx_main_v66 (ix4 s t h k)) = ix3 s t h := ext3 _ _ rfl rfl rfl
theorem put_last (k' : Fin 64) : idx_main_v61 (ix3 s t h) k' = ix4 s t h k' := by
  funext a
  match a with
  | ⟨0, _⟩ => rfl
  | ⟨1, _⟩ => rfl
  | ⟨2, _⟩ => rfl
  | ⟨3, _⟩ => rfl

theorem unit_apply (x7 : FVec Ideal S1x2048 .f32) :
    val_main_v67 (F := Ideal) x0 x1 x7 (ix4 s t h k) = unit x0 x1 x7 (tok s t) (head h k) := by
  rw [val_main_v67_apply, scaled_apply, val_main_v66_apply, val_main_v65_apply, val_main_v64_apply, val_main_v63_apply, val_main_cst_5_apply,
    val_main_v62_apply, drop_last, val_main_v61_apply, val_main_cst_4_apply]
  have e : ∑ k' : Fin 64, (val_main_v60 (F := Ideal) x0 x1 x7) (idx_main_v61 (ix3 s t h) k')
      = ∑ k' : Fin 64, scaled x0 x1 x7 (tok s t) (lane (head h k) k') * scaled x0 x1 x7 (tok s t) (lane (head h k) k') := by
    refine Finset.sum_congr rfl fun k' _ => ?_
    rw [put_last, val_main_v60_apply, scaled_apply, lane_head]
    rfl
  rw [e]
  show _ * Ideal.rsqrt (max (Ideal.ofBits .f32 0x00000000#32 + _) _) = _
  rw [Ideal.ofBits_zero_f32, zero_add]
  rfl

variable (x4 : FVec Ideal S1x2048 .f32) (x5 : FVec Ideal S1x96x2048 .f32)

theorem upd_apply (x8 : FVec Ideal S1x2048 .f32) :
    val_main_v77 (F := Ideal) x0 x1 x4 x5 x8 (ix4 s t h k) = upd x0 x1 x4 x5 x8 (tok s t) (head h k) := by
  rw [val_main_v77_apply, hk_apply, val_main_v76_apply, val_main_v75_apply, val_main_cst_7_apply, val_main_v74_apply, val_main_v69_apply,
    ha_apply, val_main_v68_apply, val_main_cst_6_apply]
  have e : val_main_v73 (F := Ideal) x8 (ix4 s t h k) = x8 (ix2 (0 : Fin 1) (head h k)) := weight_apply s t h k x8
  rw [e]
  rfl

theorem bonus_apply (x8 x9 : FVec Ideal S1x2048 .f32) :
    val_main_v87 (F := Ideal) x0 x1 x4 x5 x8 x9 (ix4 s t h k) = bonus x0 x1 x4 x5 x8 x9 (tok s t) (head h k) := by
  rw [val_main_v87_apply, hv_apply, val_main_v86_apply, val_main_v85_apply]
  have e0 : idx_main_v85 (idx_main_v86 (ix4 s t h k)) = ix3 s t h := ext3 _ _ rfl rfl rfl
  rw [e0, val_main_v84_apply, val_main_cst_8_apply]
  have e : ∑ k' : Fin 64, (val_main_v83 (F := Ideal) x0 x1 x4 x5 x8 x9) (idx_main_v84 (ix3 s t h) k')
      = ∑ k' : Fin 64, rk x0 x1 x4 x5 x8 x9 (tok s t) (lane (head h k) k') := by
    refine Finset.sum_congr rfl fun k' _ => ?_
    have e1 : idx_main_v84 (ix3 s t h) k' = ix4 s t h k' := put_last s t h k'
    have e2 : val_main_v82 (F := Ideal) x9 (ix4 s t h k') = x9 (ix2 (0 : Fin 1) (head h k')) := weight_apply s t h k' x9
    rw [e1, val_main_v83_apply, val_main_v78_apply, hr_apply, upd_apply, e2, lane_head]
    rfl
  rw [e]
  show (Ideal.ofBits .f32 0x00000000#32 + _) * _ = _
  rw [Ideal.ofBits_zero_f32, zero_add]
  rfl

end Heads

/-! ## The results, by row and lane -/

section Results

variable (x0 : FVec Ideal S8192x12800 .f32) (x1 : FVec Ideal S1x6592 .f32)

theorem flat_idx (s : Fin 2) (t : Fin 4096) (h : Fin 32) (k : Fin 64) : idx_main_v88 (ix2 (tok s t) (head h k)) = ix4 s t h k := by
  have hs := s.isLt
  have ht := t.isLt
  have hh := h.isLt
  have hk := k.isLt
  funext a
  refine Fin.ext ?_
  match a with
  | ⟨0, _⟩ => show ((s.val * 4096 + t.val) * 2048 + (h.val * 64 + k.val)) / 8388608 = s.val; omega
  | ⟨1, _⟩ => show ((s.val * 4096 + t.val) * 2048 + (h.val * 64 + k.val)) / 2048 % 4096 = t.val; omega
  | ⟨2, _⟩ => show ((s.val * 4096 + t.val) * 2048 + (h.val * 64 + k.val)) / 64 % 32 = h.val; omega
  | ⟨3, _⟩ => show ((s.val * 4096 + t.val) * 2048 + (h.val * 64 + k.val)) % 64 = k.val; omega

theorem split_row (r : Fin 8192) : ∃ (s : Fin 2) (t : Fin 4096), r = tok s t := by
  have := r.isLt
  exact ⟨⟨r.val / 4096, by omega⟩, ⟨r.val % 4096, by omega⟩, Fin.ext (by show r.val = r.val / 4096 * 4096 + r.val % 4096; omega)⟩
theorem split_lane (n : Fin 2048) : ∃ (h : Fin 32) (k : Fin 64), n = head h k := by
  have := n.isLt
  exact ⟨⟨n.val / 64, by omega⟩, ⟨n.val % 64, by omega⟩, Fin.ext (by show n.val = n.val / 64 * 64 + n.val % 64; omega)⟩

variable (r : Fin 8192) (n : Fin 2048)

theorem res_r : val_main_v89 (F := Ideal) x0 x1 (ix2 r n) = mixed x0 x1 r (cR n) := by
  obtain ⟨s, t, rfl⟩ := split_row r
  obtain ⟨h, k, rfl⟩ := split_lane n
  exact (val_main_v88_apply (F := Ideal) x0 x1 _).trans ((congrArg _ (flat_idx s t h k)).trans (hr_apply x0 x1 s t h k))

theorem res_v : val_main_v93 (F := Ideal) x0 x1 (ix2 r n) = mixed x0 x1 r (cV n) := by
  obtain ⟨s, t, rfl⟩ := split_row r
  obtain ⟨h, k, rfl⟩ := split_lane n
  exact (val_main_v92_apply (F := Ideal) x0 x1 _).trans ((congrArg _ (flat_idx s t h k)).trans (hv_apply x0 x1 s t h k))

theorem res_upd (x4 : FVec Ideal S1x2048 .f32) (x5 : FVec Ideal S1x96x2048 .f32) (x8 : FVec Ideal S1x2048 .f32) :
    val_main_v91 (F := Ideal) x0 x1 x4 x5 x8 (ix2 r n) = upd x0 x1 x4 x5 x8 r n := by
  obtain ⟨s, t, rfl⟩ := split_row r
  obtain ⟨h, k, rfl⟩ := split_lane n
  exact (val_main_v90_apply (F := Ideal) x0 x1 x4 x5 x8 _).trans ((congrArg _ (flat_idx s t h k)).trans (upd_apply x0 x1 s t h k x4 x5 x8))

theorem res_unit (x7 : FVec Ideal S1x2048 .f32) : val_main_v95 (F := Ideal) x0 x1 x7 (ix2 r n) = unit x0 x1 x7 r n := by
  obtain ⟨s, t, rfl⟩ := split_row r
  obtain ⟨h, k, rfl⟩ := split_lane n
  exact (val_main_v94_apply (F := Ideal) x0 x1 x7 _).trans ((congrArg _ (flat_idx s t h k)).trans (unit_apply x0 x1 s t h k x7))

theorem res_step (x4 : FVec Ideal S1x2048 .f32) (x5 : FVec Ideal S1x96x2048 .f32) (x7 : FVec Ideal S1x2048 .f32) :
    val_main_v98 (F := Ideal) x0 x1 x4 x5 x7 (ix2 r n) = unit x0 x1 x7 r n * rate x0 x1 x4 x5 r n := by
  obtain ⟨s, t, rfl⟩ := split_row r
  obtain ⟨h, k, rfl⟩ := split_lane n
  refine (val_main_v97_apply (F := Ideal) x0 x1 x4 x5 x7 _).trans ((congrArg _ (flat_idx s t h k)).trans ?_)
  rw [val_main_v96_apply, unit_apply, ha_apply]
  rfl

theorem res_decay (x2 : FVec Ideal S1x2048 .f32) (x3 : FVec Ideal S1x96x2048 .f32) :
    val_main_v99 (F := Ideal) x0 x1 x2 x3 (ix2 r n) = logDecay (zw x0 x1 x2 x3 r n) := by
  obtain ⟨s, t, rfl⟩ := split_row r
  obtain ⟨h, k, rfl⟩ := split_lane n
  exact (val_main_v99_apply (F := Ideal) x0 x1 x2 x3 _).trans ((congrArg _ (flat_idx s t h k)).trans (hw_apply x0 x1 s t h k x2 x3))

theorem res_gate (x6 : FVec Ideal S1x256x2048 .f32) : val_main_v101 (F := Ideal) x0 x1 x6 (ix2 r n) = gate x0 x1 x6 r n := by
  obtain ⟨s, t, rfl⟩ := split_row r
  have hs := s.isLt
  have ht := t.isLt
  have hn := n.isLt
  have e : idx_main_v100 (ix2 (tok s t) n) = ix3 s t n := by
    refine ext3 _ _ ?_ ?_ ?_
    · show ((s.val * 4096 + t.val) * 2048 + n.val) / 8388608 = s.val
      omega
    · show ((s.val * 4096 + t.val) * 2048 + n.val) / 2048 % 4096 = t.val
      omega
    · show ((s.val * 4096 + t.val) * 2048 + n.val) % 2048 = n.val
      omega
  exact (val_main_v100_apply (F := Ideal) x0 x1 x6 _).trans ((congrArg _ e).trans (gate_apply x0 x1 s t x6 n))

theorem res_bonus (x4 : FVec Ideal S1x2048 .f32) (x5 : FVec Ideal S1x96x2048 .f32) (x8 x9 : FVec Ideal S1x2048 .f32) :
    val_main_v103 (F := Ideal) x0 x1 x4 x5 x8 x9 (ix2 r n) = bonus x0 x1 x4 x5 x8 x9 r n := by
  obtain ⟨s, t, rfl⟩ := split_row r
  obtain ⟨h, k, rfl⟩ := split_lane n
  exact (val_main_v102_apply (F := Ideal) x0 x1 x4 x5 x8 x9 _).trans ((congrArg _ (flat_idx s t h k)).trans (bonus_apply x0 x1 s t h k x4 x5 x8 x9))

end Results

end Cert.PrepRef

end
-- ==== Proof.PrepMath.lean ====
/-
  Facts on the extended reals for the recurrence's preparation: the two ways to write the log decay agree, a sum whose
  terms vanish outside a range is the sum over the range, and what is finite.
-/
module

public import proofs.«01_k».proof.Proof.PrepRef

@[expose] public section

noncomputable section

open Idealize.ShloMosaic Idealize.ShloMosaic.TcCoe Idealize.SL.Sem Idealize.ShloMosaic.ValueIdx

namespace Cert.PrepMath

/-- A real number among the extended reals. -/
abbrev IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.zero : IsReal 0 := ⟨0, EReal.coe_zero.symm⟩
theorem IsReal.one : IsReal 1 := ⟨1, EReal.coe_one.symm⟩

/-- The logistic function is real everywhere. -/
theorem IsReal.logistic (x : EReal) : IsReal (Ideal.logistic x) := by
  induction x using EReal.rec with
  | bot => rw [Ideal.logistic_bot]; exact IsReal.zero
  | coe r => rw [Ideal.logistic_coe]; exact ⟨_, rfl⟩
  | top => rw [Ideal.logistic_top]; exact IsReal.one

/-- The logarithm in the softplus is not minus infinity. -/
theorem log_ne_bot (z : EReal) : Ideal.log (1 + Ideal.exp (-max z (-z))) ≠ ⊥ := by
  have h0 : Ideal.log (1 + Ideal.exp ⊥) ≠ ⊥ := by
    rw [Ideal.exp_bot, add_zero, ← EReal.coe_one, Ideal.log_coe, if_neg (by norm_num)]
    exact EReal.coe_ne_bot _
  induction z using EReal.rec with
  | bot => simpa using h0
  | coe r =>
    have e : -max (r : EReal) (-(r : EReal)) = ((-max r (-r) : ℝ) : EReal) := by
      rw [EReal.coe_neg, EReal.coe_strictMono.monotone.map_max, EReal.coe_neg]
    rw [e, Ideal.exp_coe, ← EReal.coe_one, ← EReal.coe_add, Ideal.log_coe, if_neg (not_le.mpr (by positivity))]
    exact EReal.coe_ne_bot _
  | top => simpa using h0

/-- Minus softplus of minus `z`, by the smaller of `z` and zero. -/
theorem softplus (z : EReal) : min z 0 - Ideal.log (1 + Ideal.exp (0 - max z (-z)))
    = -(max (-z) 0 + Ideal.log1p (Ideal.exp (-max (-z) (-(-z))))) := by
  have hL := log_ne_bot z
  rw [neg_neg, max_comm (-z) z, zero_sub]
  show _ = -(_ + Ideal.log (1 + Ideal.exp (-max z (-z))))
  generalize Ideal.log (1 + Ideal.exp (-max z (-z))) = L at *
  have hm : max (-z) 0 ≠ ⊥ := fun h => by
    have h1 : (0 : EReal) ≤ max (-z) 0 := le_max_right _ _
    rw [h] at h1
    exact absurd (le_bot_iff.mp h1) EReal.zero_ne_bot
  rw [EReal.neg_add (Or.inl hm) (Or.inr hL)]
  have e : -max (-z) 0 = min z 0 := by
    rcases le_total z 0 with h | h
    · rw [min_eq_left h, max_eq_left (by rwa [← EReal.neg_le_neg_iff, neg_neg, neg_zero]), neg_neg]
    · rw [min_eq_right h, max_eq_right (by rwa [← EReal.neg_le_neg_iff, neg_neg, neg_zero]), neg_zero]
  rw [e]

/-- A sum whose terms vanish outside a range is the sum over the range. -/
theorem sum_range {n N : Nat} (o : Nat) (h : o + n ≤ N) (f : Fin N → EReal) (hz : ∀ k : Fin N, k.val < o ∨ o + n ≤ k.val → f k = 0) :
    ∑ k : Fin N, f k = ∑ k : Fin n, f ⟨o + k.val, by have := k.isLt; omega⟩ := by
  symm
  refine Finset.sum_of_injOn (fun k : Fin n => (⟨o + k.val, by have := k.isLt; omega⟩ : Fin N)) (fun a _ b _ hab => ?_) (fun _ _ => Finset.mem_coe.mpr (Finset.mem_univ _))
    (fun k _ hk => ?_) (fun _ _ => rfl)
  · have := Fin.ext_iff.mp hab
    exact Fin.ext (by dsimp only at this; omega)
  · refine hz k ?_
    by_contra hc
    push Not at hc
    exact hk ⟨⟨k.val - o, by omega⟩, Finset.mem_coe.mpr (Finset.mem_univ _), Fin.ext (by show o + (k.val - o) = k.val; omega)⟩

end Cert.PrepMath

end
-- ==== Proof.PrepBody.lean ====
/-
  The blocks a grid point leaves, read at an index: the shift by one row, the products with the padded weights, the head
  sums of finite numbers.
-/
module

public import proofs.«01_k».proof.Proof.PrepOuts
public import proofs.«01_k».proof.Proof.PrepMath
public import proofs.«01_k».proof.Proof.PrepRef
public import Idealize.ShloMosaic.Lib.KernelVsHost

@[expose] public section

noncomputable section

open Idealize.ShloMosaic Idealize.ShloMosaic.TcCoe Idealize.SL.Sem Idealize.ShloMosaic.ValueIdx

namespace Cert.Prep

open Cert.Kernel6Ideal Cert.Kernel6Ideal.Gen Cert.HeadSum

/-- The bit that is set at a sequence's first block: the point modulo 32 is zero, as computed on words. -/
def firstBit (i : grid0.Coords) : BitVec 1 :=
  Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32))
    (Scalar.cmpi .ne (Scalar.remsi (BitVec.ofNat 32 (i 0).val) (Scalar.select (Scalar.cmpi .eq 32#32 0#32) 1#32 32#32)) 0#32))
    (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32

theorem isFirst : ∀ j : Fin 128, IntOp.cmpi .eq (BitVec.ofNat 32 j.val) 0#32 = if j.val < 1 then 1#1 else 0#1 := by decide +kernel

/-! ## The shift by one row, 6144 columns -/

/-- The entry one row up, the row above the block at its first row, zero at the start of a sequence. -/
def up6144 (b : BitVec 1) (z : FVec Ideal S128x6144 .f32) (zp : FVec Ideal S8x6144 .f32) (j : Fin 128) (n : Fin 6144) : EReal :=
  if j.val < 1 then (if b = 1#1 then 0 else zp (ix2 (7 : Fin 8) n)) else z (ix2 (⟨j.val - 1, by have := j.isLt; omega⟩ : Fin 128) n)

theorem row6144_apply (x : FVec Ideal S1x6144 .f32) (j : Fin 128) (n : Fin 6144) :
    broadcastTo S128x6144 (shapeCast S1x6144 x shapeCasts_S1x6144_S1x6144) broadcasts_S1x6144_S128x6144 (ix2 j n) = x (ix2 (0 : Fin 1) n) := by
  rw [shapeCast_self]
  exact broadcastTo_apply x _ (ix2 j n) (ix2 (0 : Fin 1) n) fun a => match a with
    | ⟨0, _⟩ => rfl
    | ⟨1, _⟩ => rfl

theorem last6144_apply (x : FVec Ideal S8x6144 .f32) (n : Fin 6144) :
    extractStridedSlice S1x6144 ![7, 0] x slices_S8x6144_o7_0_S1x6144 (ix2 (0 : Fin 1) n) = x (ix2 (7 : Fin 8) n) :=
  extractStridedSlice_apply _ _ _ _ _ fun a => match a with
    | ⟨0, _⟩ => rfl
    | ⟨1, _⟩ => by show n.val = 0 + n.val; omega

theorem rot6144_apply (z : FVec Ideal S128x6144 .f32) (j : Fin 128) (hj : ¬ j.val < 1) (n : Fin 6144) :
    dynamicRotate 0 1#32 none z rotates_S128x6144_d0 (ix2 j n) = z (ix2 (⟨j.val - 1, by have := j.isLt; omega⟩ : Fin 128) n) := by
  refine dynamicRotate_apply _ _ _ _ _ _ fun a => match a with
    | ⟨0, _⟩ => ?_
    | ⟨1, _⟩ => rfl
  show j.val - 1 = (j.val + 128 - 1 % 128) % 128
  have := j.isLt
  omega

theorem shift6144_apply (b : BitVec 1) (z : FVec Ideal S128x6144 .f32) (zp : FVec Ideal S8x6144 .f32) (j : Fin 128) (n : Fin 6144) :
    select (cmpi .eq (iota .tc S128x6144 32 [0] iota_S128x6144_d0_w32) (broadcast S128x6144 0#32))
      (broadcastTo S128x6144 (shapeCast S1x6144 (Scalar.select b (broadcast S1x6144 (Scalar.ofBits (F := Ideal) .f32 0x00000000#32))
        (extractStridedSlice S1x6144 ![7, 0] zp slices_S8x6144_o7_0_S1x6144)) shapeCasts_S1x6144_S1x6144) broadcasts_S1x6144_S128x6144)
      (dynamicRotate 0 1#32 none z rotates_S128x6144_d0) (ix2 j n) = up6144 b z zp j n := by
  show Scalar.select (IntOp.cmpi .eq (iota .tc S128x6144 32 [0] iota_S128x6144_d0_w32 (ix2 j n)) 0#32) (broadcastTo S128x6144 _ _ (ix2 j n))
    (dynamicRotate 0 1#32 none z rotates_S128x6144_d0 (ix2 j n)) = _
  rw [iota_single_apply]
  show Scalar.select (IntOp.cmpi .eq (BitVec.ofNat 32 j.val) 0#32) (broadcastTo S128x6144 _ _ (ix2 j n))
    (dynamicRotate 0 1#32 none z rotates_S128x6144_d0 (ix2 j n)) = _
  unfold up6144
  rw [isFirst, row6144_apply]
  by_cases h : j.val < 1
  · rw [if_pos h, if_pos h]
    by_cases hb : b = 1#1
    · rw [if_pos hb, hb]; exact Ideal.ofBits_zero_f32
    · rw [if_neg hb, (by revert hb; revert b; decide : b = 0#1)]; exact last6144_apply zp n
  · rw [if_neg h, if_neg h]
    exact rot6144_apply z j h n

/-! ## The shift by one row, 512 columns -/

/-- The entry one row up, the row above the block at its first row, zero at the start of a sequence. -/
def up512 (b : BitVec 1) (z : FVec Ideal S128x512 .f32) (zp : FVec Ideal S8x512 .f32) (j : Fin 128) (n : Fin 512) : EReal :=
  if j.val < 1 then (if b = 1#1 then 0 else zp (ix2 (7 : Fin 8) n)) else z (ix2 (⟨j.val - 1, by have := j.isLt; omega⟩ : Fin 128) n)

theorem row512_apply (x : FVec Ideal S1x512 .f32) (j : Fin 128) (n : Fin 512) :
    broadcastTo S128x512 (shapeCast S1x512 x shapeCasts_S1x512_S1x512) broadcasts_S1x512_S128x512 (ix2 j n) = x (ix2 (0 : Fin 1) n) := by
  rw [shapeCast_self]
  exact broadcastTo_apply x _ (ix2 j n) (ix2 (0 : Fin 1) n) fun a => match a with
    | ⟨0, _⟩ => rfl
    | ⟨1, _⟩ => rfl

theorem last512_apply (x : FVec Ideal S8x512 .f32) (n : Fin 512) :
    extractStridedSlice S1x512 ![7, 0] x slices_S8x512_o7_0_S1x512 (ix2 (0 : Fin 1) n) = x (ix2 (7 : Fin 8) n) :=
  extractStridedSlice_apply _ _ _ _ _ fun a => match a with
    | ⟨0, _⟩ => rfl
    | ⟨1, _⟩ => by show n.val = 0 + n.val; omega

theorem rot512_apply (z : FVec Ideal S128x512 .f32) (j : Fin 128) (hj : ¬ j.val < 1) (n : Fin 512) :
    dynamicRotate 0 1#32 none z rotates_S128x512_d0 (ix2 j n) = z (ix2 (⟨j.val - 1, by have := j.isLt; omega⟩ : Fin 128) n) := by
  refine dynamicRotate_apply _ _ _ _ _ _ fun a => match a with
    | ⟨0, _⟩ => ?_
    | ⟨1, _⟩ => rfl
  show j.val - 1 = (j.val + 128 - 1 % 128) % 128
  have := j.isLt
  omega

theorem shift512_apply (b : BitVec 1) (z : FVec Ideal S128x512 .f32) (zp : FVec Ideal S8x512 .f32) (j : Fin 128) (n : Fin 512) :
    select (cmpi .eq (iota .tc S128x512 32 [0] iota_S128x512_d0_w32) (broadcast S128x512 0#32))
      (broadcastTo S128x512 (shapeCast S1x512 (Scalar.select b (broadcast S1x512 (Scalar.ofBits (F := Ideal) .f32 0x00000000#32))
        (extractStridedSlice S1x512 ![7, 0] zp slices_S8x512_o7_0_S1x512)) shapeCasts_S1x512_S1x512) broadcasts_S1x512_S128x512)
      (dynamicRotate 0 1#32 none z rotates_S128x512_d0) (ix2 j n) = up512 b z zp j n := by
  show Scalar.select (IntOp.cmpi .eq (iota .tc S128x512 32 [0] iota_S128x512_d0_w32 (ix2 j n)) 0#32) (broadcastTo S128x512 _ _ (ix2 j n))
    (dynamicRotate 0 1#32 none z rotates_S128x512_d0 (ix2 j n)) = _
  rw [iota_single_apply]
  show Scalar.select (IntOp.cmpi .eq (BitVec.ofNat 32 j.val) 0#32) (broadcastTo S128x512 _ _ (ix2 j n))
    (dynamicRotate 0 1#32 none z rotates_S128x512_d0 (ix2 j n)) = _
  unfold up512
  rw [isFirst, row512_apply]
  by_cases h : j.val < 1
  · rw [if_pos h, if_pos h]
    by_cases hb : b = 1#1
    · rw [if_pos hb, hb]; exact Ideal.ofBits_zero_f32
    · rw [if_neg hb, (by revert hb; revert b; decide : b = 0#1)]; exact last512_apply zp n
  · rw [if_neg h, if_neg h]
    exact rot512_apply z j h n

theorem wide_apply (i : grid0.Coords) (x0 : FVec Ideal S128x6144 .f32) (x2 : FVec Ideal S8x6144 .f32) (x4 : FVec Ideal S1x6144 .f32) (j : Fin 128) (n : Fin 6144) :
    wide (F := Ideal) i x0 x2 x4 (ix2 j n) = x0 (ix2 j n) + (up6144 (firstBit i) x0 x2 j n - x0 (ix2 j n)) * x4 (ix2 (0 : Fin 1) n) := by
  rw [← shift6144_apply, ← row6144_apply x4 j n]
  rfl

theorem narrow_apply (i : grid0.Coords) (x1 : FVec Ideal S128x512 .f32) (x3 : FVec Ideal S8x512 .f32) (x5 : FVec Ideal S1x512 .f32) (j : Fin 128) (n : Fin 512) :
    narrow (F := Ideal) i x1 x3 x5 (ix2 j n) = x1 (ix2 j n) + (up512 (firstBit i) x1 x3 j n - x1 (ix2 j n)) * x5 (ix2 (0 : Fin 1) n) := by
  rw [← shift512_apply, ← row512_apply x5 j n]
  rfl

/-! ## The products with the weights, and what is made of them -/

theorem row2048_apply (x : FVec Ideal S1x2048 .f32) (j : Fin 128) (n : Fin 2048) :
    broadcastTo S128x2048 (shapeCast S1x2048 x shapeCasts_S1x2048_S1x2048) broadcasts_S1x2048_S128x2048 (ix2 j n) = x (ix2 (0 : Fin 1) n) := by
  rw [shapeCast_self]
  exact broadcastTo_apply x _ (ix2 j n) (ix2 (0 : Fin 1) n) fun a => match a with
    | ⟨0, _⟩ => rfl
    | ⟨1, _⟩ => rfl

theorem dot_apply (A : FVec Ideal S128x512 .bf16) (B : FVec Ideal S512x2048 .bf16) (j : Fin 128) (n : Fin 2048) :
    FloatOps.matmul dot_S128x512_S512x2048_S128x2048_1_0_0_1_n_n none A (shapeCast S512x2048 B shapeCasts_S512x2048_S512x2048)
      (constant (F := Ideal) S128x2048 .f32 0x00000000#32) (ix2 j n) = ∑ k : Fin 512, A (ix2 j k) * B (ix2 k n) := by
  rw [shapeCast_self]
  refine (Ideal.matmul_plain_apply (M := 128) (K := 512) (N := 2048) none A B _ j n).trans ?_
  show Ideal.ofBits .f32 0x00000000#32 + _ = _
  rw [Ideal.ofBits_zero_f32, zero_add]

section Narrow

variable (i : grid0.Coords) (x1 : FVec Ideal S128x512 .f32) (x3 : FVec Ideal S8x512 .f32) (x5 : FVec Ideal S1x512 .f32)
  (x6 x7 x8 x9 x10 : FVec Ideal S1x2048 .f32) (x11 x12 x13 : FVec Ideal S512x2048 .bf16) (j : Fin 128) (n : Fin 2048)

theorem rateB_apply : rateB (F := Ideal) i x1 x3 x5 x7 x12 (ix2 j n)
    = Ideal.logistic (x7 (ix2 (0 : Fin 1) n) + ∑ k : Fin 512, narrow (F := Ideal) i x1 x3 x5 (ix2 j k) * x12 (ix2 k n)) := by
  have e := dot_apply (truncf (F := Ideal) .bf16 (narrow (F := Ideal) i x1 x3 x5) bitsLt_bf16_f32) x12 j n
  rw [← row2048_apply x7 j n]
  exact congrArg (fun z : EReal => Ideal.logistic (_ + z)) e

theorem outGate_apply : outGate (F := Ideal) i x1 x3 x5 x13 (ix2 j n)
    = ∑ k : Fin 512, Ideal.logistic (narrow (F := Ideal) i x1 x3 x5 (ix2 j k)) * x13 (ix2 k n) :=
  dot_apply (truncf (F := Ideal) .bf16 (logistic (F := Ideal) (narrow (F := Ideal) i x1 x3 x5)) bitsLt_bf16_f32) x13 j n

theorem outDecay_apply : outDecay (F := Ideal) i x1 x3 x5 x6 x11 (ix2 j n)
    = PrepRef.logDecay (x6 (ix2 (0 : Fin 1) n) + ∑ k : Fin 512, Ideal.tanh (narrow (F := Ideal) i x1 x3 x5 (ix2 j k)) * x11 (ix2 k n)) := by
  have e := dot_apply (truncf (F := Ideal) .bf16 (tanh (F := Ideal) (narrow (F := Ideal) i x1 x3 x5)) bitsLt_bf16_f32) x11 j n
  have e2 : ∀ z : EReal, Ideal.ofBits .f32 0x00000000#32 - Ideal.exp ((min z (Ideal.ofBits .f32 0x00000000#32)
      - Ideal.log (Ideal.ofBits .f32 0x3F800000#32 + Ideal.exp (Ideal.ofBits .f32 0x00000000#32 - max z (-z)))) - Ideal.ofBits .f32 0x3F000000#32)
      = PrepRef.logDecay z := fun z => by
    rw [Ideal.ofBits_zero_f32, PrepRef.one_f32, PrepMath.softplus z, zero_sub]
    rfl
  rw [← e2, ← row2048_apply x6 j n]
  exact congrArg (fun z : EReal => Ideal.ofBits .f32 0x00000000#32 - Ideal.exp ((min (_ + z) (Ideal.ofBits .f32 0x00000000#32)
      - Ideal.log (Ideal.ofBits .f32 0x3F800000#32 + Ideal.exp (Ideal.ofBits .f32 0x00000000#32 - max (_ + z) (-(_ + z))))) - Ideal.ofBits .f32 0x3F000000#32)) e

/-! ## The columns of the wide mix -/

variable (w : FVec Ideal S128x6144 .f32)

abbrev wK (n : Fin 2048) : Fin 6144 := ⟨2048 + n.val, by have := n.isLt; omega⟩
abbrev wV (n : Fin 2048) : Fin 6144 := ⟨4096 + n.val, by have := n.isLt; omega⟩
abbrev wR (n : Fin 2048) : Fin 6144 := ⟨n.val, by have := n.isLt; omega⟩

theorem pay5_apply : k0_pay5 (F := Ideal) w (ix2 j n) = w (ix2 j (wR n)) :=
  slice2_axis1_apply 0 w slices_S128x6144_o0_0_S128x2048 j n (wR n) (by show n.val = 0 + n.val; omega)
theorem pay6_apply : k0_pay6 (F := Ideal) w (ix2 j n) = w (ix2 j (wK n)) := slice2_axis1_apply 2048 w slices_S128x6144_o0_2048_S128x2048 j n (wK n) rfl
theorem pay7_apply : k0_pay7 (F := Ideal) w (ix2 j n) = w (ix2 j (wV n)) := slice2_axis1_apply 4096 w slices_S128x6144_o0_4096_S128x2048 j n (wV n) rfl

theorem pay11_apply (q : FVec Ideal S128x2048 .f32) : k0_pay11 (F := Ideal) q x8 (ix2 j n) = q (ix2 j n) * x8 (ix2 (0 : Fin 1) n) := by
  rw [← row2048_apply x8 j n]; rfl

theorem pay45_apply (q a : FVec Ideal S128x2048 .f32) : k0_pay45 (F := Ideal) q a x9 (ix2 j n)
    = q (ix2 j n) * (Ideal.ofBits .f32 0x3F800000#32 + (a (ix2 j n) - Ideal.ofBits .f32 0x3F800000#32) * x9 (ix2 (0 : Fin 1) n)) := by
  rw [← row2048_apply x9 j n]; rfl

theorem pay53_apply (q u : FVec Ideal S128x2048 .f32) : k0_pay53 (F := Ideal) q u x10 (ix2 j n)
    = q (ix2 j n) * u (ix2 j n) * x10 (ix2 (0 : Fin 1) n) := by
  rw [← row2048_apply x10 j n]; rfl

theorem unitB_apply (q : FVec Ideal S128x2048 .f32) (hq : Finite (s := S128x2048) q) : unitB (F := Ideal) q (ix2 j n)
    = q (ix2 j n) * Ideal.rsqrt (max (∑ k : Fin 64, q (ix2 j (lane n k)) * q (ix2 j (lane n k))) (Ideal.ofBits .f32 0x179ABE15#32)) := by
  have e := headSum_apply (mulf (F := Ideal) q q) (fun y => by
    obtain ⟨r, hr⟩ := hq y
    exact ⟨r * r, by show q y * q y = _; rw [hr, EReal.coe_mul]⟩) j n
  exact congrArg (fun z : EReal => q (ix2 j n) * Ideal.rsqrt (max z (Ideal.ofBits .f32 0x179ABE15#32))) e

end Narrow

end Cert.Prep

end
-- ==== Proof.PrepBlocks.lean ====
/-
  The blocks the preparation reads at a grid point, each read at an index of the block: two column ranges of the
  projection's rows and of the eight rows above them, the mixing coefficients, the weight rows and the padded weights.
-/
module

public import proofs.«01_k».proof.Proof.PrepBody

@[expose] public section

noncomputable section

open Idealize.ShloMosaic Idealize.ShloMosaic.TcCoe Idealize.SL.Sem Idealize.ShloMosaic.ValueIdx
open Idealize.ShloMosaic.Pipeline (Dat)

namespace Cert.Prep

open Cert.Kernel6Ideal Cert.Kernel6Ideal.Gen

variable (m : (ℓ : Loc nD τ sig) → Buf (Elt Ideal) ℓ)

/-- Where the projection's blocks lie. -/
theorem idx_proj : ∀ t : Fin cfg0.N, win0_0.index t (0 : Fin 2) = t.val ∧ win0_0.index t (1 : Fin 2) = 0
    ∧ win0_1.index t (0 : Fin 2) = t.val ∧ win0_1.index t (1 : Fin 2) = 12
    ∧ win0_2.index t (0 : Fin 2) = t.val * 16 - 1 ∧ win0_2.index t (1 : Fin 2) = 0
    ∧ win0_3.index t (0 : Fin 2) = t.val * 16 - 1 ∧ win0_3.index t (1 : Fin 2) = 12 :=
  (by decide +kernel : ∀ t : Fin grid0.N, _)

/-- Where the weights lie: the same block at every point. -/
theorem idx_weights : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- A sequence starts at every 32nd point. -/
theorem firstBit_eq : ∀ t : Fin cfg0.N, firstBit (grid0.coords t) = if t.val % 32 = 0 then 1#1 else 0#1 :=
  (by decide +kernel : ∀ t : Fin grid0.N, _)

/-- Row `j` of point `t`'s blocks is row `128 t + j` of the arrays. -/
abbrev row (t : Fin cfg0.N) (j : Fin 128) : Fin 8192 :=
  ⟨t.val * 128 + j.val, by have h : t.val < 64 := t.isLt; have := j.isLt; omega⟩

/-- The last of the eight rows above point `t`'s block. -/
abbrev rowAbove (t : Fin cfg0.N) : Fin 8192 :=
  ⟨(t.val * 16 - 1) * 8 + 7, by have h : t.val < 64 := t.isLt; omega⟩

theorem blk0_apply (c : Dev nD) (t : Fin cfg0.N) (j : Fin 128) (n : Fin 6144) :
    X0_0 m c t (ix2 j n : S128x6144.Idx) = m ((c : Thread nD τ).loc main_arg0) (ix2 (row t j) (⟨n.val, by have := n.isLt; omega⟩ : Fin 12800)) := by
  obtain ⟨e0, e1, -⟩ := idx_proj t
  unfold X0_0 Pipeline.Window.fill
  rw [dif_pos (moved0_0 t _)]
  show V m c main_arg0 ((win0_0.rect t).emb _) = _
  rw [V_main_arg0]
  refine congrArg _ (Shape.idx_ext₂ ?_ ?_)
  · rw [win0_0.rect_emb_val, e0]; rfl
  · refine (win0_0.rect_emb_val t _ 1).trans ?_
    show win0_0.index t (1 : Fin 2) * 6144 + n.val = n.val
    rw [e1]; omega

theorem blk2_apply (c : Dev nD) (t : Fin cfg0.N) (n : Fin 6144) :
    X0_2 m c t (ix2 (7 : Fin 8) n : S8x6144.Idx) = m ((c : Thread nD τ).loc main_arg0) (ix2 (rowAbove t) (⟨n.val, by have := n.isLt; omega⟩ : Fin 12800)) := by
  obtain ⟨-, -, -, -, e0, e1, -⟩ := idx_proj t
  unfold X0_2 Pipeline.Window.fill
  rw [dif_pos (moved0_2 t _)]
  show V m c main_arg0 ((win0_2.rect t).emb _) = _
  rw [V_main_arg0]
  refine congrArg _ (Shape.idx_ext₂ ?_ ?_)
  · rw [win0_2.rect_emb_val, e0]; rfl
  · refine (win0_2.rect_emb_val t _ 1).trans ?_
    show win0_2.index t (1 : Fin 2) * 6144 + n.val = n.val
    rw [e1]; omega

theorem blk1_apply (c : Dev nD) (t : Fin cfg0.N) (j : Fin 128) (k : Fin 512) :
    iblk m c 1 t (ix2 j k : S128x512.Idx) = m ((c : Thread nD τ).loc main_arg0) (ix2 (row t j) (⟨6144 + k.val, by have := k.isLt; omega⟩ : Fin 12800)) := by
  obtain ⟨-, -, e0, e1, -⟩ := idx_proj t
  show V m c main_arg0 ((win0_1.rect t).emb (ix2 j k)) = _
  rw [V_main_arg0]
  refine congrArg _ (Shape.idx_ext₂ ?_ ?_)
  · rw [win0_1.rect_emb_val, e0]; rfl
  · rw [win0_1.rect_emb_val, e1]; show 12 * 512 + k.val = 6144 + k.val; omega

theorem blk3_apply (c : Dev nD) (t : Fin cfg0.N) (k : Fin 512) :
    iblk m c 3 t (ix2 (7 : Fin 8) k : S8x512.Idx) = m ((c : Thread nD τ).loc main_arg0) (ix2 (rowAbove t) (⟨6144 + k.val, by have := k.isLt; omega⟩ : Fin 12800)) := by
  obtain ⟨-, -, -, -, -, -, e0, e1⟩ := idx_proj t
  show V m c main_arg0 ((win0_3.rect t).emb (ix2 (7 : Fin 8) k)) = _
  rw [V_main_arg0]
  refine congrArg _ (Shape.idx_ext₂ ?_ ?_)
  · rw [win0_3.rect_emb_val, e0]; rfl
  · rw [win0_3.rect_emb_val, e1]; show 12 * 512 + k.val = 6144 + k.val; omega

/-- The coefficients of the wide columns. -/
theorem blk4_apply (c : Dev nD) (t : Fin cfg0.N) (n : Fin 6144) :
    iblk m c 4 t (ix2 (0 : Fin 1) n : S1x6144.Idx) = m ((c : Thread nD τ).loc main_arg1) (ix2 (0 : Fin 1) (⟨n.val, by have := n.isLt; omega⟩ : Fin 6592)) := by
  have e : V m c main_v13 = shapeCast S1x6144 (extractStridedSlice S6144 ![0] (shapeCast S6592 (m ((c : Thread nD τ).loc main_arg1)) shapeCasts_S1x6592_S6592)
      slices_S6592_S6144_0) shapeCasts_S6144_S1x6144 := rfl
  obtain ⟨e0, e1, -⟩ := idx_weights t
  show V m c main_v13 ((win0_4.rect t).emb (ix2 (0 : Fin 1) n)) = _
  have ei : (win0_4.rect t).emb (ix2 (0 : Fin 1) n) = ix2 (0 : Fin 1) n := by
    refine Shape.idx_ext₂ ?_ ?_
    · rw [win0_4.rect_emb_val, e0]; rfl
    · rw [win0_4.rect_emb_val, e1]; show 0 * 6144 + n.val = n.val; omega
  rw [e, ei, shapeCast_a_1a_apply,
    extractStridedSlice_apply _ _ _ (ix1 n : S6144.Idx) (ix1 (⟨n.val, by have := n.isLt; omega⟩ : Fin 6592) : S6592.Idx) (fun a => match a with
      | ⟨0, _⟩ => by show n.val = 0 + n.val; omega), shapeCast_1a_a_apply]

/-- The coefficients of the narrow columns, where they are not padding. -/
theorem blk5_apply (c : Dev nD) (t : Fin cfg0.N) (k : Fin 448) :
    iblk m c 5 t (ix2 (0 : Fin 1) (⟨k.val, by have := k.isLt; omega⟩ : Fin 512) : S1x512.Idx)
      = m ((c : Thread nD τ).loc main_arg1) (ix2 (0 : Fin 1) (⟨6144 + k.val, by have := k.isLt; omega⟩ : Fin 6592)) := by
  have e : V m c main_v14 = shapeCast S1x512 (pad S512 ![0] ![64] ![0] (extractStridedSlice S448 ![6144] (shapeCast S6592 (m ((c : Thread nD τ).loc main_arg1))
      shapeCasts_S1x6592_S6592) slices_S6592_S448_6144) (sitofp (F := Ideal) .f32 (constantI S_ 32 0#32)) pads_S448_S512_0640 h_S_) shapeCasts_S512_S1x512 := rfl
  obtain ⟨-, -, e0, e1, -⟩ := idx_weights t
  show V m c main_v14 ((win0_5.rect t).emb (ix2 (0 : Fin 1) (⟨k.val, by have := k.isLt; omega⟩ : Fin 512))) = _
  have ei : (win0_5.rect t).emb (ix2 (0 : Fin 1) (⟨k.val, by have := k.isLt; omega⟩ : Fin 512)) = ix2 (0 : Fin 1) (⟨k.val, by have := k.isLt; omega⟩ : Fin 512) := by
    refine Shape.idx_ext₂ ?_ ?_
    · rw [win0_5.rect_emb_val, e0]; rfl
    · rw [win0_5.rect_emb_val, e1]; show 0 * 512 + k.val = k.val; omega
  rw [e, ei, shapeCast_a_1a_apply, pad_apply_of_inside _ _ _ _ _ _ _ _ (ix1 k : S448.Idx) (fun a => match a with
      | ⟨0, _⟩ => by show k.val = 0 + k.val * (0 + 1); omega),
    extractStridedSlice_apply _ _ _ (ix1 k : S448.Idx) (ix1 (⟨6144 + k.val, by have := k.isLt; omega⟩ : Fin 6592) : S6592.Idx) (fun a => match a with
      | ⟨0, _⟩ => rfl), shapeCast_1a_a_apply]

/-- The host flattens a weight row and puts the axis back: the row itself. -/
theorem twice_apply (x : FVec Ideal S1x2048 .f32) (n : Fin 2048) :
    shapeCast S1x2048 (shapeCast S2048 x shapeCasts_S1x2048_S2048) shapeCasts_S2048_S1x2048 (ix2 (0 : Fin 1) n) = x (ix2 (0 : Fin 1) n) := by
  rw [shapeCast_a_1a_apply, shapeCast_1a_a_apply]

theorem blk6_apply (c : Dev nD) (t : Fin cfg0.N) (n : Fin 2048) :
    iblk m c 6 t (ix2 (0 : Fin 1) n : S1x2048.Idx) = m ((c : Thread nD τ).loc main_arg2) (ix2 (0 : Fin 1) n) := by
  have e : V m c main_v16 = shapeCast S1x2048 (shapeCast S2048 (m ((c : Thread nD τ).loc main_arg2)) shapeCasts_S1x2048_S2048)
      shapeCasts_S2048_S1x2048 := rfl
  obtain ⟨-, -, -, -, e0, e1, -⟩ := idx_weights t
  show V m c main_v16 ((win0_6.rect t).emb (ix2 (0 : Fin 1) n)) = _
  rw [e, ← twice_apply (m ((c : Thread nD τ).loc main_arg2))]
  refine congrArg _ (Shape.idx_ext₂ ?_ ?_)
  · rw [win0_6.rect_emb_val, e0]; rfl
  · rw [win0_6.rect_emb_val, e1]; show 0 * 2048 + n.val = n.val; omega

theorem blk7_apply (c : Dev nD) (t : Fin cfg0.N) (n : Fin 2048) :
    iblk m c 7 t (ix2 (0 : Fin 1) n : S1x2048.Idx) = m ((c : Thread nD τ).loc main_arg4) (ix2 (0 : Fin 1) n) := by
  have e : V m c main_v18 = shapeCast S1x2048 (shapeCast S2048 (m ((c : Thread nD τ).loc main_arg4)) shapeCasts_S1x2048_S2048)
      shapeCasts_S2048_S1x2048 := rfl
  obtain ⟨-, -, -, -, -, -, e0, e1, -⟩ := idx_weights t
  show V m c main_v18 ((win0_7.rect t).emb (ix2 (0 : Fin 1) n)) = _
  rw [e, ← twice_apply (m ((c : Thread nD τ).loc main_arg4))]
  refine congrArg _ (Shape.idx_ext₂ ?_ ?_)
  · rw [win0_7.rect_emb_val, e0]; rfl
  · rw [win0_7.rect_emb_val, e1]; show 0 * 2048 + n.val = n.val; omega

theorem blk8_apply (c : Dev nD) (t : Fin cfg0.N) (n : Fin 2048) :
    iblk m c 8 t (ix2 (0 : Fin 1) n : S1x2048.Idx) = m ((c : Thread nD τ).loc main_arg7) (ix2 (0 : Fin 1) n) := by
  have e : V m c main_v20 = shapeCast S1x2048 (shapeCast S2048 (m ((c : Thread nD τ).loc main_arg7)) shapeCasts_S1x2048_S2048)
      shapeCasts_S2048_S1x2048 := rfl
  obtain ⟨-, -, -, -, -, -, -, -, e0, e1, -⟩ := idx_weights t
  show V m c main_v20 ((win0_8.rect t).emb (ix2 (0 : Fin 1) n)) = _
  rw [e, ← twice_apply (m ((c : Thread nD τ).loc main_arg7))]
  refine congrArg _ (Shape.idx_ext₂ ?_ ?_)
  · rw [win0_8.rect_emb_val, e0]; rfl
  · rw [win0_8.rect_emb_val, e1]; show 0 * 2048 + n.val = n.val; omega

theorem blk9_apply (c : Dev nD) (t : Fin cfg0.N) (n : Fin 2048) :
    iblk m c 9 t (ix2 (0 : Fin 1) n : S1x2048.Idx) = m ((c : Thread nD τ).loc main_arg8) (ix2 (0 : Fin 1) n) := by
  have e : V m c main_v22 = shapeCast S1x2048 (shapeCast S2048 (m ((c : Thread nD τ).loc main_arg8)) shapeCasts_S1x2048_S2048)
      shapeCasts_S2048_S1x2048 := rfl
  obtain ⟨-, -, -, -, -, -, -, -, -, -, e0, e1, -⟩ := idx_weights t
  show V m c main_v22 ((win0_9.rect t).emb (ix2 (0 : Fin 1) n)) = _
  rw [e, ← twice_apply (m ((c : Thread nD τ).loc main_arg8))]
  refine congrArg _ (Shape.idx_ext₂ ?_ ?_)
  · rw [win0_9.rect_emb_val, e0]; rfl
  · rw [win0_9.rect_emb_val, e1]; show 0 * 2048 + n.val = n.val; omega

theorem blk10_apply (c : Dev nD) (t : Fin cfg0.N) (n : Fin 2048) :
    iblk m c 10 t (ix2 (0 : Fin 1) n : S1x2048.Idx) = m ((c : Thread nD τ).loc main_arg9) (ix2 (0 : Fin 1) n) := by
  have e : V m c main_v24 = shapeCast S1x2048 (shapeCast S2048 (m ((c : Thread nD τ).loc main_arg9)) shapeCasts_S1x2048_S2048)
      shapeCasts_S2048_S1x2048 := rfl
  obtain ⟨-, -, -, -, -, -, -, -, -, -, -, -, e0, e1, -⟩ := idx_weights t
  show V m c main_v24 ((win0_10.rect t).emb (ix2 (0 : Fin 1) n)) = _
  rw [e, ← twice_apply (m ((c : Thread nD τ).loc main_arg9))]
  refine congrArg _ (Shape.idx_ext₂ ?_ ?_)
  · rw [win0_10.rect_emb_val, e0]; rfl
  · rw [win0_10.rect_emb_val, e1]; show 0 * 2048 + n.val = n.val; omega

/-- A padded weight: the weight's rows from row 0 on, zero elsewhere. -/
theorem blk11_eq (c : Dev nD) (t : Fin cfg0.N) (k : Fin 512) (n : Fin 2048) :
    iblk m c 11 t (ix2 k n : S512x2048.Idx) = pad S512x2048 ![0, 0] ![416, 0] ![0, 0] (shapeCast S96x2048 (m ((c : Thread nD τ).loc main_arg3))
      shapeCasts_S1x96x2048_S96x2048) (sitofp (F := Ideal) .f32 (constantI S_ 32 0#32)) pads_S96x2048_S512x2048_04160_000 h_S_ (ix2 k n) := by
  have e : V m c main_v5 = truncf (F := Ideal) .bf16 (pad S512x2048 ![0, 0] ![416, 0] ![0, 0] (shapeCast S96x2048 (m ((c : Thread nD τ).loc main_arg3))
      shapeCasts_S1x96x2048_S96x2048) (sitofp (F := Ideal) .f32 (constantI S_ 32 0#32)) pads_S96x2048_S512x2048_04160_000 h_S_) bitsLt_bf16_f32 := rfl
  obtain ⟨-, -, -, -, -, -, -, -, -, -, -, -, -, -, e0, e1, -⟩ := idx_weights t
  show V m c main_v5 ((win0_11.rect t).emb (ix2 k n)) = _
  have ei : (win0_11.rect t).emb (ix2 k n) = ix2 k n := by
    refine Shape.idx_ext₂ ?_ ?_
    · rw [win0_11.rect_emb_val, e0]; show 0 * 512 + k.val = k.val; omega
    · rw [win0_11.rect_emb_val, e1]; show 0 * 2048 + n.val = n.val; omega
  rw [e, ei]
  rfl

theorem blk11_in (c : Dev nD) (t : Fin cfg0.N) (k : Fin 96) (n : Fin 2048) :
    iblk m c 11 t (ix2 (⟨0 + k.val, by have := k.isLt; omega⟩ : Fin 512) n : S512x2048.Idx) = m ((c : Thread nD τ).loc main_arg3) (ix3 (0 : Fin 1) k n) := by
  rw [blk11_eq, pad_apply_of_inside _ _ _ _ _ _ _ _ (ix2 k n : S96x2048.Idx) (fun a => match a with
      | ⟨0, _⟩ => by show 0 + k.val = 0 + k.val * (0 + 1); omega
      | ⟨1, _⟩ => by show n.val = 0 + n.val * (0 + 1); omega), shapeCast_1ab_ab_apply]

theorem blk11_out (c : Dev nD) (t : Fin cfg0.N) (k : Fin 512) (hk : k.val < 0 ∨ 0 + 96 ≤ k.val) (n : Fin 2048) :
    iblk m c 11 t (ix2 k n : S512x2048.Idx) = (0 : EReal) := by
  rw [blk11_eq, pad_apply_of_not_inside _ _ _ _ _ _ _ _ (0 : Fin 2) (by
    intro h
    obtain ⟨h1, -, h3⟩ := h
    replace h1 : 0 ≤ k.val := h1
    replace h3 : (k.val - 0) / (0 + 1) < 96 := h3
    omega)]
  show (((0#32 : BitVec 32).toInt : ℝ) : EReal) = 0
  simp

/-- A padded weight: the weight's rows from row 96 on, zero elsewhere. -/
theorem blk12_eq (c : Dev nD) (t : Fin cfg0.N) (k : Fin 512) (n : Fin 2048) :
    iblk m c 12 t (ix2 k n : S512x2048.Idx) = pad S512x2048 ![96, 0] ![320, 0] ![0, 0] (shapeCast S96x2048 (m ((c : Thread nD τ).loc main_arg5))
      shapeCasts_S1x96x2048_S96x2048) (sitofp (F := Ideal) .f32 (constantI S_ 32 0#32)) pads_S96x2048_S512x2048_963200_000 h_S_ (ix2 k n) := by
  have e : V m c main_v8 = truncf (F := Ideal) .bf16 (pad S512x2048 ![96, 0] ![320, 0] ![0, 0] (shapeCast S96x2048 (m ((c : Thread nD τ).loc main_arg5))
      shapeCasts_S1x96x2048_S96x2048) (sitofp (F := Ideal) .f32 (constantI S_ 32 0#32)) pads_S96x2048_S512x2048_963200_000 h_S_) bitsLt_bf16_f32 := rfl
  obtain ⟨-, -, -, -, -, -, -, -, -, -, -, -, -, -, -, -, e0, e1, -⟩ := idx_weights t
  show V m c main_v8 ((win0_12.rect t).emb (ix2 k n)) = _
  have ei : (win0_12.rect t).emb (ix2 k n) = ix2 k n := by
    refine Shape.idx_ext₂ ?_ ?_
    · rw [win0_12.rect_emb_val, e0]; show 0 * 512 + k.val = k.val; omega
    · rw [win0_12.rect_emb_val, e1]; show 0 * 2048 + n.val = n.val; omega
  rw [e, ei]
  rfl

theorem blk12_in (c : Dev nD) (t : Fin cfg0.N) (k : Fin 96) (n : Fin 2048) :
    iblk m c 12 t (ix2 (⟨96 + k.val, by have := k.isLt; omega⟩ : Fin 512) n : S512x2048.Idx) = m ((c : Thread nD τ).loc main_arg5) (ix3 (0 : Fin 1) k n) := by
  rw [blk12_eq, pad_apply_of_inside _ _ _ _ _ _ _ _ (ix2 k n : S96x2048.Idx) (fun a => match a with
      | ⟨0, _⟩ => by show 96 + k.val = 96 + k.val * (0 + 1); omega
      | ⟨1, _⟩ => by show n.val = 0 + n.val * (0 + 1); omega), shapeCast_1ab_ab_apply]

theorem blk12_out (c : Dev nD) (t : Fin cfg0.N) (k : Fin 512) (hk : k.val < 96 ∨ 96 + 96 ≤ k.val) (n : Fin 2048) :
    iblk m c 12 t (ix2 k n : S512x2048.Idx) = (0 : EReal) := by
  rw [blk12_eq, pad_apply_of_not_inside _ _ _ _ _ _ _ _ (0 : Fin 2) (by
    intro h
    obtain ⟨h1, -, h3⟩ := h
    replace h1 : 96 ≤ k.val := h1
    replace h3 : (k.val - 96) / (0 + 1) < 96 := h3
    omega)]
  show (((0#32 : BitVec 32).toInt : ℝ) : EReal) = 0
  simp

/-- A padded weight: the weight's rows from row 192 on, zero elsewhere. -/
theorem blk13_eq (c : Dev nD) (t : Fin cfg0.N) (k : Fin 512) (n : Fin 2048) :
    iblk m c 13 t (ix2 k n : S512x2048.Idx) = pad S512x2048 ![192, 0] ![64, 0] ![0, 0] (shapeCast S256x2048 (m ((c : Thread nD τ).loc main_arg6))
      shapeCasts_S1x256x2048_S256x2048) (sitofp (F := Ideal) .f32 (constantI S_ 32 0#32)) pads_S256x2048_S512x2048_192640_000 h_S_ (ix2 k n) := by
  have e : V m c main_v11 = truncf (F := Ideal) .bf16 (pad S512x2048 ![192, 0] ![64, 0] ![0, 0] (shapeCast S256x2048 (m ((c : Thread nD τ).loc main_arg6))
      shapeCasts_S1x256x2048_S256x2048) (sitofp (F := Ideal) .f32 (constantI S_ 32 0#32)) pads_S256x2048_S512x2048_192640_000 h_S_) bitsLt_bf16_f32 := rfl
  obtain ⟨-, -, -, -, -, -, -, -, -, -, -, -, -, -, -, -, -, -, e0, e1⟩ := idx_weights t
  show V m c main_v11 ((win0_13.rect t).emb (ix2 k n)) = _
  have ei : (win0_13.rect t).emb (ix2 k n) = ix2 k n := by
    refine Shape.idx_ext₂ ?_ ?_
    · rw [win0_13.rect_emb_val, e0]; show 0 * 512 + k.val = k.val; omega
    · rw [win0_13.rect_emb_val, e1]; show 0 * 2048 + n.val = n.val; omega
  rw [e, ei]
  rfl

theorem blk13_in (c : Dev nD) (t : Fin cfg0.N) (k : Fin 256) (n : Fin 2048) :
    iblk m c 13 t (ix2 (⟨192 + k.val, by have := k.isLt; omega⟩ : Fin 512) n : S512x2048.Idx) = m ((c : Thread nD τ).loc main_arg6) (ix3 (0 : Fin 1) k n) := by
  rw [blk13_eq, pad_apply_of_inside _ _ _ _ _ _ _ _ (ix2 k n : S256x2048.Idx) (fun a => match a with
      | ⟨0, _⟩ => by show 192 + k.val = 192 + k.val * (0 + 1); omega
      | ⟨1, _⟩ => by show n.val = 0 + n.val * (0 + 1); omega), shapeCast_1ab_ab_apply]

theorem blk13_out (c : Dev nD) (t : Fin cfg0.N) (k : Fin 512) (hk : k.val < 192 ∨ 192 + 256 ≤ k.val) (n : Fin 2048) :
    iblk m c 13 t (ix2 k n : S512x2048.Idx) = (0 : EReal) := by
  rw [blk13_eq, pad_apply_of_not_inside _ _ _ _ _ _ _ _ (0 : Fin 2) (by
    intro h
    obtain ⟨h1, -, h3⟩ := h
    replace h1 : 192 ≤ k.val := h1
    replace h3 : (k.val - 192) / (0 + 1) < 256 := h3
    omega)]
  show (((0#32 : BitVec 32).toInt : ℝ) : EReal) = 0
  simp

end Cert.Prep

end
-- ==== Proof.PrepRows.lean ====
/-
  What a grid point's blocks hold, as the reference's values at the point's rows.
-/
module

public import proofs.«01_k».proof.Proof.PrepBlocks
public import proofs.«01_k».proof.Proof.PrepMath

@[expose] public section

noncomputable section

open Idealize.ShloMosaic Idealize.ShloMosaic.TcCoe Idealize.SL.Sem Idealize.ShloMosaic.ValueIdx
open Idealize.ShloMosaic.Pipeline (Dat)

namespace Cert.Prep

open Cert.Kernel6Ideal Cert.Kernel6Ideal.Gen Cert.HeadSum
open Cert.PrepMath (IsReal sum_range)
open Cert.PrepRef (mixed prev at_ cR cK cV cW cA cG zw rate gate scaled unit upd rk bonus)

variable (m : (ℓ : Loc nD τ sig) → Buf (Elt Ideal) ℓ) (c : Dev nD) (t : Fin cfg0.N) (j : Fin 128)

/-! ## The arguments -/

abbrev aP : FVec Ideal S8192x12800 .f32 := m ((c : Thread nD τ).loc main_arg0)
abbrev aMu : FVec Ideal S1x6592 .f32 := m ((c : Thread nD τ).loc main_arg1)
abbrev aW0 : FVec Ideal S1x2048 .f32 := m ((c : Thread nD τ).loc main_arg2)
abbrev aW2 : FVec Ideal S1x96x2048 .f32 := m ((c : Thread nD τ).loc main_arg3)
abbrev aA0 : FVec Ideal S1x2048 .f32 := m ((c : Thread nD τ).loc main_arg4)
abbrev aA2 : FVec Ideal S1x96x2048 .f32 := m ((c : Thread nD τ).loc main_arg5)
abbrev aG2 : FVec Ideal S1x256x2048 .f32 := m ((c : Thread nD τ).loc main_arg6)
abbrev aKk : FVec Ideal S1x2048 .f32 := m ((c : Thread nD τ).loc main_arg7)
abbrev aKa : FVec Ideal S1x2048 .f32 := m ((c : Thread nD τ).loc main_arg8)
abbrev aRk : FVec Ideal S1x2048 .f32 := m ((c : Thread nD τ).loc main_arg9)

/-! ## The token shift -/

theorem up_eq (f : Fin 128 → EReal) (g : EReal) (n : Fin 6592) (hf : ∀ j, f j = at_ (aP m c) (row t j) n) (hg : g = at_ (aP m c) (rowAbove t) n) :
    (if j.val < 1 then (if firstBit (grid0.coords t) = 1#1 then 0 else g) else f (⟨j.val - 1, by have := j.isLt; omega⟩ : Fin 128))
      = prev (aP m c) (row t j) n := by
  have ht : t.val < 64 := t.isLt
  have hj := j.isLt
  unfold prev
  rw [firstBit_eq]
  by_cases h : j.val < 1
  · rw [if_pos h]
    by_cases h0 : t.val % 32 = 0
    · rw [if_pos h0, if_pos rfl, if_pos (show (t.val * 128 + j.val) % 4096 < 1 by omega)]
    · rw [if_neg h0, if_neg (by decide), if_neg (show ¬ (t.val * 128 + j.val) % 4096 < 1 by omega), hg]
      refine congrArg (fun r => at_ (aP m c) r n) (Fin.ext ?_)
      show (t.val * 16 - 1) * 8 + 7 = t.val * 128 + j.val - 1
      omega
  · rw [if_neg h, if_neg (show ¬ (t.val * 128 + j.val) % 4096 < 1 by omega), hf]
    refine congrArg (fun r => at_ (aP m c) r n) (Fin.ext ?_)
    show t.val * 128 + (j.val - 1) = t.val * 128 + j.val - 1
    omega

/-- The mix of a point's wide columns. -/
theorem wide_blk (n : Fin 6144) :
    wide (F := Ideal) (grid0.coords t) (X0_0 m c t) (X0_2 m c t) (iblk m c 4 t) (ix2 j n)
      = mixed (aP m c) (aMu m c) (row t j) ⟨n.val, by have := n.isLt; omega⟩ := by
  refine (wide_apply _ _ _ (iblk m c 4 t) j n).trans ?_
  have hu : up6144 (firstBit (grid0.coords t)) (X0_0 m c t) (X0_2 m c t) j n = prev (aP m c) (row t j) ⟨n.val, by have := n.isLt; omega⟩ :=
    up_eq m c t j (fun j => X0_0 m c t (ix2 j n : S128x6144.Idx)) _ ⟨n.val, by have := n.isLt; omega⟩ (fun j => blk0_apply m c t j n) (blk2_apply m c t n)
  rw [hu, blk0_apply, blk4_apply]
  rfl

/-- The mix of a point's narrow columns. -/
theorem narrow_blk (k : Fin 448) :
    narrow (F := Ideal) (grid0.coords t) (iblk m c 1 t) (iblk m c 3 t) (iblk m c 5 t) (ix2 j (⟨k.val, by have := k.isLt; omega⟩ : Fin 512))
      = mixed (aP m c) (aMu m c) (row t j) ⟨6144 + k.val, by have := k.isLt; omega⟩ := by
  refine (narrow_apply _ (iblk m c 1 t) (iblk m c 3 t) (iblk m c 5 t) j _).trans ?_
  have hu : up512 (firstBit (grid0.coords t)) (iblk m c 1 t) (iblk m c 3 t) j (⟨k.val, by have := k.isLt; omega⟩ : Fin 512)
      = prev (aP m c) (row t j) ⟨6144 + k.val, by have := k.isLt; omega⟩ :=
    up_eq m c t j (fun j => iblk m c 1 t (ix2 j (⟨k.val, by have := k.isLt; omega⟩ : Fin 512) : S128x512.Idx)) _ ⟨6144 + k.val, by have := k.isLt; omega⟩
      (fun j => blk1_apply m c t j _) (blk3_apply m c t _)
  rw [hu, blk5_apply, blk1_apply]
  rfl

/-! ## The low-rank products -/

theorem rate_blk (n : Fin 2048) :
    rateB (F := Ideal) (grid0.coords t) (iblk m c 1 t) (iblk m c 3 t) (iblk m c 5 t) (iblk m c 7 t) (iblk m c 12 t) (ix2 j n)
      = rate (aP m c) (aMu m c) (aA0 m c) (aA2 m c) (row t j) n := by
  refine (rateB_apply _ (iblk m c 1 t) (iblk m c 3 t) (iblk m c 5 t) (iblk m c 7 t) (iblk m c 12 t) j n).trans ?_
  unfold rate
  refine congrArg₂ (fun a b : EReal => Ideal.logistic (a + b)) (blk7_apply m c t n)
    ((sum_range (n := 96) 96 (by norm_num) _ fun k hk => by rw [blk12_out m c t k hk n, mul_zero]).trans (Finset.sum_congr rfl fun k _ => ?_))
  rw [blk12_in]
  refine congrArg (fun a : EReal => a * _) ((narrow_blk m c t j ⟨96 + k.val, by have := k.isLt; omega⟩).trans (congrArg _ (Fin.ext ?_)))
  show 6144 + (96 + k.val) = 6240 + k.val
  omega

theorem gate_blk (n : Fin 2048) :
    outGate (F := Ideal) (grid0.coords t) (iblk m c 1 t) (iblk m c 3 t) (iblk m c 5 t) (iblk m c 13 t) (ix2 j n)
      = gate (aP m c) (aMu m c) (aG2 m c) (row t j) n := by
  refine (outGate_apply _ (iblk m c 1 t) (iblk m c 3 t) (iblk m c 5 t) (iblk m c 13 t) j n).trans ?_
  unfold gate
  refine (sum_range (n := 256) 192 (by norm_num) _ fun k hk => by rw [blk13_out m c t k hk n, mul_zero]).trans (Finset.sum_congr rfl fun k _ => ?_)
  rw [blk13_in]
  refine congrArg (fun a : EReal => Ideal.logistic a * _) ((narrow_blk m c t j ⟨192 + k.val, by have := k.isLt; omega⟩).trans (congrArg _ (Fin.ext ?_)))
  show 6144 + (192 + k.val) = 6336 + k.val
  omega

theorem decay_blk (n : Fin 2048) :
    outDecay (F := Ideal) (grid0.coords t) (iblk m c 1 t) (iblk m c 3 t) (iblk m c 5 t) (iblk m c 6 t) (iblk m c 11 t) (ix2 j n)
      = PrepRef.logDecay (zw (aP m c) (aMu m c) (aW0 m c) (aW2 m c) (row t j) n) := by
  refine (outDecay_apply _ (iblk m c 1 t) (iblk m c 3 t) (iblk m c 5 t) (iblk m c 6 t) (iblk m c 11 t) j n).trans (congrArg PrepRef.logDecay ?_)
  unfold zw
  refine congrArg₂ (fun a b : EReal => a + b) (blk6_apply m c t n)
    ((sum_range (n := 96) 0 (by norm_num) _ fun k hk => by rw [blk11_out m c t k hk n, mul_zero]).trans (Finset.sum_congr rfl fun k _ => ?_))
  rw [blk11_in]
  refine congrArg (fun a : EReal => Ideal.tanh a * _) ((narrow_blk m c t j ⟨0 + k.val, by have := k.isLt; omega⟩).trans (congrArg _ (Fin.ext ?_)))
  show 6144 + (0 + k.val) = 6144 + k.val
  omega

/-! ## The wide columns -/

/-- The mixed wide columns of a point. -/
abbrev wideT : FVec Ideal S128x6144 .f32 := wide (F := Ideal) (grid0.coords t) (X0_0 m c t) (X0_2 m c t) (iblk m c 4 t)
abbrev rateT : FVec Ideal S128x2048 .f32 :=
  rateB (F := Ideal) (grid0.coords t) (iblk m c 1 t) (iblk m c 3 t) (iblk m c 5 t) (iblk m c 7 t) (iblk m c 12 t)

theorem r_blk (n : Fin 2048) : k0_pay5 (F := Ideal) (wideT m c t) (ix2 j n) = mixed (aP m c) (aMu m c) (row t j) (cR n) :=
  (pay5_apply j n _).trans (wide_blk m c t j (wR n))
theorem k_blk (n : Fin 2048) : k0_pay6 (F := Ideal) (wideT m c t) (ix2 j n) = mixed (aP m c) (aMu m c) (row t j) (cK n) :=
  (pay6_apply j n _).trans (wide_blk m c t j (wK n))
theorem v_blk (n : Fin 2048) : k0_pay7 (F := Ideal) (wideT m c t) (ix2 j n) = mixed (aP m c) (aMu m c) (row t j) (cV n) :=
  (pay7_apply j n _).trans (wide_blk m c t j (wV n))

theorem scaled_blk (n : Fin 2048) :
    k0_pay11 (F := Ideal) (k0_pay6 (wideT m c t)) (iblk m c 8 t) (ix2 j n) = scaled (aP m c) (aMu m c) (aKk m c) (row t j) n := by
  refine (pay11_apply (iblk m c 8 t) j n _).trans ?_
  rw [k_blk, blk8_apply]
  rfl

theorem upd_blk (n : Fin 2048) :
    k0_pay45 (F := Ideal) (k0_pay6 (wideT m c t)) (rateT m c t) (iblk m c 9 t) (ix2 j n)
      = upd (aP m c) (aMu m c) (aA0 m c) (aA2 m c) (aKa m c) (row t j) n := by
  refine (pay45_apply (iblk m c 9 t) j n _ _).trans ?_
  rw [k_blk, show rateT m c t (ix2 j n) = _ from rate_blk m c t j n, blk9_apply]
  rfl

theorem rk_blk (n : Fin 2048) :
    k0_pay53 (F := Ideal) (k0_pay5 (wideT m c t)) (k0_pay45 (k0_pay6 (wideT m c t)) (rateT m c t) (iblk m c 9 t)) (iblk m c 10 t) (ix2 j n)
      = rk (aP m c) (aMu m c) (aA0 m c) (aA2 m c) (aKa m c) (aRk m c) (row t j) n := by
  refine (pay53_apply (iblk m c 10 t) j n _ _).trans ?_
  rw [r_blk, upd_blk, blk10_apply]
  rfl

/-! ## Where the inputs of the head sums are real -/

/-- The entries the head sums are made of are real numbers. -/
structure FiniteIn : Prop where
  p : ∀ (r : Fin 8192) (n : Fin 4096), IsReal (aP m c (ix2 r (⟨n.val, by have := n.isLt; omega⟩ : Fin 12800)))
  mu : ∀ n : Fin 4096, IsReal (aMu m c (ix2 (0 : Fin 1) (⟨n.val, by have := n.isLt; omega⟩ : Fin 6592)))
  kk : ∀ n : Fin 2048, IsReal (aKk m c (ix2 (0 : Fin 1) n))
  ka : ∀ n : Fin 2048, IsReal (aKa m c (ix2 (0 : Fin 1) n))
  rk : ∀ n : Fin 2048, IsReal (aRk m c (ix2 (0 : Fin 1) n))

variable {m c}

theorem FiniteIn.mixed (h : FiniteIn m c) (r : Fin 8192) (n : Fin 4096) :
    IsReal (PrepRef.mixed (aP m c) (aMu m c) r ⟨n.val, by have := n.isLt; omega⟩) := by
  have hp : IsReal (prev (aP m c) r ⟨n.val, by have := n.isLt; omega⟩) := by
    unfold prev
    split
    · exact IsReal.zero
    · exact h.p _ n
  exact (h.p r n).add ((hp.sub (h.p r n)).mul (h.mu n))

theorem FiniteIn.scaled (h : FiniteIn m c) (r : Fin 8192) (n : Fin 2048) : IsReal (PrepRef.scaled (aP m c) (aMu m c) (aKk m c) r n) :=
  (h.mixed r ⟨2048 + n.val, by have := n.isLt; omega⟩).mul (h.kk n)

theorem FiniteIn.upd (h : FiniteIn m c) (r : Fin 8192) (n : Fin 2048) :
    IsReal (PrepRef.upd (aP m c) (aMu m c) (aA0 m c) (aA2 m c) (aKa m c) r n) := by
  unfold PrepRef.upd
  rw [PrepRef.one_f32]
  exact (h.mixed r ⟨2048 + n.val, by have := n.isLt; omega⟩).mul (IsReal.one.add (((IsReal.logistic _).sub IsReal.one).mul (h.ka n)))

theorem FiniteIn.rkv (h : FiniteIn m c) (r : Fin 8192) (n : Fin 2048) :
    IsReal (PrepRef.rk (aP m c) (aMu m c) (aA0 m c) (aA2 m c) (aKa m c) (aRk m c) r n) :=
  ((h.mixed r ⟨n.val, by have := n.isLt; omega⟩).mul (h.upd r n)).mul (h.rk n)

/-! ## The head sums -/

theorem unit_blk (h : FiniteIn m c) (n : Fin 2048) :
    unitB (F := Ideal) (k0_pay11 (k0_pay6 (wideT m c t)) (iblk m c 8 t)) (ix2 j n) = unit (aP m c) (aMu m c) (aKk m c) (row t j) n := by
  refine (unitB_apply j n _ fun y => ?_).trans ?_
  · obtain ⟨a, b, rfl⟩ : ∃ (a : Fin 128) (b : Fin 2048), y = ix2 a b := ⟨y 0, y 1, Shape.idx_ext₂ rfl rfl⟩
    rw [scaled_blk]
    exact h.scaled _ b
  · simp only [scaled_blk]
    rfl

theorem bonus_blk (h : FiniteIn m c) (n : Fin 2048) :
    outBonus (F := Ideal) (grid0.coords t) (X0_0 m c t) (iblk m c 1 t) (X0_2 m c t) (iblk m c 3 t) (iblk m c 4 t) (iblk m c 5 t) (iblk m c 7 t)
        (iblk m c 9 t) (iblk m c 10 t) (iblk m c 12 t) (ix2 j n)
      = bonus (aP m c) (aMu m c) (aA0 m c) (aA2 m c) (aKa m c) (aRk m c) (row t j) n := by
  refine congrArg₂ (fun a b : EReal => a * b) ((headSum_apply _ (fun y => ?_) j n).trans (Finset.sum_congr rfl fun k _ => rk_blk m c t j (lane n k)))
    (v_blk m c t j n)
  obtain ⟨a, b, rfl⟩ : ∃ (a : Fin 128) (b : Fin 2048), y = ix2 a b := ⟨y 0, y 1, Shape.idx_ext₂ rfl rfl⟩
  exact ((congrArg IsReal (rk_blk m c t a b)).mpr (h.rkv _ b))

theorem step_blk (h : FiniteIn m c) (n : Fin 2048) :
    outStep (F := Ideal) (grid0.coords t) (X0_0 m c t) (iblk m c 1 t) (X0_2 m c t) (iblk m c 3 t) (iblk m c 4 t) (iblk m c 5 t) (iblk m c 7 t)
        (iblk m c 8 t) (iblk m c 12 t) (ix2 j n)
      = unit (aP m c) (aMu m c) (aKk m c) (row t j) n * rate (aP m c) (aMu m c) (aA0 m c) (aA2 m c) (row t j) n :=
  congrArg₂ (fun a b : EReal => a * b) (unit_blk t j h n) (rate_blk m c t j n)

end Cert.Prep

end
-- ==== Proof.Prep.lean ====
/-
  The value of the preparation: the blocks the points write back make up the reference's eight results, where the inputs
  of the two head sums are finite.
-/
module

public import proofs.«01_k».proof.Defs
public import proofs.«01_k».proof.Proof.PrepRows
public import proofs.«01_k».proof.Proof.Gen.Reference6Ideal.Run
public import proofs.«01_k».proof.Proof.Gen.Pre_finite_rk
public import Idealize.ShloMosaic.Lib.ReduceAll

@[expose] public section

noncomputable section

open Idealize.ShloMosaic Idealize.ShloMosaic.TcCoe Idealize.SL.Sem Idealize.ShloMosaic.ValueIdx
open Idealize.ShloMosaic.Pipeline (Dat)

namespace Cert.Prep

open Cert.Kernel6Ideal Cert.Kernel6Ideal.Gen Cert.HeadSum
open Cert.PrepMath (IsReal)
open Cert.Reference6Ideal.Read

variable (m : (ℓ : Loc nD τ sig) → Buf (Elt Ideal) ℓ)

/-- Point `t` writes row block `t` of every result. -/
theorem idx_out : ∀ t : Fin cfg0.N, (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 2) = t.val ∧ win0_20.index t (1 : Fin 2) = 0)
    ∧ (win0_21.index t (0 : Fin 2) = t.val ∧ win0_21.index t (1 : Fin 2) = 0) :=
  (by decide +kernel : ∀ t : Fin grid0.N, _)

/-! ## The receptance -/

abbrev G14 (c : Dev nD) : Buf (Elt Ideal) ((c : Thread nD τ).loc main_v25_0) :=
  val_main_v89 (F := Ideal) (aP m c) (aMu m c)

theorem flushed14_eq (c : Dev nD) (t : Fin cfg0.N) :
    (dats m 0 c).flushed 14 t = (win0_14.blk t).view.read (Elt Ideal) (G14 m c) := by
  obtain ⟨e0, e1⟩ := (idx_out t).1
  refine (Value.flushed14_A m c t).trans ((congrArg ((cfg0.win 14).cut (grid0.coords t)) (out14_eq ..)).trans (funext fun y => ?_))
  obtain ⟨j, n, rfl⟩ : ∃ (j : Fin 128) (n : Fin 2048), y = ix2 j n := ⟨y 0, y 1, Shape.idx_ext₂ rfl rfl⟩
  show outR (F := Ideal) (grid0.coords t) (X0_0 m c t) (X0_2 m c t) (iblk m c 4 t) (ix2 j n) = G14 m c ((win0_14.rect t).emb (ix2 j n))
  have ey : (win0_14.rect t).emb (ix2 j n) = ix2 (row t j) n := by
    refine Shape.idx_ext₂ ?_ ?_
    · refine (win0_14.rect_emb_val t _ 0).trans ?_
      show win0_14.index t (0 : Fin 2) * 128 + j.val = t.val * 128 + j.val
      rw [e0]
    · refine (win0_14.rect_emb_val t _ 1).trans ?_
      show win0_14.index t (1 : Fin 2) * 2048 + n.val = n.val
      rw [e1]; omega
  rw [ey]
  exact (r_blk m c t j n).trans (PrepRef.res_r _ _ (row t j) n).symm

theorem mem_blk14 (t : Fin cfg0.N) (i : S8192x2048.Idx) :
    i ∈ ((cfg0.win 14).blk t).view.set ↔ ∀ a : Fin 2, win0_14.index t a * win0_14.size a ≤ (i a).val
      ∧ (i a).val < win0_14.index t a * win0_14.size a + win0_14.xsize (grid0.coords t) a := by
  show i ∈ ((View.whole main_v25_0).slice (win0_14.rect t)).set ↔ _
  rw [View.set_slice_whole, Rect.mem_set_unit]
  exact Iff.rfl

theorem cover14 (i : S8192x2048.Idx) : ∃ t : Fin cfg0.N, (cfg0.win 14).flush t = true ∧ i ∈ ((cfg0.win 14).blk t).view.set := by
  have h0 : (i 0).val < 8192 := (i 0).isLt
  have h1 : (i 1).val < 2048 := (i 1).isLt
  have ht : (i 0).val / 128 < cfg0.N := by show _ < 64; omega
  refine ⟨⟨_, ht⟩, flush0_14 _, ?_⟩
  rw [mem_blk14]
  obtain ⟨e0, e1⟩ := (idx_out ⟨_, ht⟩).1
  intro a
  match a with
  | ⟨0, _⟩ => show win0_14.index _ (0 : Fin 2) * 128 ≤ (i 0).val ∧ (i 0).val < win0_14.index _ (0 : Fin 2) * 128 + 128
              rw [e0]; dsimp only; omega
  | ⟨1, _⟩ => show win0_14.index _ (1 : Fin 2) * 2048 ≤ (i 1).val ∧ (i 1).val < win0_14.index _ (1 : Fin 2) * 2048 + 2048
              rw [e1]; omega

theorem final14 (c : Dev nD) : (dats m 0 c).arrAt 14 cfg0.N = G14 m c :=
  (dats m 0 c).arrAt_eq_of_cover 14 (G14 m c) (fun t _ => flushed14_eq m c t) cover14

/-! ## The updated key -/

abbrev G15 (c : Dev nD) : Buf (Elt Ideal) ((c : Thread nD τ).loc main_v25_1) :=
  val_main_v91 (F := Ideal) (aP m c) (aMu m c) (aA0 m c) (aA2 m c) (aKa m c)

theorem flushed15_eq (c : Dev nD) (t : Fin cfg0.N) :
    (dats m 0 c).flushed 15 t = (win0_15.blk t).view.read (Elt Ideal) (G15 m c) := by
  obtain ⟨e0, e1⟩ := (idx_out t).2.1
  refine (Value.flushed15_A m c t).trans ((congrArg ((cfg0.win 15).cut (grid0.coords t)) (out15_eq ..)).trans (funext fun y => ?_))
  obtain ⟨j, n, rfl⟩ : ∃ (j : Fin 128) (n : Fin 2048), y = ix2 j n := ⟨y 0, y 1, Shape.idx_ext₂ rfl rfl⟩
  show outK (F := Ideal) (grid0.coords t) (X0_0 m c t) (iblk m c 1 t) (X0_2 m c t) (iblk m c 3 t) (iblk m c 4 t) (iblk m c 5 t) (iblk m c 7 t) (iblk m c 9 t) (iblk m c 12 t) (ix2 j n) = G15 m c ((win0_15.rect t).emb (ix2 j n))
  have ey : (win0_15.rect t).emb (ix2 j n) = ix2 (row t j) n := by
    refine Shape.idx_ext₂ ?_ ?_
    · refine (win0_15.rect_emb_val t _ 0).trans ?_
      show win0_15.index t (0 : Fin 2) * 128 + j.val = t.val * 128 + j.val
      rw [e0]
    · refine (win0_15.rect_emb_val t _ 1).trans ?_
      show win0_15.index t (1 : Fin 2) * 2048 + n.val = n.val
      rw [e1]; omega
  rw [ey]
  exact (upd_blk m c t j n).trans (PrepRef.res_upd _ _ (row t j) n _ _ _).symm

theorem mem_blk15 (t : Fin cfg0.N) (i : S8192x2048.Idx) :
    i ∈ ((cfg0.win 15).blk t).view.set ↔ ∀ a : Fin 2, win0_15.index t a * win0_15.size a ≤ (i a).val
      ∧ (i a).val < win0_15.index t a * win0_15.size a + win0_15.xsize (grid0.coords t) a := by
  show i ∈ ((View.whole main_v25_1).slice (win0_15.rect t)).set ↔ _
  rw [View.set_slice_whole, Rect.mem_set_unit]
  exact Iff.rfl

theorem cover15 (i : S8192x2048.Idx) : ∃ t : Fin cfg0.N, (cfg0.win 15).flush t = true ∧ i ∈ ((cfg0.win 15).blk t).view.set := by
  have h0 : (i 0).val < 8192 := (i 0).isLt
  have h1 : (i 1).val < 2048 := (i 1).isLt
  have ht : (i 0).val / 128 < cfg0.N := by show _ < 64; omega
  refine ⟨⟨_, ht⟩, flush0_15 _, ?_⟩
  rw [mem_blk15]
  obtain ⟨e0, e1⟩ := (idx_out ⟨_, ht⟩).2.1
  intro a
  match a with
  | ⟨0, _⟩ => show win0_15.index _ (0 : Fin 2) * 128 ≤ (i 0).val ∧ (i 0).val < win0_15.index _ (0 : Fin 2) * 128 + 128
              rw [e0]; dsimp only; omega
  | ⟨1, _⟩ => show win0_15.index _ (1 : Fin 2) * 2048 ≤ (i 1).val ∧ (i 1).val < win0_15.index _ (1 : Fin 2) * 2048 + 2048
              rw [e1]; omega

theorem final15 (c : Dev nD) : (dats m 0 c).arrAt 15 cfg0.N = G15 m c :=
  (dats m 0 c).arrAt_eq_of_cover 15 (G15 m c) (fun t _ => flushed15_eq m c t) cover15

/-! ## The value -/

abbrev G16 (c : Dev nD) : Buf (Elt Ideal) ((c : Thread nD τ).loc main_v25_2) :=
  val_main_v93 (F := Ideal) (aP m c) (aMu m c)

theorem flushed16_eq (c : Dev nD) (t : Fin cfg0.N) :
    (dats m 0 c).flushed 16 t = (win0_16.blk t).view.read (Elt Ideal) (G16 m c) := by
  obtain ⟨e0, e1⟩ := (idx_out t).2.2.1
  refine (Value.flushed16_A m c t).trans ((congrArg ((cfg0.win 16).cut (grid0.coords t)) (out16_eq ..)).trans (funext fun y => ?_))
  obtain ⟨j, n, rfl⟩ : ∃ (j : Fin 128) (n : Fin 2048), y = ix2 j n := ⟨y 0, y 1, Shape.idx_ext₂ rfl rfl⟩
  show outV (F := Ideal) (grid0.coords t) (X0_0 m c t) (X0_2 m c t) (iblk m c 4 t) (ix2 j n) = G16 m c ((win0_16.rect t).emb (ix2 j n))
  have ey : (win0_16.rect t).emb (ix2 j n) = ix2 (row t j) n := by
    refine Shape.idx_ext₂ ?_ ?_
    · refine (win0_16.rect_emb_val t _ 0).trans ?_
      show win0_16.index t (0 : Fin 2) * 128 + j.val = t.val * 128 + j.val
      rw [e0]
    · refine (win0_16.rect_emb_val t _ 1).trans ?_
      show win0_16.index t (1 : Fin 2) * 2048 + n.val = n.val
      rw [e1]; omega
  rw [ey]
  exact (v_blk m c t j n).trans (PrepRef.res_v _ _ (row t j) n).symm

theorem mem_blk16 (t : Fin cfg0.N) (i : S8192x2048.Idx) :
    i ∈ ((cfg0.win 16).blk t).view.set ↔ ∀ a : Fin 2, win0_16.index t a * win0_16.size a ≤ (i a).val
      ∧ (i a).val < win0_16.index t a * win0_16.size a + win0_16.xsize (grid0.coords t) a := by
  show i ∈ ((View.whole main_v25_2).slice (win0_16.rect t)).set ↔ _
  rw [View.set_slice_whole, Rect.mem_set_unit]
  exact Iff.rfl

theorem cover16 (i : S8192x2048.Idx) : ∃ t : Fin cfg0.N, (cfg0.win 16).flush t = true ∧ i ∈ ((cfg0.win 16).blk t).view.set := by
  have h0 : (i 0).val < 8192 := (i 0).isLt
  have h1 : (i 1).val < 2048 := (i 1).isLt
  have ht : (i 0).val / 128 < cfg0.N := by show _ < 64; omega
  refine ⟨⟨_, ht⟩, flush0_16 _, ?_⟩
  rw [mem_blk16]
  obtain ⟨e0, e1⟩ := (idx_out ⟨_, ht⟩).2.2.1
  intro a
  match a with
  | ⟨0, _⟩ => show win0_16.index _ (0 : Fin 2) * 128 ≤ (i 0).val ∧ (i 0).val < win0_16.index _ (0 : Fin 2) * 128 + 128
              rw [e0]; dsimp only; omega
  | ⟨1, _⟩ => show win0_16.index _ (1 : Fin 2) * 2048 ≤ (i 1).val ∧ (i 1).val < win0_16.index _ (1 : Fin 2) * 2048 + 2048
              rw [e1]; omega

theorem final16 (c : Dev nD) : (dats m 0 c).arrAt 16 cfg0.N = G16 m c :=
  (dats m 0 c).arrAt_eq_of_cover 16 (G16 m c) (fun t _ => flushed16_eq m c t) cover16

/-! ## The normalised key -/

abbrev G17 (c : Dev nD) : Buf (Elt Ideal) ((c : Thread nD τ).loc main_v25_3) :=
  val_main_v95 (F := Ideal) (aP m c) (aMu m c) (aKk m c)

theorem flushed17_eq (c : Dev nD) (hf : FiniteIn m c) (t : Fin cfg0.N) :
    (dats m 0 c).flushed 17 t = (win0_17.blk t).view.read (Elt Ideal) (G17 m c) := by
  obtain ⟨e0, e1⟩ := (idx_out t).2.2.2.1
  refine (Value.flushed17_A m c t).trans ((congrArg ((cfg0.win 17).cut (grid0.coords t)) (out17_eq ..)).trans (funext fun y => ?_))
  obtain ⟨j, n, rfl⟩ : ∃ (j : Fin 128) (n : Fin 2048), y = ix2 j n := ⟨y 0, y 1, Shape.idx_ext₂ rfl rfl⟩
  show outUnit (F := Ideal) (grid0.coords t) (X0_0 m c t) (X0_2 m c t) (iblk m c 4 t) (iblk m c 8 t) (ix2 j n) = G17 m c ((win0_17.rect t).emb (ix2 j n))
  have ey : (win0_17.rect t).emb (ix2 j n) = ix2 (row t j) n := by
    refine Shape.idx_ext₂ ?_ ?_
    · refine (win0_17.rect_emb_val t _ 0).trans ?_
      show win0_17.index t (0 : Fin 2) * 128 + j.val = t.val * 128 + j.val
      rw [e0]
    · refine (win0_17.rect_emb_val t _ 1).trans ?_
      show win0_17.index t (1 : Fin 2) * 2048 + n.val = n.val
      rw [e1]; omega
  rw [ey]
  exact (unit_blk t j hf n).trans (PrepRef.res_unit _ _ (row t j) n _).symm

theorem mem_blk17 (t : Fin cfg0.N) (i : S8192x2048.Idx) :
    i ∈ ((cfg0.win 17).blk t).view.set ↔ ∀ a : Fin 2, win0_17.index t a * win0_17.size a ≤ (i a).val
      ∧ (i a).val < win0_17.index t a * win0_17.size a + win0_17.xsize (grid0.coords t) a := by
  show i ∈ ((View.whole main_v25_3).slice (win0_17.rect t)).set ↔ _
  rw [View.set_slice_whole, Rect.mem_set_unit]
  exact Iff.rfl

theorem cover17 (i : S8192x2048.Idx) : ∃ t : Fin cfg0.N, (cfg0.win 17).flush t = true ∧ i ∈ ((cfg0.win 17).blk t).view.set := by
  have h0 : (i 0).val < 8192 := (i 0).isLt
  have h1 : (i 1).val < 2048 := (i 1).isLt
  have ht : (i 0).val / 128 < cfg0.N := by show _ < 64; omega
  refine ⟨⟨_, ht⟩, flush0_17 _, ?_⟩
  rw [mem_blk17]
  obtain ⟨e0, e1⟩ := (idx_out ⟨_, ht⟩).2.2.2.1
  intro a
  match a with
  | ⟨0, _⟩ => show win0_17.index _ (0 : Fin 2) * 128 ≤ (i 0).val ∧ (i 0).val < win0_17.index _ (0 : Fin 2) * 128 + 128
              rw [e0]; dsimp only; omega
  | ⟨1, _⟩ => show win0_17.index _ (1 : Fin 2) * 2048 ≤ (i 1).val ∧ (i 1).val < win0_17.index _ (1 : Fin 2) * 2048 + 2048
              rw [e1]; omega

theorem final17 (c : Dev nD) (hf : FiniteIn m c) : (dats m 0 c).arrAt 17 cfg0.N = G17 m c :=
  (dats m 0 c).arrAt_eq_of_cover 17 (G17 m c) (fun t _ => flushed17_eq m c hf t) cover17

/-! ## The normalised key times the rate -/

abbrev G18 (c : Dev nD) : Buf (Elt Ideal) ((c : Thread nD τ).loc main_v25_4) :=
  val_main_v98 (F := Ideal) (aP m c) (aMu m c) (aA0 m c) (aA2 m c) (aKk m c)

theorem flushed18_eq (c : Dev nD) (hf : FiniteIn m c) (t : Fin cfg0.N) :
    (dats m 0 c).flushed 18 t = (win0_18.blk t).view.read (Elt Ideal) (G18 m c) := by
  obtain ⟨e0, e1⟩ := (idx_out t).2.2.2.2.1
  refine (Value.flushed18_A m c t).trans ((congrArg ((cfg0.win 18).cut (grid0.coords t)) (out18_eq ..)).trans (funext fun y => ?_))
  obtain ⟨j, n, rfl⟩ : ∃ (j : Fin 128) (n : Fin 2048), y = ix2 j n := ⟨y 0, y 1, Shape.idx_ext₂ rfl rfl⟩
  show outStep (F := Ideal) (grid0.coords t) (X0_0 m c t) (iblk m c 1 t) (X0_2 m c t) (iblk m c 3 t) (iblk m c 4 t) (iblk m c 5 t) (iblk m c 7 t) (iblk m c 8 t) (iblk m c 12 t) (ix2 j n) = G18 m c ((win0_18.rect t).emb (ix2 j n))
  have ey : (win0_18.rect t).emb (ix2 j n) = ix2 (row t j) n := by
    refine Shape.idx_ext₂ ?_ ?_
    · refine (win0_18.rect_emb_val t _ 0).trans ?_
      show win0_18.index t (0 : Fin 2) * 128 + j.val = t.val * 128 + j.val
      rw [e0]
    · refine (win0_18.rect_emb_val t _ 1).trans ?_
      show win0_18.index t (1 : Fin 2) * 2048 + n.val = n.val
      rw [e1]; omega
  rw [ey]
  exact (step_blk t j hf n).trans (PrepRef.res_step _ _ (row t j) n _ _ _).symm

theorem mem_blk18 (t : Fin cfg0.N) (i : S8192x2048.Idx) :
    i ∈ ((cfg0.win 18).blk t).view.set ↔ ∀ a : Fin 2, win0_18.index t a * win0_18.size a ≤ (i a).val
      ∧ (i a).val < win0_18.index t a * win0_18.size a + win0_18.xsize (grid0.coords t) a := by
  show i ∈ ((View.whole main_v25_4).slice (win0_18.rect t)).set ↔ _
  rw [View.set_slice_whole, Rect.mem_set_unit]
  exact Iff.rfl

theorem cover18 (i : S8192x2048.Idx) : ∃ t : Fin cfg0.N, (cfg0.win 18).flush t = true ∧ i ∈ ((cfg0.win 18).blk t).view.set := by
  have h0 : (i 0).val < 8192 := (i 0).isLt
  have h1 : (i 1).val < 2048 := (i 1).isLt
  have ht : (i 0).val / 128 < cfg0.N := by show _ < 64; omega
  refine ⟨⟨_, ht⟩, flush0_18 _, ?_⟩
  rw [mem_blk18]
  obtain ⟨e0, e1⟩ := (idx_out ⟨_, ht⟩).2.2.2.2.1
  intro a
  match a with
  | ⟨0, _⟩ => show win0_18.index _ (0 : Fin 2) * 128 ≤ (i 0).val ∧ (i 0).val < win0_18.index _ (0 : Fin 2) * 128 + 128
              rw [e0]; dsimp only; omega
  | ⟨1, _⟩ => show win0_18.index _ (1 : Fin 2) * 2048 ≤ (i 1).val ∧ (i 1).val < win0_18.index _ (1 : Fin 2) * 2048 + 2048
              rw [e1]; omega

theorem final18 (c : Dev nD) (hf : FiniteIn m c) : (dats m 0 c).arrAt 18 cfg0.N = G18 m c :=
  (dats m 0 c).arrAt_eq_of_cover 18 (G18 m c) (fun t _ => flushed18_eq m c hf t) cover18

/-! ## The log decay -/

abbrev G19 (c : Dev nD) : Buf (Elt Ideal) ((c : Thread nD τ).loc main_v25_5) :=
  val_main_v99 (F := Ideal) (aP m c) (aMu m c) (aW0 m c) (aW2 m c)

theorem flushed19_eq (c : Dev nD) (t : Fin cfg0.N) :
    (dats m 0 c).flushed 19 t = (win0_19.blk t).view.read (Elt Ideal) (G19 m c) := by
  obtain ⟨e0, e1⟩ := (idx_out t).2.2.2.2.2.1
  refine (Value.flushed19_A m c t).trans ((congrArg ((cfg0.win 19).cut (grid0.coords t)) (out19_eq ..)).trans (funext fun y => ?_))
  obtain ⟨j, n, rfl⟩ : ∃ (j : Fin 128) (n : Fin 2048), y = ix2 j n := ⟨y 0, y 1, Shape.idx_ext₂ rfl rfl⟩
  show outDecay (F := Ideal) (grid0.coords t) (iblk m c 1 t) (iblk m c 3 t) (iblk m c 5 t) (iblk m c 6 t) (iblk m c 11 t) (ix2 j n) = G19 m c ((win0_19.rect t).emb (ix2 j n))
  have ey : (win0_19.rect t).emb (ix2 j n) = ix2 (row t j) n := by
    refine Shape.idx_ext₂ ?_ ?_
    · refine (win0_19.rect_emb_val t _ 0).trans ?_
      show win0_19.index t (0 : Fin 2) * 128 + j.val = t.val * 128 + j.val
      rw [e0]
    · refine (win0_19.rect_emb_val t _ 1).trans ?_
      show win0_19.index t (1 : Fin 2) * 2048 + n.val = n.val
      rw [e1]; omega
  rw [ey]
  exact (decay_blk m c t j n).trans (PrepRef.res_decay _ _ (row t j) n _ _).symm

theorem mem_blk19 (t : Fin cfg0.N) (i : S8192x2048.Idx) :
    i ∈ ((cfg0.win 19).blk t).view.set ↔ ∀ a : Fin 2, win0_19.index t a * win0_19.size a ≤ (i a).val
      ∧ (i a).val < win0_19.index t a * win0_19.size a + win0_19.xsize (grid0.coords t) a := by
  show i ∈ ((View.whole main_v25_5).slice (win0_19.rect t)).set ↔ _
  rw [View.set_slice_whole, Rect.mem_set_unit]
  exact Iff.rfl

theorem cover19 (i : S8192x2048.Idx) : ∃ t : Fin cfg0.N, (cfg0.win 19).flush t = true ∧ i ∈ ((cfg0.win 19).blk t).view.set := by
  have h0 : (i 0).val < 8192 := (i 0).isLt
  have h1 : (i 1).val < 2048 := (i 1).isLt
  have ht : (i 0).val / 128 < cfg0.N := by show _ < 64; omega
  refine ⟨⟨_, ht⟩, flush0_19 _, ?_⟩
  rw [mem_blk19]
  obtain ⟨e0, e1⟩ := (idx_out ⟨_, ht⟩).2.2.2.2.2.1
  intro a
  match a with
  | ⟨0, _⟩ => show win0_19.index _ (0 : Fin 2) * 128 ≤ (i 0).val ∧ (i 0).val < win0_19.index _ (0 : Fin 2) * 128 + 128
              rw [e0]; dsimp only; omega
  | ⟨1, _⟩ => show win0_19.index _ (1 : Fin 2) * 2048 ≤ (i 1).val ∧ (i 1).val < win0_19.index _ (1 : Fin 2) * 2048 + 2048
              rw [e1]; omega

theorem final19 (c : Dev nD) : (dats m 0 c).arrAt 19 cfg0.N = G19 m c :=
  (dats m 0 c).arrAt_eq_of_cover 19 (G19 m c) (fun t _ => flushed19_eq m c t) cover19

/-! ## The gate -/

abbrev G20 (c : Dev nD) : Buf (Elt Ideal) ((c : Thread nD τ).loc main_v25_6) :=
  val_main_v101 (F := Ideal) (aP m c) (aMu m c) (aG2 m c)

theorem flushed20_eq (c : Dev nD) (t : Fin cfg0.N) :
    (dats m 0 c).flushed 20 t = (win0_20.blk t).view.read (Elt Ideal) (G20 m c) := by
  obtain ⟨e0, e1⟩ := (idx_out t).2.2.2.2.2.2.1
  refine (Value.flushed20_A m c t).trans ((congrArg ((cfg0.win 20).cut (grid0.coords t)) (out20_eq ..)).trans (funext fun y => ?_))
  obtain ⟨j, n, rfl⟩ : ∃ (j : Fin 128) (n : Fin 2048), y = ix2 j n := ⟨y 0, y 1, Shape.idx_ext₂ rfl rfl⟩
  show outGate (F := Ideal) (grid0.coords t) (iblk m c 1 t) (iblk m c 3 t) (iblk m c 5 t) (iblk m c 13 t) (ix2 j n) = G20 m c ((win0_20.rect t).emb (ix2 j n))
  have ey : (win0_20.rect t).emb (ix2 j n) = ix2 (row t j) n := by
    refine Shape.idx_ext₂ ?_ ?_
    · refine (win0_20.rect_emb_val t _ 0).trans ?_
      show win0_20.index t (0 : Fin 2) * 128 + j.val = t.val * 128 + j.val
      rw [e0]
    · refine (win0_20.rect_emb_val t _ 1).trans ?_
      show win0_20.index t (1 : Fin 2) * 2048 + n.val = n.val
      rw [e1]; omega
  rw [ey]
  exact (gate_blk m c t j n).trans (PrepRef.res_gate _ _ (row t j) n _).symm

theorem mem_blk20 (t : Fin cfg0.N) (i : S8192x2048.Idx) :
    i ∈ ((cfg0.win 20).blk t).view.set ↔ ∀ a : Fin 2, win0_20.index t a * win0_20.size a ≤ (i a).val
      ∧ (i a).val < win0_20.index t a * win0_20.size a + win0_20.xsize (grid0.coords t) a := by
  show i ∈ ((View.whole main_v25_6).slice (win0_20.rect t)).set ↔ _
  rw [View.set_slice_whole, Rect.mem_set_unit]
  exact Iff.rfl

theorem cover20 (i : S8192x2048.Idx) : ∃ t : Fin cfg0.N, (cfg0.win 20).flush t = true ∧ i ∈ ((cfg0.win 20).blk t).view.set := by
  have h0 : (i 0).val < 8192 := (i 0).isLt
  have h1 : (i 1).val < 2048 := (i 1).isLt
  have ht : (i 0).val / 128 < cfg0.N := by show _ < 64; omega
  refine ⟨⟨_, ht⟩, flush0_20 _, ?_⟩
  rw [mem_blk20]
  obtain ⟨e0, e1⟩ := (idx_out ⟨_, ht⟩).2.2.2.2.2.2.1
  intro a
  match a with
  | ⟨0, _⟩ => show win0_20.index _ (0 : Fin 2) * 128 ≤ (i 0).val ∧ (i 0).val < win0_20.index _ (0 : Fin 2) * 128 + 128
              rw [e0]; dsimp only; omega
  | ⟨1, _⟩ => show win0_20.index _ (1 : Fin 2) * 2048 ≤ (i 1).val ∧ (i 1).val < win0_20.index _ (1 : Fin 2) * 2048 + 2048
              rw [e1]; omega

theorem final20 (c : Dev nD) : (dats m 0 c).arrAt 20 cfg0.N = G20 m c :=
  (dats m 0 c).arrAt_eq_of_cover 20 (G20 m c) (fun t _ => flushed20_eq m c t) cover20

/-! ## The bonus -/

abbrev G21 (c : Dev nD) : Buf (Elt Ideal) ((c : Thread nD τ).loc main_v25_7) :=
  val_main_v103 (F := Ideal) (aP m c) (aMu m c) (aA0 m c) (aA2 m c) (aKa m c) (aRk m c)

theorem flushed21_eq (c : Dev nD) (hf : FiniteIn m c) (t : Fin cfg0.N) :
    (dats m 0 c).flushed 21 t = (win0_21.blk t).view.read (Elt Ideal) (G21 m c) := by
  obtain ⟨e0, e1⟩ := (idx_out t).2.2.2.2.2.2.2
  refine (Value.flushed21_A m c t).trans ((congrArg ((cfg0.win 21).cut (grid0.coords t)) (out21_eq ..)).trans (funext fun y => ?_))
  obtain ⟨j, n, rfl⟩ : ∃ (j : Fin 128) (n : Fin 2048), y = ix2 j n := ⟨y 0, y 1, Shape.idx_ext₂ rfl rfl⟩
  show outBonus (F := Ideal) (grid0.coords t) (X0_0 m c t) (iblk m c 1 t) (X0_2 m c t) (iblk m c 3 t) (iblk m c 4 t) (iblk m c 5 t) (iblk m c 7 t) (iblk m c 9 t) (iblk m c 10 t) (iblk m c 12 t) (ix2 j n) = G21 m c ((win0_21.rect t).emb (ix2 j n))
  have ey : (win0_21.rect t).emb (ix2 j n) = ix2 (row t j) n := by
    refine Shape.idx_ext₂ ?_ ?_
    · refine (win0_21.rect_emb_val t _ 0).trans ?_
      show win0_21.index t (0 : Fin 2) * 128 + j.val = t.val * 128 + j.val
      rw [e0]
    · refine (win0_21.rect_emb_val t _ 1).trans ?_
      show win0_21.index t (1 : Fin 2) * 2048 + n.val = n.val
      rw [e1]; omega
  rw [ey]
  exact (bonus_blk t j hf n).trans (PrepRef.res_bonus _ _ (row t j) n _ _ _ _).symm

theorem mem_blk21 (t : Fin cfg0.N) (i : S8192x2048.Idx) :
    i ∈ ((cfg0.win 21).blk t).view.set ↔ ∀ a : Fin 2, win0_21.index t a * win0_21.size a ≤ (i a).val
      ∧ (i a).val < win0_21.index t a * win0_21.size a + win0_21.xsize (grid0.coords t) a := by
  show i ∈ ((View.whole main_v25_7).slice (win0_21.rect t)).set ↔ _
  rw [View.set_slice_whole, Rect.mem_set_unit]
  exact Iff.rfl

theorem cover21 (i : S8192x2048.Idx) : ∃ t : Fin cfg0.N, (cfg0.win 21).flush t = true ∧ i ∈ ((cfg0.win 21).blk t).view.set := by
  have h0 : (i 0).val < 8192 := (i 0).isLt
  have h1 : (i 1).val < 2048 := (i 1).isLt
  have ht : (i 0).val / 128 < cfg0.N := by show _ < 64; omega
  refine ⟨⟨_, ht⟩, flush0_21 _, ?_⟩
  rw [mem_blk21]
  obtain ⟨e0, e1⟩ := (idx_out ⟨_, ht⟩).2.2.2.2.2.2.2
  intro a
  match a with
  | ⟨0, _⟩ => show win0_21.index _ (0 : Fin 2) * 128 ≤ (i 0).val ∧ (i 0).val < win0_21.index _ (0 : Fin 2) * 128 + 128
              rw [e0]; dsimp only; omega
  | ⟨1, _⟩ => show win0_21.index _ (1 : Fin 2) * 2048 ≤ (i 1).val ∧ (i 1).val < win0_21.index _ (1 : Fin 2) * 2048 + 2048
              rw [e1]; omega

theorem final21 (c : Dev nD) (hf : FiniteIn m c) : (dats m 0 c).arrAt 21 cfg0.N = G21 m c :=
  (dats m 0 c).arrAt_eq_of_cover 21 (G21 m c) (fun t _ => flushed21_eq m c hf t) cover21

/-! ## The precondition -/

/-- A number whose absolute value is below infinity is real. -/
theorem real_of_lt (a : EReal) (h : Ideal.cmp .olt (max a (-a)) (Ideal.ofBits .f32 0x7F800000#32) = 1#1) : ∃ r : ℝ, a = (r : EReal) := by
  have hi : Ideal.ofBits .f32 0x7F800000#32 = ⊤ := by simp [Ideal.ofBits, Ideal.ieee]
  rw [hi] at h
  induction a using EReal.rec with
  | bot => simp [Ideal.cmp] at h
  | coe r => exact ⟨r, rfl⟩
  | top => simp [Ideal.cmp] at h

/-- Both words of a conjunction are one. -/
theorem both {a b : BitVec 1} (h : IntOp.andi a b = 1#1) : a = 1#1 ∧ b = 1#1 := by revert a b; decide

/-- The precondition says that the inputs of the head sums are real. -/
theorem finite_of_pre [Cert.Pre_finite_rk.Facts] (h : Cert.Pre_Kernel6Ideal_finite_rk m) (c : Dev nD) : FiniteIn m c := by
  have h0 := congrFun (h c) ix0
  obtain ⟨hA, hB⟩ := both h0
  obtain ⟨hp, hmu⟩ := both hA
  obtain ⟨hkk, hC⟩ := both hB
  obtain ⟨hka, hrk⟩ := both hC
  refine ⟨fun r n => ?_, fun n => ?_, fun n => ?_, fun n => ?_, fun n => ?_⟩
  · refine real_of_lt _ (Eq.trans ?_ (Host.reduce_andi_all _ _ _ _ ix0 hp (ix2 r n)))
    exact congrArg (fun a : EReal => Ideal.cmp .olt (max a (-a)) (Ideal.ofBits .f32 0x7F800000#32))
      (slice2_axis1_apply 0 (aP m c) Cert.Pre_finite_rk.Facts.slices_S8192x12800_S8192x4096_0_0 r n _ (by show n.val = 0 + n.val; omega)).symm
  · refine real_of_lt _ (Eq.trans ?_ (Host.reduce_andi_all _ _ _ _ ix0 hmu (ix2 (0 : Fin 1) n)))
    exact congrArg (fun a : EReal => Ideal.cmp .olt (max a (-a)) (Ideal.ofBits .f32 0x7F800000#32))
      (slice2_axis1_apply 0 (aMu m c) Cert.Pre_finite_rk.Facts.slices_S1x6592_S1x4096_0_0 (0 : Fin 1) n _ (by show n.val = 0 + n.val; omega)).symm
  · exact real_of_lt _ (Host.reduce_andi_all _ _ _ _ ix0 hkk (ix2 (0 : Fin 1) n))
  · exact real_of_lt _ (Host.reduce_andi_all _ _ _ _ ix0 hka (ix2 (0 : Fin 1) n))
  · exact real_of_lt _ (Host.reduce_andi_all _ _ _ _ ix0 hrk (ix2 (0 : Fin 1) n))

/-- On the extended reals, where the inputs of the head sums are finite, the call computes the reference's preparation. -/
theorem algebraic [Cert.Pre_finite_rk.Facts] : Cert.algebraic_Kernel6Ideal_Reference6Ideal_pre_finite_rk := by
  intro m g m' g' hpre hagree
  refine ⟨fun c => G14 m c, fun c => G15 m c, fun c => G16 m c, fun c => G17 m c, fun c => G18 m c, fun c => G19 m c, fun c => G20 m c, fun c => G21 m c,
    (θ_run Cert.Kernel6Ideal.defs _ _).mono (fun r h c => ?_) (Value.run_blocks (F := Ideal) m g),
    (θ_run Cert.Reference6Ideal.defs _ _).mono (fun r h c => ?_) (Cert.Reference6Ideal.Value.run (F := Ideal) m' g')⟩
  · have hf := finite_of_pre m hpre c
    obtain ⟨h0, h1, h2, h3, h4, h5, h6, h7, hr⟩ := h c
    exact ⟨h0.trans (final14 m c), h1.trans (final15 m c), h2.trans (final16 m c), h3.trans (final17 m c hf), h4.trans (final18 m c hf), h5.trans (final19 m c), h6.trans (final20 m c), h7.trans (final21 m c hf), hr⟩
  · obtain ⟨h0, h1, h2, h3, h4, h5, h6, h7, hr⟩ := h c
    obtain ⟨a0, a1, a2, a3, a4, a5, a6, a7, a8, a9⟩ := hagree c
    refine ⟨h0.trans ?_, h1.trans ?_, h2.trans ?_, h3.trans ?_, h4.trans ?_, h5.trans ?_, h6.trans ?_, h7.trans ?_, hr⟩
    · rw [val_main_v89_eq, a0, a1]
    · rw [val_main_v91_eq, a0, a1, a4, a5, a8]
    · rw [val_main_v93_eq, a0, a1]
    · rw [val_main_v95_eq, a0, a1, a7]
    · rw [val_main_v98_eq, a0, a1, a4, a5, a7]
    · rw [val_main_v99_eq, a0, a1, a2, a3]
    · rw [val_main_v101_eq, a0, a1, a6]
    · rw [val_main_v103_eq, a0, a1, a4, a5, a8, a9]

end Cert.Prep

end
-- ==== Proof.lean ====
/-
  The claims of the calls, put together: each program runs without fault and leaves its arguments as they were, the ideal
  program is the program itself, and on the extended reals each call computes the reference's lines.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Pre_finite_y
public import proofs.«01_k».proof.Proof.Gen.Pre_finite_rk
public import proofs.«01_k».proof.Proof.Mix
public import proofs.«01_k».proof.Proof.InProj
public import proofs.«01_k».proof.Proof.OutProj
public import proofs.«01_k».proof.Proof.Query
public import proofs.«01_k».proof.Proof.FinalNorm
public import proofs.«01_k».proof.Proof.Prep

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_y.Gen.facts, Cert.Pre_finite_rk.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2, sem_eq_zero_of_no_sems (by decide) r.2⟩) (Cert.ReferenceIdeal.Value.run (F := Ideal) m ρ),
    fun m ρ _ => (θ_run Cert.ReferenceIdeal.defs _ _).mono (fun r h => ⟨fun c => (h c).2, sem_eq_zero_of_no_sems (by decide) r.2⟩) (Cert.ReferenceIdeal.Value.run (F := Ideal) m ρ),
    Cert.InProj.frame_kernel,
    Cert.InProj.frame_ideal,
    fun m ρ _ => (θ_run Cert.Reference2Ideal.defs _ _).mono (fun r h => ⟨fun c => (h c).2, sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, sem_eq_zero_of_no_sems (by decide) r.2⟩) (Cert.Reference3Ideal.Value.run (F := Ideal) m ρ),
    Cert.Query.frame_kernel,
    Cert.Query.frame_ideal,
    fun m ρ _ => (θ_run Cert.Reference4Ideal.defs _ _).mono (fun r h => ⟨fun c => (h c).2.2, sem_eq_zero_of_no_sems (by decide) r.2⟩) (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2, sem_eq_zero_of_no_sems (by decide) r.2⟩) (Cert.Reference5Ideal.Value.run (F := Ideal) m ρ),
    fun m ρ _ => Cert.Kernel6.Gen.frame m ρ,
    fun m ρ _ => Cert.Kernel6Ideal.Gen.frame m ρ,
    fun m ρ _ => Cert.Kernel6Ideal.Gen.frame m ρ,
    fun m ρ _ => (θ_run Cert.Reference6Ideal.defs _ _).mono (fun r h => ⟨fun c => (h c).2.2.2.2.2.2.2.2, sem_eq_zero_of_no_sems (by decide) r.2⟩) (Cert.Reference6Ideal.Value.run (F := Ideal) m ρ),
    fun m ρ _ => (θ_run Cert.Reference6Ideal.defs _ _).mono (fun r h => ⟨fun c => (h c).2.2.2.2.2.2.2.2, sem_eq_zero_of_no_sems (by decide) r.2⟩) (Cert.Reference6Ideal.Value.run (F := Ideal) m ρ),
    trivial,
    Cert.Mix.algebraic,
    trivial,
    Cert.InProj.algebraic,
    trivial,
    Cert.OutProj.algebraic,
    trivial,
    Cert.Query.algebraic,
    trivial,
    Cert.FinalNorm.algebraic,
    trivial,
    Cert.Prep.algebraic⟩

end Cert.Proof

end
